-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  IdealRules.named_const.Statement Cert.KernelIdeal.κ "no_floor" .f32 0x00800000#32 ⊥
  ∧ IdealRules.named_const.Statement Cert.KernelIdeal.κ "gelu_cubic" .f32 0x3D122279#32 ((80338380498831 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v27)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v313) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S32768x1024 : Shape := ⟨2, ![32768, 1024]⟩
abbrev S32768x1536 : Shape := ⟨2, ![32768, 1536]⟩
abbrev S1x1024x7168 : Shape := ⟨3, ![1, 1024, 7168]⟩
abbrev S1x7168 : Shape := ⟨2, ![1, 7168]⟩
abbrev S1x2x2x16x96x96 : Shape := ⟨6, ![1, 2, 2, 16, 96, 96]⟩
abbrev S1x2x2x16x96 : Shape := ⟨5, ![1, 2, 2, 16, 96]⟩
abbrev S1x2x1536 : Shape := ⟨3, ![1, 2, 1536]⟩
abbrev S1x1536x1024 : Shape := ⟨3, ![1, 1536, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1x1024x7168 : S_.BroadcastsInDim S1x1024x7168 (![] : Fin 0 → Fin S1x1024x7168.rank)
  reducesTo_S1x1024x7168_S_d0_1_2 : S1x1024x7168.ReducesTo [0, 1, 2] S_
  bcast_S_S1x7168 : S_.BroadcastsInDim S1x7168 (![] : Fin 0 → Fin S1x7168.rank)
  reducesTo_S1x7168_S_d0_1 : S1x7168.ReducesTo [0, 1] S_
  bcast_S_S1x2x1536 : S_.BroadcastsInDim S1x2x1536 (![] : Fin 0 → Fin S1x2x1536.rank)
  reducesTo_S1x2x1536_S_d0_1_2 : S1x2x1536.ReducesTo [0, 1, 2] S_

variable [Facts]

def fn_part1 {F : FTy → Type} [FloatOps F] (main_v13 : IVec S_ 1) (main_v16 : IVec S1x2x1536 1) : IVec S_ 1 :=
  let main_c_5 : IVec S_ 1 := constantI S_ 1 1#1
  let main_v17 : IVec S_ 1 := (fun x v => Host.reduce IntOp.andi x v reducesTo_S1x2x1536_S_d0_1_2 h_S_) main_v16 main_c_5
  let main_v18 : IVec S_ 1 := andi main_v13 main_v17
  main_v18

def fn {F : FTy → Type} [FloatOps F] (main_arg0 : FVec F S32768x1024 .f32) (main_arg1 : FVec F S32768x1536 .f32) (main_arg2 : FVec F S32768x1536 .f32) (main_arg3 : FVec F S1x1024x7168 .f32) (main_arg4 : FVec F S1x7168 .f32) (main_arg5 : FVec F S1x2x2x16x96x96 .f32) (main_arg6 : FVec F S1x2x2x16x96 .f32) (main_arg7 : FVec F S1x2x1536 .f32) (main_arg8 : FVec F S1x1536x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1x1024x7168 .f32 := Host.absf main_arg3
  let main_cst_0 : FVec F S_ .f32 := constant S_ .f32 0x7F800000#32
  let main_v5 : FVec F S1x1024x7168 .f32 := broadcastInDim S1x1024x7168 ![] bcast_S_S1x1024x7168 main_cst_0
  let main_v6 : IVec S1x1024x7168 1 := cmpf .olt main_v4 main_v5
  let main_c_1 : IVec S_ 1 := constantI S_ 1 1#1
  let main_v7 : IVec S_ 1 := (fun x v => Host.reduce IntOp.andi x v reducesTo_S1x1024x7168_S_d0_1_2 h_S_) main_v6 main_c_1
  let main_v8 : IVec S_ 1 := andi main_v3 main_v7
  let main_v9 : FVec F S1x7168 .f32 := Host.absf main_arg4
  let main_cst_2 : FVec F S_ .f32 := constant S_ .f32 0x7F800000#32
  let main_v10 : FVec F S1x7168 .f32 := broadcastInDim S1x7168 ![] bcast_S_S1x7168 main_cst_2
  let main_v11 : IVec S1x7168 1 := cmpf .olt main_v9 main_v10
  let main_c_3 : IVec S_ 1 := constantI S_ 1 1#1
  let main_v12 : IVec S_ 1 := (fun x v => Host.reduce IntOp.andi x v reducesTo_S1x7168_S_d0_1 h_S_) main_v11 main_c_3
  let main_v13 : IVec S_ 1 := andi main_v8 main_v12
  let main_v14 : FVec F S1x2x1536 .f32 := Host.absf main_arg7
  let main_cst_4 : FVec F S_ .f32 := constant S_ .f32 0x7F800000#32
  let main_v15 : FVec F S1x2x1536 .f32 := broadcastInDim S1x2x1536 ![] bcast_S_S1x2x1536 main_cst_4
  let main_v16 : IVec S1x2x1536 1 := cmpf .olt main_v14 main_v15
  fn_part1 (F := F) main_v13 main_v16
-- ==== Kernel.lean ====
abbrev S32768x1024 : Shape := ⟨2, ![32768, 1024]⟩
abbrev S32768x1536 : Shape := ⟨2, ![32768, 1536]⟩
abbrev S1x1024x7168 : Shape := ⟨3, ![1, 1024, 7168]⟩
abbrev S1x7168 : Shape := ⟨2, ![1, 7168]⟩
abbrev S1x2x2x16x96x96 : Shape := ⟨6, ![1, 2, 2, 16, 96, 96]⟩
abbrev S1x2x2x16x96 : Shape := ⟨5, ![1, 2, 2, 16, 96]⟩
abbrev S1x2x1536 : Shape := ⟨3, ![1, 2, 1536]⟩
abbrev S1x1536x1024 : Shape := ⟨3, ![1, 1536, 1024]⟩
abbrev S1024x7168 : Shape := ⟨2, ![1024, 7168]⟩
abbrev S7168 : Shape := ⟨1, ![7168]⟩
abbrev S1024x1536 : Shape := ⟨2, ![1024, 1536]⟩
abbrev S1024x1024 : Shape := ⟨2, ![1024, 1024]⟩
abbrev S1024x2560 : Shape := ⟨2, ![1024, 2560]⟩
abbrev S1536 : Shape := ⟨1, ![1536]⟩
abbrev S1024 : Shape := ⟨1, ![1024]⟩
abbrev S2560 : Shape := ⟨1, ![2560]⟩
abbrev S1x2560 : Shape := ⟨2, ![1, 2560]⟩
abbrev S1x1x2x16x96x96 : Shape := ⟨6, ![1, 1, 2, 16, 96, 96]⟩
abbrev S2x16x96x96 : Shape := ⟨4, ![2, 16, 96, 96]⟩
abbrev S1x1x2x16x96 : Shape := ⟨5, ![1, 1, 2, 16, 96]⟩
abbrev S2x16x96 : Shape := ⟨3, ![2, 16, 96]⟩
abbrev S8x8 : Shape := ⟨2, ![8, 8]⟩
abbrev S_ : Shape := ⟨0, ![]⟩
abbrev S2x8x96x96 : Shape := ⟨4, ![2, 8, 96, 96]⟩
abbrev S2x8x96x1x96 : Shape := ⟨5, ![2, 8, 96, 1, 96]⟩
abbrev S1x8x1x8x1 : Shape := ⟨5, ![1, 8, 1, 8, 1]⟩
abbrev S2x8x96x8x96 : Shape := ⟨5, ![2, 8, 96, 8, 96]⟩
abbrev S2x768x768 : Shape := ⟨3, ![2, 768, 768]⟩
abbrev S1x512x256 : Shape := ⟨3, ![1, 512, 256]⟩
abbrev S512x256 : Shape := ⟨2, ![512, 256]⟩
abbrev S512x512 : Shape := ⟨2, ![512, 512]⟩
abbrev S1x768x256 : Shape := ⟨3, ![1, 768, 256]⟩
abbrev S768x256 : Shape := ⟨2, ![768, 256]⟩
abbrev S768x512 : Shape := ⟨2, ![768, 512]⟩
abbrev S1x512x512 : Shape := ⟨3, ![1, 512, 512]⟩
abbrev S2x512x512 : Shape := ⟨3, ![2, 512, 512]⟩
abbrev S1x768x512 : Shape := ⟨3, ![1, 768, 512]⟩
abbrev S2x768x512 : Shape := ⟨3, ![2, 768, 512]⟩
abbrev S2x1536 : Shape := ⟨2, ![2, 1536]⟩
abbrev S1x1536 : Shape := ⟨2, ![1, 1536]⟩
abbrev S1536x1024 : Shape := ⟨2, ![1536, 1024]⟩
abbrev S512x1024 : Shape := ⟨2, ![512, 1024]⟩
abbrev S512x1536 : Shape := ⟨2, ![512, 1536]⟩
abbrev S8x1536 : Shape := ⟨2, ![8, 1536]⟩
abbrev S128x1536 : Shape := ⟨2, ![128, 1536]⟩
abbrev S128x512 : Shape := ⟨2, ![128, 512]⟩
abbrev S128x768 : Shape := ⟨2, ![128, 768]⟩
abbrev S128x256 : Shape := ⟨2, ![128, 256]⟩
abbrev S512x2560 : Shape := ⟨2, ![512, 2560]⟩

abbrev nBuf : Space → Nat
  | .hbm => 122
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x1536, .f32⟩
  | .hbm, ⟨2, _⟩ => ⟨S32768x1536, .f32⟩
  | .hbm, ⟨3, _⟩ => ⟨S1x1024x7168, .f32⟩
  | .hbm, ⟨4, _⟩ => ⟨S1x7168, .f32⟩
  | .hbm, ⟨5, _⟩ => ⟨S1x2x2x16x96x96, .f32⟩
  | .hbm, ⟨6, _⟩ => ⟨S1x2x2x16x96, .f32⟩
  | .hbm, ⟨7, _⟩ => ⟨S1x2x1536, .f32⟩
  | .hbm, ⟨8, _⟩ => ⟨S1x1536x1024, .f32⟩
  | .hbm, ⟨9, _⟩ => ⟨S1024x7168, .f32⟩
  | .hbm, ⟨10, _⟩ => ⟨S7168, .f32⟩
  | .hbm, ⟨11, _⟩ => ⟨S1024x1536, .f32⟩
  | .hbm, ⟨12, _⟩ => ⟨S1024x1024, .f32⟩
  | .hbm, ⟨13, _⟩ => ⟨S1024x2560, .f32⟩
  | .hbm, ⟨14, _⟩ => ⟨S1024x2560, .bf16⟩
  | .hbm, ⟨15, _⟩ => ⟨S1536, .f32⟩
  | .hbm, ⟨16, _⟩ => ⟨S1024, .f32⟩
  | .hbm, ⟨17, _⟩ => ⟨S2560, .f32⟩
  | .hbm, ⟨18, _⟩ => ⟨S1x2560, .f32⟩
  | .hbm, ⟨19, _⟩ => ⟨S1x1x2x16x96x96, .f32⟩
  | .hbm, ⟨20, _⟩ => ⟨S2x16x96x96, .f32⟩
  | .hbm, ⟨21, _⟩ => ⟨S1x1x2x16x96, .f32⟩
  | .hbm, ⟨22, _⟩ => ⟨S2x16x96, .f32⟩
  | .hbm, ⟨23, _⟩ => ⟨S8x8, .i32⟩
  | .hbm, ⟨24, _⟩ => ⟨S8x8, .i32⟩
  | .hbm, ⟨25, _⟩ => ⟨S_, .i32⟩
  | .hbm, ⟨26, _⟩ => ⟨S8x8, .i32⟩
  | .hbm, ⟨27, _⟩ => ⟨S8x8, .i32⟩
  | .hbm, ⟨28, _⟩ => ⟨S8x8, .i1⟩
  | .hbm, ⟨29, _⟩ => ⟨S8x8, .f32⟩
  | .hbm, ⟨30, _⟩ => ⟨S2x8x96x96, .f32⟩
  | .hbm, ⟨31, _⟩ => ⟨S2x8x96x1x96, .f32⟩
  | .hbm, ⟨32, _⟩ => ⟨S1x8x1x8x1, .f32⟩
  | .hbm, ⟨33, _⟩ => ⟨S2x8x96x8x96, .f32⟩
  | .hbm, ⟨34, _⟩ => ⟨S2x8x96x8x96, .f32⟩
  | .hbm, ⟨35, _⟩ => ⟨S2x8x96x8x96, .f32⟩
  | .hbm, ⟨36, _⟩ => ⟨S2x768x768, .f32⟩
  | .hbm, ⟨37, _⟩ => ⟨S1x512x256, .f32⟩
  | .hbm, ⟨38, _⟩ => ⟨S512x256, .f32⟩
  | .hbm, ⟨39, _⟩ => ⟨S1x512x256, .f32⟩
  | .hbm, ⟨40, _⟩ => ⟨S512x256, .f32⟩
  | .hbm, ⟨41, _⟩ => ⟨S512x512, .f32⟩
  | .hbm, ⟨42, _⟩ => ⟨S1x768x256, .f32⟩
  | .hbm, ⟨43, _⟩ => ⟨S768x256, .f32⟩
  | .hbm, ⟨44, _⟩ => ⟨S1x768x256, .f32⟩
  | .hbm, ⟨45, _⟩ => ⟨S768x256, .f32⟩
  | .hbm, ⟨46, _⟩ => ⟨S768x512, .f32⟩
  | .hbm, ⟨47, _⟩ => ⟨S1x512x256, .f32⟩
  | .hbm, ⟨48, _⟩ => ⟨S512x256, .f32⟩
  | .hbm, ⟨49, _⟩ => ⟨S1x512x256, .f32⟩
  | .hbm, ⟨50, _⟩ => ⟨S512x256, .f32⟩
  | .hbm, ⟨51, _⟩ => ⟨S512x512, .f32⟩
  | .hbm, ⟨52, _⟩ => ⟨S2x8x96x96, .f32⟩
  | .hbm, ⟨53, _⟩ => ⟨S2x8x96x1x96, .f32⟩
  | .hbm, ⟨54, _⟩ => ⟨S1x8x1x8x1, .f32⟩
  | .hbm, ⟨55, _⟩ => ⟨S2x8x96x8x96, .f32⟩
  | .hbm, ⟨56, _⟩ => ⟨S2x8x96x8x96, .f32⟩
  | .hbm, ⟨57, _⟩ => ⟨S2x8x96x8x96, .f32⟩
  | .hbm, ⟨58, _⟩ => ⟨S2x768x768, .f32⟩
  | .hbm, ⟨59, _⟩ => ⟨S1x512x256, .f32⟩
  | .hbm, ⟨60, _⟩ => ⟨S512x256, .f32⟩
  | .hbm, ⟨61, _⟩ => ⟨S1x512x256, .f32⟩
  | .hbm, ⟨62, _⟩ => ⟨S512x256, .f32⟩
  | .hbm, ⟨63, _⟩ => ⟨S512x512, .f32⟩
  | .hbm, ⟨64, _⟩ => ⟨S1x768x256, .f32⟩
  | .hbm, ⟨65, _⟩ => ⟨S768x256, .f32⟩
  | .hbm, ⟨66, _⟩ => ⟨S1x768x256, .f32⟩
  | .hbm, ⟨67, _⟩ => ⟨S768x256, .f32⟩
  | .hbm, ⟨68, _⟩ => ⟨S768x512, .f32⟩
  | .hbm, ⟨69, _⟩ => ⟨S1x512x256, .f32⟩
  | .hbm, ⟨70, _⟩ => ⟨S512x256, .f32⟩
  | .hbm, ⟨71, _⟩ => ⟨S1x512x256, .f32⟩
  | .hbm, ⟨72, _⟩ => ⟨S512x256, .f32⟩
  | .hbm, ⟨73, _⟩ => ⟨S512x512, .f32⟩
  | .hbm, ⟨74, _⟩ => ⟨S1x512x512, .f32⟩
  | .hbm, ⟨75, _⟩ => ⟨S1x512x512, .f32⟩
  | .hbm, ⟨76, _⟩ => ⟨S2x512x512, .f32⟩
  | .hbm, ⟨77, _⟩ => ⟨S_, .f32⟩
  | .hbm, ⟨78, _⟩ => ⟨S2x512x512, .f32⟩
  | .hbm, ⟨79, _⟩ => ⟨S2x512x512, .f32⟩
  | .hbm, ⟨80, _⟩ => ⟨S2x512x512, .bf16⟩
  | .hbm, ⟨81, _⟩ => ⟨S1x768x512, .f32⟩
  | .hbm, ⟨82, _⟩ => ⟨S1x768x512, .f32⟩
  | .hbm, ⟨83, _⟩ => ⟨S2x768x512, .f32⟩
  | .hbm, ⟨84, _⟩ => ⟨S_, .f32⟩
  | .hbm, ⟨85, _⟩ => ⟨S2x768x512, .f32⟩
  | .hbm, ⟨86, _⟩ => ⟨S2x768x512, .f32⟩
  | .hbm, ⟨87, _⟩ => ⟨S2x768x512, .bf16⟩
  | .hbm, ⟨88, _⟩ => ⟨S1x512x512, .f32⟩
  | .hbm, ⟨89, _⟩ => ⟨S1x512x512, .f32⟩
  | .hbm, ⟨90, _⟩ => ⟨S2x512x512, .f32⟩
  | .hbm, ⟨91, _⟩ => ⟨S_, .f32⟩
  | .hbm, ⟨92, _⟩ => ⟨S2x512x512, .f32⟩
  | .hbm, ⟨93, _⟩ => ⟨S2x512x512, .f32⟩
  | .hbm, ⟨94, _⟩ => ⟨S2x512x512, .bf16⟩
  | .hbm, ⟨95, _⟩ => ⟨S2x1536, .f32⟩
  | .hbm, ⟨96, _⟩ => ⟨S_, .f32⟩
  | .hbm, ⟨97, _⟩ => ⟨S2x1536, .f32⟩
  | .hbm, ⟨98, _⟩ => ⟨S2x1536, .f32⟩
  | .hbm, ⟨99, _⟩ => ⟨S2x1536, .f32⟩
  | .hbm, ⟨100, _⟩ => ⟨S2x1536, .f32⟩
  | .hbm, ⟨101, _⟩ => ⟨S_, .f32⟩
  | .hbm, ⟨102, _⟩ => ⟨S2x1536, .f32⟩
  | .hbm, ⟨103, _⟩ => ⟨S2x1536, .f32⟩
  | .hbm, ⟨104, _⟩ => ⟨S2x1536, .f32⟩
  | .hbm, ⟨105, _⟩ => ⟨S2x1536, .f32⟩
  | .hbm, ⟨106, _⟩ => ⟨S2x1536, .i1⟩
  | .hbm, ⟨107, _⟩ => ⟨S2x1536, .f32⟩
  | .hbm, ⟨108, _⟩ => ⟨S2x1536, .f32⟩
  | .hbm, ⟨109, _⟩ => ⟨S2x1536, .f32⟩
  | .hbm, ⟨110, _⟩ => ⟨S2x1536, .f32⟩
  | .hbm, ⟨111, _⟩ => ⟨S2x1536, .f32⟩
  | .hbm, ⟨112, _⟩ => ⟨S2x1536, .f32⟩
  | .hbm, ⟨113, _⟩ => ⟨S2x1536, .f32⟩
  | .hbm, ⟨114, _⟩ => ⟨S2x1536, .f32⟩
  | .hbm, ⟨115, _⟩ => ⟨S_, .f32⟩
  | .hbm, ⟨116, _⟩ => ⟨S2x1536, .f32⟩
  | .hbm, ⟨117, _⟩ => ⟨S2x1536, .f32⟩
  | .hbm, ⟨118, _⟩ => ⟨S1x1536, .f32⟩
  | .hbm, ⟨119, _⟩ => ⟨S1536x1024, .f32⟩
  | .hbm, ⟨120, _⟩ => ⟨S1536x1024, .bf16⟩
  | .hbm, ⟨121, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1536, .f32⟩
  | .local _ .vmem, ⟨3, _⟩ => ⟨S512x1536, .f32⟩
  | .local _ .vmem, ⟨4, _⟩ => ⟨S512x1536, .f32⟩
  | .local _ .vmem, ⟨5, _⟩ => ⟨S512x1536, .f32⟩
  | .local _ .vmem, ⟨6, _⟩ => ⟨S1024x2560, .bf16⟩
  | .local _ .vmem, ⟨7, _⟩ => ⟨S1x2560, .f32⟩
  | .local _ .vmem, ⟨8, _⟩ => ⟨S2x512x512, .bf16⟩
  | .local _ .vmem, ⟨9, _⟩ => ⟨S2x768x512, .bf16⟩
  | .local _ .vmem, ⟨10, _⟩ => ⟨S2x512x512, .bf16⟩
  | .local _ .vmem, ⟨11, _⟩ => ⟨S2x1536, .f32⟩
  | .local _ .vmem, ⟨12, _⟩ => ⟨S1x1536, .f32⟩
  | .local _ .vmem, ⟨13, _⟩ => ⟨S1536x1024, .bf16⟩
  | .local _ .vmem, ⟨14, _⟩ => ⟨S512x1024, .f32⟩
  | .local _ .vmem, ⟨15, _⟩ => ⟨S512x1024, .f32⟩
  | .local _ .vmem, ⟨16, _⟩ => ⟨S512x1536, .bf16⟩
  | .local _ .vmem, ⟨17, _⟩ => ⟨S8x1536, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_0 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_1 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_2 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_call0_cst : Ref sig .tc := ⟨.hbm, 101, rfl⟩
abbrev main_call0_v0 : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_v5 : Ref sig .tc := ⟨.hbm, 107, rfl⟩
abbrev main_call0_v6 : Ref sig .tc := ⟨.hbm, 108, rfl⟩
abbrev main_call0_v7 : Ref sig .tc := ⟨.hbm, 109, rfl⟩
abbrev main_call0_v8 : Ref sig .tc := ⟨.hbm, 110, rfl⟩
abbrev main_call0_v9 : Ref sig .tc := ⟨.hbm, 111, rfl⟩
abbrev main_call0_v10 : Ref sig .tc := ⟨.hbm, 112, rfl⟩
abbrev main_call0_v11 : Ref sig .tc := ⟨.hbm, 113, rfl⟩
abbrev main_v87 : Ref sig .tc := ⟨.hbm, 114, rfl⟩
abbrev main_cst_3 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x768x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "gelu_cubic" => some ((80338380498831 / 2251799813685248 : ℝ) : EReal)
  | "no_floor" => some ⊥
  | _ => none
-- ==== ReferenceIdeal.lean ====
abbrev S32768x1024 : Shape := ⟨2, ![32768, 1024]⟩
abbrev S32768x1536 : Shape := ⟨2, ![32768, 1536]⟩
abbrev S1x1024x7168 : Shape := ⟨3, ![1, 1024, 7168]⟩
abbrev S1x7168 : Shape := ⟨2, ![1, 7168]⟩
abbrev S1x2x2x16x96x96 : Shape := ⟨6, ![1, 2, 2, 16, 96, 96]⟩
abbrev S1x2x2x16x96 : Shape := ⟨5, ![1, 2, 2, 16, 96]⟩
abbrev S1x2x1536 : Shape := ⟨3, ![1, 2, 1536]⟩
abbrev S1x1536x1024 : Shape := ⟨3, ![1, 1536, 1024]⟩
abbrev S4096x8x1536 : Shape := ⟨3, ![4096, 8, 1536]⟩
abbrev S8x4096x1536 : Shape := ⟨3, ![8, 4096, 1536]⟩
abbrev S8x4096x16x96 : Shape := ⟨4, ![8, 4096, 16, 96]⟩
abbrev S1x1x2x16x96x96 : Shape := ⟨6, ![1, 1, 2, 16, 96, 96]⟩
abbrev S2x16x96x96 : Shape := ⟨4, ![2, 16, 96, 96]⟩
abbrev S16x2x96x8x4096 : Shape := ⟨5, ![16, 2, 96, 8, 4096]⟩
abbrev S2x8x4096x16x96 : Shape := ⟨5, ![2, 8, 4096, 16, 96]⟩
abbrev S1x1x2x16x96 : Shape := ⟨5, ![1, 1, 2, 16, 96]⟩
abbrev S2x16x96 : Shape := ⟨3, ![2, 16, 96]⟩
abbrev S2x1x1x16x96 : Shape := ⟨5, ![2, 1, 1, 16, 96]⟩
abbrev S_ : Shape := ⟨0, ![]⟩
abbrev S2x8x4096x1536 : Shape := ⟨4, ![2, 8, 4096, 1536]⟩
abbrev S1x8x4096x1536 : Shape := ⟨4, ![1, 8, 4096, 1536]⟩
abbrev S1x1x1536 : Shape := ⟨3, ![1, 1, 1536]⟩
abbrev S1536 : Shape := ⟨1, ![1536]⟩
abbrev S8x1536 : Shape := ⟨2, ![8, 1536]⟩
abbrev S1x8x1536 : Shape := ⟨3, ![1, 8, 1536]⟩
abbrev S4096x8x1024 : Shape := ⟨3, ![4096, 8, 1024]⟩
abbrev S8x4096x1024 : Shape := ⟨3, ![8, 4096, 1024]⟩
abbrev S1024x7168 : Shape := ⟨2, ![1024, 7168]⟩
abbrev S8x4096x7168 : Shape := ⟨3, ![8, 4096, 7168]⟩
abbrev S7168 : Shape := ⟨1, ![7168]⟩
abbrev S1x1x7168 : Shape := ⟨3, ![1, 1, 7168]⟩
abbrev S8x4096x2048 : Shape := ⟨3, ![8, 4096, 2048]⟩
abbrev S1536x1024 : Shape := ⟨2, ![1536, 1024]⟩
abbrev S8x4096x2x1024 : Shape := ⟨4, ![8, 4096, 2, 1024]⟩
abbrev S8x4096x1x1024 : Shape := ⟨4, ![8, 4096, 1, 1024]⟩

abbrev nBuf : Space → Nat
  | .hbm => 144
  | .vmem => 0
  | .smem => 0
  | _ => 0

abbrev hbmTy0_0 (i : Nat) : BufTy := match i % 128 with
  | 0 => ⟨S32768x1024, .f32⟩
  | 1 => ⟨S32768x1536, .f32⟩
  | 2 => ⟨S32768x1536, .f32⟩
  | 3 => ⟨S1x1024x7168, .f32⟩
  | 4 => ⟨S1x7168, .f32⟩
  | 5 => ⟨S1x2x2x16x96x96, .f32⟩
  | 6 => ⟨S1x2x2x16x96, .f32⟩
  | 7 => ⟨S1x2x1536, .f32⟩
  | 8 => ⟨S1x1536x1024, .f32⟩
  | 9 => ⟨S4096x8x1536, .f32⟩
  | 10 => ⟨S8x4096x1536, .f32⟩
  | 11 => ⟨S8x4096x16x96, .f32⟩
  | 12 => ⟨S1x1x2x16x96x96, .f32⟩
  | 13 => ⟨S2x16x96x96, .f32⟩
  | 14 => ⟨S16x2x96x8x4096, .f32⟩
  | 15 => ⟨S2x8x4096x16x96, .f32⟩
  | 16 => ⟨S1x1x2x16x96, .f32⟩
  | 17 => ⟨S2x16x96, .f32⟩
  | 18 => ⟨S2x1x1x16x96, .f32⟩
  | 19 => ⟨S2x8x4096x16x96, .f32⟩
  | 20 => ⟨S2x8x4096x16x96, .f32⟩
  | 21 => ⟨S2x8x4096x16x96, .f32⟩
  | 22 => ⟨S2x8x4096x16x96, .f32⟩
  | 23 => ⟨S_, .f32⟩
  | 24 => ⟨S2x8x4096x16x96, .f32⟩
  | 25 => ⟨S2x8x4096x16x96, .f32⟩
  | 26 => ⟨S_, .f32⟩
  | 27 => ⟨S2x8x4096x16x96, .f32⟩
  | 28 => ⟨S2x8x4096x16x96, .f32⟩
  | 29 => ⟨S2x8x4096x1536, .f32⟩
  | 30 => ⟨S1x8x4096x1536, .f32⟩
  | 31 => ⟨S8x4096x1536, .f32⟩
  | 32 => ⟨S1x8x4096x1536, .f32⟩
  | 33 => ⟨S8x4096x1536, .f32⟩
  | 34 => ⟨S_, .f32⟩
  | 35 => ⟨S8x4096x1536, .f32⟩
  | 36 => ⟨S8x4096x1536, .f32⟩
  | 37 => ⟨S1x1x1536, .f32⟩
  | 38 => ⟨S1536, .f32⟩
  | 39 => ⟨S1536, .f32⟩
  | 40 => ⟨S_, .f32⟩
  | 41 => ⟨S1536, .f32⟩
  | 42 => ⟨S1536, .f32⟩
  | 43 => ⟨S1536, .f32⟩
  | 44 => ⟨S1536, .f32⟩
  | 45 => ⟨S1536, .i1⟩
  | 46 => ⟨S1536, .f32⟩
  | 47 => ⟨S1536, .f32⟩
  | 48 => ⟨S1536, .f32⟩
  | 49 => ⟨S1536, .f32⟩
  | 50 => ⟨S1536, .f32⟩
  | 51 => ⟨S1536, .f32⟩
  | 52 => ⟨S1536, .f32⟩
  | 53 => ⟨S1536, .f32⟩
  | 54 => ⟨S1x1x1536, .f32⟩
  | 55 => ⟨S8x4096x1536, .f32⟩
  | 56 => ⟨S8x4096x1536, .f32⟩
  | 57 => ⟨S8x4096x1536, .f32⟩
  | 58 => ⟨S_, .f32⟩
  | 59 => ⟨S8x4096x1536, .f32⟩
  | 60 => ⟨S8x4096x1536, .f32⟩
  | 61 => ⟨S8x4096x1536, .f32⟩
  | 62 => ⟨S8x4096x1536, .f32⟩
  | 63 => ⟨S8x4096x1536, .f32⟩
  | 64 => ⟨S8x4096x1536, .f32⟩
  | 65 => ⟨S8x4096x1536, .f32⟩
  | 66 => ⟨S_, .f32⟩
  | 67 => ⟨S8x1536, .f32⟩
  | 68 => ⟨S4096x8x1536, .f32⟩
  | 69 => ⟨S4096x8x1536, .f32⟩
  | 70 => ⟨S_, .f32⟩
  | 71 => ⟨S4096x8x1536, .f32⟩
  | 72 => ⟨S_, .i32⟩
  | 73 => ⟨S4096x8x1536, .f32⟩
  | 74 => ⟨S4096x8x1536, .f32⟩
  | 75 => ⟨S_, .i32⟩
  | 76 => ⟨S8x1536, .f32⟩
  | 77 => ⟨S4096x8x1536, .f32⟩
  | 78 => ⟨S_, .i32⟩
  | 79 => ⟨S_, .i1⟩
  | 80 => ⟨S_, .i32⟩
  | 81 => ⟨S_, .i32⟩
  | 82 => ⟨S1x8x1536, .f32⟩
  | 83 => ⟨S8x1536, .f32⟩
  | 84 => ⟨S_, .i32⟩
  | 85 => ⟨S_, .i32⟩
  | 86 => ⟨S1x8x1536, .f32⟩
  | 87 => ⟨S8x1536, .f32⟩
  | 88 => ⟨S8x1536, .f32⟩
  | 89 => ⟨S8x1536, .f32⟩
  | 90 => ⟨S1x8x1536, .f32⟩
  | 91 => ⟨S_, .i32⟩
  | 92 => ⟨S_, .i32⟩
  | 93 => ⟨S4096x8x1536, .f32⟩
  | 94 => ⟨S_, .i32⟩
  | 95 => ⟨S_, .i32⟩
  | 96 => ⟨S8x4096x1536, .f32⟩
  | 97 => ⟨S4096x8x1536, .f32⟩
  | 98 => ⟨S8x4096x1536, .f32⟩
  | 99 => ⟨S8x4096x1536, .f32⟩
  | 100 => ⟨S4096x8x1024, .f32⟩
  | 101 => ⟨S8x4096x1024, .f32⟩
  | 102 => ⟨S1024x7168, .f32⟩
  | 103 => ⟨S8x4096x7168, .f32⟩
  | 104 => ⟨S7168, .f32⟩
  | 105 => ⟨S1x1x7168, .f32⟩
  | 106 => ⟨S8x4096x7168, .f32⟩
  | 107 => ⟨S8x4096x7168, .f32⟩
  | 108 => ⟨S8x4096x1536, .f32⟩
  | 109 => ⟨S8x4096x2048, .f32⟩
  | 110 => ⟨S8x4096x1536, .f32⟩
  | 111 => ⟨S8x4096x1536, .f32⟩
  | 112 => ⟨S_, .f32⟩
  | 113 => ⟨S8x4096x1536, .f32⟩
  | 114 => ⟨S8x4096x1536, .f32⟩
  | 115 => ⟨S8x4096x1536, .f32⟩
  | 116 => ⟨S_, .f32⟩
  | 117 => ⟨S8x4096x1536, .f32⟩
  | 118 => ⟨S8x4096x1536, .f32⟩
  | 119 => ⟨S8x4096x1536, .f32⟩
  | 120 => ⟨S_, .f32⟩
  | 121 => ⟨S8x4096x1536, .f32⟩
  | 122 => ⟨S8x4096x1536, .f32⟩
  | 123 => ⟨S_, .f32⟩
  | 124 => ⟨S8x4096x1536, .f32⟩
  | 125 => ⟨S8x4096x1536, .f32⟩
  | 126 => ⟨S8x4096x1536, .f32⟩
  | 127 => ⟨S8x4096x1536, .f32⟩
  | _ => ⟨S32768x1024, .f32⟩

abbrev hbmTy0_1 (i : Nat) : BufTy := match i % 128 with
  | 0 => ⟨S1536x1024, .f32⟩
  | 1 => ⟨S8x4096x1024, .f32⟩
  | 2 => ⟨S8x4096x2048, .f32⟩
  | 3 => ⟨S8x4096x2048, .f32⟩
  | 4 => ⟨S_, .f32⟩
  | 5 => ⟨S8x4096x2048, .f32⟩
  | 6 => ⟨S8x4096x2048, .f32⟩
  | 7 => ⟨S_, .f32⟩
  | 8 => ⟨S8x4096x2048, .f32⟩
  | 9 => ⟨S8x4096x2048, .f32⟩
  | 10 => ⟨S8x4096x2x1024, .f32⟩
  | 11 => ⟨S8x4096x1x1024, .f32⟩
  | 12 => ⟨S8x4096x1024, .f32⟩
  | 13 => ⟨S8x4096x1024, .f32⟩
  | 14 => ⟨S4096x8x1024, .f32⟩
  | 15 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_3 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_4 : Ref sig .tc := ⟨.hbm, 70, rfl⟩
abbrev main_v43 : Ref sig .tc := ⟨.hbm, 71, rfl⟩
abbrev main_c : Ref sig .tc := ⟨.hbm, 72, rfl⟩
abbrev main_v44_0 : Ref sig .tc := ⟨.hbm, 73, rfl⟩
abbrev main_v44_1 : Ref sig .tc := ⟨.hbm, 74, rfl⟩
abbrev main_v44_2 : Ref sig .tc := ⟨.hbm, 75, rfl⟩
abbrev main_v44_3 : Ref sig .tc := ⟨.hbm, 76, rfl⟩
abbrev main_v44_4 : Ref sig .tc := ⟨.hbm, 77, rfl⟩
abbrev main_while0c_c_15 : Ref sig .tc := ⟨.hbm, 78, rfl⟩
abbrev main_while0c_v87 : Ref sig .tc := ⟨.hbm, 79, rfl⟩
abbrev main_while0b_call1_c : Ref sig .tc := ⟨.hbm, 80, rfl⟩
abbrev main_while0b_call1_c_0 : Ref sig .tc := ⟨.hbm, 81, rfl⟩
abbrev main_while0b_call1_v0 : Ref sig .tc := ⟨.hbm, 82, rfl⟩
abbrev main_while0b_v87 : Ref sig .tc := ⟨.hbm, 83, rfl⟩
abbrev main_while0b_call2_c : Ref sig .tc := ⟨.hbm, 84, rfl⟩
abbrev main_while0b_call2_c_0 : Ref sig .tc := ⟨.hbm, 85, rfl⟩
abbrev main_while0b_call2_v0 : Ref sig .tc := ⟨.hbm, 86, rfl⟩
abbrev main_while0b_v88 : Ref sig .tc := ⟨.hbm, 87, rfl⟩
abbrev main_while0b_v89 : Ref sig .tc := ⟨.hbm, 88, rfl⟩
abbrev main_while0b_v90 : Ref sig .tc := ⟨.hbm, 89, rfl⟩
abbrev main_while0b_call3_v0 : Ref sig .tc := ⟨.hbm, 90, rfl⟩
abbrev main_while0b_call3_c : Ref sig .tc := ⟨.hbm, 91, rfl⟩
abbrev main_while0b_call3_c_0 : Ref sig .tc := ⟨.hbm, 92, rfl⟩
abbrev main_while0b_v91 : Ref sig .tc := ⟨.hbm, 93, rfl⟩
abbrev main_while0b_c_15 : Ref sig .tc := ⟨.hbm, 94, rfl⟩
abbrev main_while0b_v92 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_5 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_6 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_7 : Ref sig .tc := ⟨.hbm, 120, rfl⟩
abbrev main_v67 : Ref sig .tc := ⟨.hbm, 121, rfl⟩
abbrev main_v68 : Ref sig .tc := ⟨.hbm, 122, rfl⟩
abbrev main_cst_8 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_cst_9 : Ref sig .tc := ⟨.hbm, 132, rfl⟩
abbrev main_v77 : Ref sig .tc := ⟨.hbm, 133, rfl⟩
abbrev main_v78 : Ref sig .tc := ⟨.hbm, 134, rfl⟩
abbrev main_cst_10 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S32768x1024 : Shape := ⟨2, ![32768, 1024]⟩
abbrev S1x1024x4096 : Shape := ⟨3, ![1, 1024, 4096]⟩
abbrev S1x4096 : Shape := ⟨2, ![1, 4096]⟩
abbrev S1x4096x1024 : Shape := ⟨3, ![1, 4096, 1024]⟩
abbrev S1x1024 : Shape := ⟨2, ![1, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8x4096x1024 : Shape := ⟨3, ![8, 4096, 1024]⟩
abbrev S512x1024 : Shape := ⟨2, ![512, 1024]⟩
abbrev S2x64x8x1024 : Shape := ⟨4, ![2, 64, 8, 1024]⟩
abbrev S2 : Shape := ⟨1, ![2]⟩
abbrev S1 : Shape := ⟨1, ![1]⟩
abbrev S_ : Shape := ⟨0, ![]⟩
abbrev S1x64x1024 : Shape := ⟨3, ![1, 64, 1024]⟩
abbrev S64x1024 : Shape := ⟨2, ![64, 1024]⟩
abbrev S1x64x1x1024 : Shape := ⟨4, ![1, 64, 1, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S32x8x1024 : Shape := ⟨3, ![32, 8, 1024]⟩
abbrev S1x64x8x1024 : Shape := ⟨4, ![1, 64, 8, 1024]⟩
abbrev S64x8x1024 : Shape := ⟨3, ![64, 8, 1024]⟩

abbrev nBuf : Space → Nat
  | .hbm => 20
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1x1024x4096, .f32⟩
  | .hbm, ⟨2, _⟩ => ⟨S1x4096, .f32⟩
  | .hbm, ⟨3, _⟩ => ⟨S1x4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .f32⟩
  | .hbm, ⟨8, _⟩ => ⟨S1024x4096, .bf16⟩
  | .hbm, ⟨9, _⟩ => ⟨S4096, .f32⟩
  | .hbm, ⟨10, _⟩ => ⟨S1x4096, .f32⟩
  | .hbm, ⟨11, _⟩ => ⟨S4096x1024, .f32⟩
  | .hbm, ⟨12, _⟩ => ⟨S4096x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2x64x8x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c2_i32_3 : BitVec 32 := 2#32
  let v10 : BitVec 1 := Scalar.cmpi .sge arg0 c2_i32_3
  let v11 : BitVec 32 := Scalar.extui v10
  let c0_i32_4 : BitVec 32 := 0#32
  let v12 : BitVec 1 := Scalar.cmpi .ne v11 c0_i32_4
  v12

def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 3 → Nat :=
  let c0_i32_105 : BitVec 32 := 0#32
  let arg0 : BitVec 32 := BitVec.ofNat 32 (i 0).val
  let c2_i32_102 : BitVec 32 := 2#32
  let v178 : BitVec 32 := Scalar.subi arg0 c2_i32_102
  let c64_i32_103 : BitVec 32 := 64#32
  let v179 : BitVec 32 := Scalar.muli v178 c64_i32_103
  let c0_i32_106 : BitVec 32 := 0#32
  ![0, v179.toNat, 0]
def k0_off3 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_107 : BitVec 32 := 0#32
  let c0_i32_104 : BitVec 32 := 0#32
  let c0_i32_108 : BitVec 32 := 0#32
  ![v9.toNat, 0, 0, 0]
def k0_off4 (i : grid0.Coords) : Fin 3 → Nat :=
  let c1_i32_111 : BitVec 32 := 1#32
  let arg0 : BitVec 32 := BitVec.ofNat 32 (i 0).val
  let c2_i32_102 : BitVec 32 := 2#32
  let v178 : BitVec 32 := Scalar.subi arg0 c2_i32_102
  let c64_i32_109 : BitVec 32 := 64#32
  let v186 : BitVec 32 := Scalar.muli v178 c64_i32_109
  let c0_i32_112 : BitVec 32 := 0#32
  ![1, v186.toNat, 0]
def k0_off5 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_113 : BitVec 32 := 0#32
  let c1_i32_110 : BitVec 32 := 1#32
  let c0_i32_114 : BitVec 32 := 0#32
  ![v9.toNat, 0, 1, 0]
def k0_off6 (i : grid0.Coords) : Fin 3 → Nat :=
  let c2_i32_117 : BitVec 32 := 2#32
  let arg0 : BitVec 32 := BitVec.ofNat 32 (i 0).val
  let c2_i32_102 : BitVec 32 := 2#32
  let v178 : BitVec 32 := Scalar.subi arg0 c2_i32_102
  let c64_i32_115 : BitVec 32 := 64#32
  let v193 : BitVec 32 := Scalar.muli v178 c64_i32_115
  let c0_i32_118 : BitVec 32 := 0#32
  ![2, v193.toNat, 0]
def k0_off7 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_119 : BitVec 32 := 0#32
  let c2_i32_116 : BitVec 32 := 2#32
  let c0_i32_120 : BitVec 32 := 0#32
  ![v9.toNat, 0, 2, 0]
def k0_off8 (i : grid0.Coords) : Fin 3 → Nat :=
  let c3_i32_123 : BitVec 32 := 3#32
  let arg0 : BitVec 32 := BitVec.ofNat 32 (i 0).val
  let c2_i32_102 : BitVec 32 := 2#32
  let v178 : BitVec 32 := Scalar.subi arg0 c2_i32_102
  let c64_i32_121 : BitVec 32 := 64#32
  let v200 : BitVec 32 := Scalar.muli v178 c64_i32_121
  let c0_i32_124 : BitVec 32 := 0#32
  ![3, v200.toNat, 0]
def k0_off9 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_125 : BitVec 32 := 0#32
  let c3_i32_122 : BitVec 32 := 3#32
  let c0_i32_126 : BitVec 32 := 0#32
  ![v9.toNat, 0, 3, 0]
def k0_off10 (i : grid0.Coords) : Fin 3 → Nat :=
  let c4_i32_129 : BitVec 32 := 4#32
  let arg0 : BitVec 32 := BitVec.ofNat 32 (i 0).val
  let c2_i32_102 : BitVec 32 := 2#32
  let v178 : BitVec 32 := Scalar.subi arg0 c2_i32_102
  let c64_i32_127 : BitVec 32 := 64#32
  let v207 : BitVec 32 := Scalar.muli v178 c64_i32_127
  let c0_i32_130 : BitVec 32 := 0#32
  ![4, v207.toNat, 0]
def k0_off11 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_131 : BitVec 32 := 0#32
  let c4_i32_128 : BitVec 32 := 4#32
  let c0_i32_132 : BitVec 32 := 0#32
  ![v9.toNat, 0, 4, 0]
def k0_off12 (i : grid0.Coords) : Fin 3 → Nat :=
  let c5_i32_135 : BitVec 32 := 5#32
  let arg0 : BitVec 32 := BitVec.ofNat 32 (i 0).val
  let c2_i32_102 : BitVec 32 := 2#32
  let v178 : BitVec 32 := Scalar.subi arg0 c2_i32_102
  let c64_i32_133 : BitVec 32 := 64#32
  let v214 : BitVec 32 := Scalar.muli v178 c64_i32_133
  let c0_i32_136 : BitVec 32 := 0#32
  ![5, v214.toNat, 0]
def k0_off13 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_137 : BitVec 32 := 0#32
  let c5_i32_134 : BitVec 32 := 5#32
  let c0_i32_138 : BitVec 32 := 0#32
  ![v9.toNat, 0, 5, 0]
def k0_off14 (i : grid0.Coords) : Fin 3 → Nat :=
  let c6_i32_141 : BitVec 32 := 6#32
  let arg0 : BitVec 32 := BitVec.ofNat 32 (i 0).val
  let c2_i32_102 : BitVec 32 := 2#32
  let v178 : BitVec 32 := Scalar.subi arg0 c2_i32_102
  let c64_i32_139 : BitVec 32 := 64#32
  let v221 : BitVec 32 := Scalar.muli v178 c64_i32_139
  let c0_i32_142 : BitVec 32 := 0#32
  ![6, v221.toNat, 0]
def k0_off15 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_143 : BitVec 32 := 0#32
  let c6_i32_140 : BitVec 32 := 6#32
  let c0_i32_144 : BitVec 32 := 0#32
  ![v9.toNat, 0, 6, 0]
def k0_off16 (i : grid0.Coords) : Fin 3 → Nat :=
  let c7_i32_147 : BitVec 32 := 7#32
  let arg0 : BitVec 32 := BitVec.ofNat 32 (i 0).val
  let c2_i32_102 : BitVec 32 := 2#32
  let v178 : BitVec 32 := Scalar.subi arg0 c2_i32_102
  let c64_i32_145 : BitVec 32 := 64#32
  let v228 : BitVec 32 := Scalar.muli v178 c64_i32_145
  let c0_i32_148 : BitVec 32 := 0#32
  ![7, v228.toNat, 0]
def k0_off17 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_149 : BitVec 32 := 0#32
  let c7_i32_146 : BitVec 32 := 7#32
  let c0_i32_150 : BitVec 32 := 0#32
  ![v9.toNat, 0, 7, 0]
def k0_off18 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_26 : BitVec 32 := 0#32
  let c0_i32_27 : BitVec 32 := 0#32
  let c0_i32_28 : BitVec 32 := 0#32
  ![v9.toNat, 0, 0, 0]
def k0_off19 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off20 (i : grid0.Coords) : Fin 3 → Nat :=
  let c0_i32_60 : BitVec 32 := 0#32
  let arg0 : BitVec 32 := BitVec.ofNat 32 (i 0).val
  let c64_i32 : BitVec 32 := 64#32
  let v119 : BitVec 32 := Scalar.muli arg0 c64_i32
  let c0_i32_61 : BitVec 32 := 0#32
  ![0, v119.toNat, 0]
def k0_off21 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_62 : BitVec 32 := 0#32
  let c0_i32_59 : BitVec 32 := 0#32
  let c0_i32_63 : BitVec 32 := 0#32
  ![v9.toNat, 0, 0, 0]
def k0_off22 (i : grid0.Coords) : Fin 3 → Nat :=
  let c1_i32_66 : BitVec 32 := 1#32
  let arg0 : BitVec 32 := BitVec.ofNat 32 (i 0).val
  let c64_i32_64 : BitVec 32 := 64#32
  let v126 : BitVec 32 := Scalar.muli arg0 c64_i32_64
  let c0_i32_67 : BitVec 32 := 0#32
  ![1, v126.toNat, 0]
def k0_off23 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_68 : BitVec 32 := 0#32
  let c1_i32_65 : BitVec 32 := 1#32
  let c0_i32_69 : BitVec 32 := 0#32
  ![v9.toNat, 0, 1, 0]
def k0_off24 (i : grid0.Coords) : Fin 3 → Nat :=
  let c2_i32_72 : BitVec 32 := 2#32
  let arg0 : BitVec 32 := BitVec.ofNat 32 (i 0).val
  let c64_i32_70 : BitVec 32 := 64#32
  let v133 : BitVec 32 := Scalar.muli arg0 c64_i32_70
  let c0_i32_73 : BitVec 32 := 0#32
  ![2, v133.toNat, 0]
def k0_off25 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_74 : BitVec 32 := 0#32
  let c2_i32_71 : BitVec 32 := 2#32
  let c0_i32_75 : BitVec 32 := 0#32
  ![v9.toNat, 0, 2, 0]
def k0_off26 (i : grid0.Coords) : Fin 3 → Nat :=
  let c3_i32_77 : BitVec 32 := 3#32
  let arg0 : BitVec 32 := BitVec.ofNat 32 (i 0).val
  let c64_i32_76 : BitVec 32 := 64#32
  let v140 : BitVec 32 := Scalar.muli arg0 c64_i32_76
  let c0_i32_78 : BitVec 32 := 0#32
  ![3, v140.toNat, 0]
def k0_off27 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_79 : BitVec 32 := 0#32
  let c3_i32 : BitVec 32 := 3#32
  let c0_i32_80 : BitVec 32 := 0#32
  ![v9.toNat, 0, 3, 0]
def k0_off28 (i : grid0.Coords) : Fin 3 → Nat :=
  let c4_i32_82 : BitVec 32 := 4#32
  let arg0 : BitVec 32 := BitVec.ofNat 32 (i 0).val
  let c64_i32_81 : BitVec 32 := 64#32
  let v147 : BitVec 32 := Scalar.muli arg0 c64_i32_81
  let c0_i32_83 : BitVec 32 := 0#32
  ![4, v147.toNat, 0]
def k0_off29 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_84 : BitVec 32 := 0#32
  let c4_i32 : BitVec 32 := 4#32
  let c0_i32_85 : BitVec 32 := 0#32
  ![v9.toNat, 0, 4, 0]
def k0_off30 (i : grid0.Coords) : Fin 3 → Nat :=
  let c5_i32_87 : BitVec 32 := 5#32
  let arg0 : BitVec 32 := BitVec.ofNat 32 (i 0).val
  let c64_i32_86 : BitVec 32 := 64#32
  let v154 : BitVec 32 := Scalar.muli arg0 c64_i32_86
  let c0_i32_88 : BitVec 32 := 0#32
  ![5, v154.toNat, 0]
def k0_off31 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_89 : BitVec 32 := 0#32
  let c5_i32 : BitVec 32 := 5#32
  let c0_i32_90 : BitVec 32 := 0#32
  ![v9.toNat, 0, 5, 0]
def k0_off32 (i : grid0.Coords) : Fin 3 → Nat :=
  let c6_i32_92 : BitVec 32 := 6#32
  let arg0 : BitVec 32 := BitVec.ofNat 32 (i 0).val
  let c64_i32_91 : BitVec 32 := 64#32
  let v161 : BitVec 32 := Scalar.muli arg0 c64_i32_91
  let c0_i32_93 : BitVec 32 := 0#32
  ![6, v161.toNat, 0]
def k0_off33 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_94 : BitVec 32 := 0#32
  let c6_i32 : BitVec 32 := 6#32
  let c0_i32_95 : BitVec 32 := 0#32
  ![v9.toNat, 0, 6, 0]
def k0_off34 (i : grid0.Coords) : Fin 3 → Nat :=
  let c7_i32_97 : BitVec 32 := 7#32
  let arg0 : BitVec 32 := BitVec.ofNat 32 (i 0).val
  let c64_i32_96 : BitVec 32 := 64#32
  let v168 : BitVec 32 := Scalar.muli arg0 c64_i32_96
  let c0_i32_98 : BitVec 32 := 0#32
  ![7, v168.toNat, 0]
def k0_off35 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_99 : BitVec 32 := 0#32
  let c7_i32 : BitVec 32 := 7#32
  let c0_i32_100 : BitVec 32 := 0#32
  ![v9.toNat, 0, 7, 0]
def k0_cond2 (i : grid0.Coords) : BitVec 1 :=
  let arg0 : BitVec 32 := BitVec.ofNat 32 (i 0).val
  let c63_i32 : BitVec 32 := 63#32
  let v175 : BitVec 1 := Scalar.cmpi .eq arg0 c63_i32
  let v176 : BitVec 32 := Scalar.extui v175
  let c0_i32_101 : BitVec 32 := 0#32
  let v177 : BitVec 1 := Scalar.cmpi .ne v176 c0_i32_101
  v177

def k0_off36 (i : grid0.Coords) : Fin 1 → Nat :=
  let c1_i32_103 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v179 : BitVec 32 := Scalar.subi c1_i32_103 v9
  ![v179.toNat]
def k0_off37 (i : grid0.Coords) : Fin 3 → Nat :=
  let c0_i32_106 : BitVec 32 := 0#32
  let arg0 : BitVec 32 := BitVec.ofNat 32 (i 0).val
  let c1_i32_102 : BitVec 32 := 1#32
  let v178 : BitVec 32 := Scalar.subi arg0 c1_i32_102
  let c64_i32_104 : BitVec 32 := 64#32
  let v180 : BitVec 32 := Scalar.muli v178 c64_i32_104
  let c0_i32_107 : BitVec 32 := 0#32
  ![0, v180.toNat, 0]
def k0_off38 (i : grid0.Coords) : Fin 4 → Nat :=
  let c1_i32_103 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v179 : BitVec 32 := Scalar.subi c1_i32_103 v9
  let c0_i32_108 : BitVec 32 := 0#32
  let c0_i32_105 : BitVec 32 := 0#32
  let c0_i32_109 : BitVec 32 := 0#32
  ![v179.toNat, 0, 0, 0]
def k0_off39 (i : grid0.Coords) : Fin 3 → Nat :=
  let c1_i32_112 : BitVec 32 := 1#32
  let arg0 : BitVec 32 := BitVec.ofNat 32 (i 0).val
  let c1_i32_102 : BitVec 32 := 1#32
  let v178 : BitVec 32 := Scalar.subi arg0 c1_i32_102
  let c64_i32_110 : BitVec 32 := 64#32
  let v187 : BitVec 32 := Scalar.muli v178 c64_i32_110
  let c0_i32_113 : BitVec 32 := 0#32
  ![1, v187.toNat, 0]
def k0_off40 (i : grid0.Coords) : Fin 4 → Nat :=
  let c1_i32_103 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v179 : BitVec 32 := Scalar.subi c1_i32_103 v9
  let c0_i32_114 : BitVec 32 := 0#32
  let c1_i32_111 : BitVec 32 := 1#32
  let c0_i32_115 : BitVec 32 := 0#32
  ![v179.toNat, 0, 1, 0]
def k0_off41 (i : grid0.Coords) : Fin 3 → Nat :=
  let c2_i32_118 : BitVec 32 := 2#32
  let arg0 : BitVec 32 := BitVec.ofNat 32 (i 0).val
  let c1_i32_102 : BitVec 32 := 1#32
  let v178 : BitVec 32 := Scalar.subi arg0 c1_i32_102
  let c64_i32_116 : BitVec 32 := 64#32
  let v194 : BitVec 32 := Scalar.muli v178 c64_i32_116
  let c0_i32_119 : BitVec 32 := 0#32
  ![2, v194.toNat, 0]
def k0_off42 (i : grid0.Coords) : Fin 4 → Nat :=
  let c1_i32_103 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v179 : BitVec 32 := Scalar.subi c1_i32_103 v9
  let c0_i32_120 : BitVec 32 := 0#32
  let c2_i32_117 : BitVec 32 := 2#32
  let c0_i32_121 : BitVec 32 := 0#32
  ![v179.toNat, 0, 2, 0]
def k0_off43 (i : grid0.Coords) : Fin 3 → Nat :=
  let c3_i32_124 : BitVec 32 := 3#32
  let arg0 : BitVec 32 := BitVec.ofNat 32 (i 0).val
  let c1_i32_102 : BitVec 32 := 1#32
  let v178 : BitVec 32 := Scalar.subi arg0 c1_i32_102
  let c64_i32_122 : BitVec 32 := 64#32
  let v201 : BitVec 32 := Scalar.muli v178 c64_i32_122
  let c0_i32_125 : BitVec 32 := 0#32
  ![3, v201.toNat, 0]
def k0_off44 (i : grid0.Coords) : Fin 4 → Nat :=
  let c1_i32_103 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v179 : BitVec 32 := Scalar.subi c1_i32_103 v9
  let c0_i32_126 : BitVec 32 := 0#32
  let c3_i32_123 : BitVec 32 := 3#32
  let c0_i32_127 : BitVec 32 := 0#32
  ![v179.toNat, 0, 3, 0]
def k0_off45 (i : grid0.Coords) : Fin 3 → Nat :=
  let c4_i32_130 : BitVec 32 := 4#32
  let arg0 : BitVec 32 := BitVec.ofNat 32 (i 0).val
  let c1_i32_102 : BitVec 32 := 1#32
  let v178 : BitVec 32 := Scalar.subi arg0 c1_i32_102
  let c64_i32_128 : BitVec 32 := 64#32
  let v208 : BitVec 32 := Scalar.muli v178 c64_i32_128
  let c0_i32_131 : BitVec 32 := 0#32
  ![4, v208.toNat, 0]
def k0_off46 (i : grid0.Coords) : Fin 4 → Nat :=
  let c1_i32_103 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v179 : BitVec 32 := Scalar.subi c1_i32_103 v9
  let c0_i32_132 : BitVec 32 := 0#32
  let c4_i32_129 : BitVec 32 := 4#32
  let c0_i32_133 : BitVec 32 := 0#32
  ![v179.toNat, 0, 4, 0]
def k0_off47 (i : grid0.Coords) : Fin 3 → Nat :=
  let c5_i32_136 : BitVec 32 := 5#32
  let arg0 : BitVec 32 := BitVec.ofNat 32 (i 0).val
  let c1_i32_102 : BitVec 32 := 1#32
  let v178 : BitVec 32 := Scalar.subi arg0 c1_i32_102
  let c64_i32_134 : BitVec 32 := 64#32
  let v215 : BitVec 32 := Scalar.muli v178 c64_i32_134
  let c0_i32_137 : BitVec 32 := 0#32
  ![5, v215.toNat, 0]
def k0_off48 (i : grid0.Coords) : Fin 4 → Nat :=
  let c1_i32_103 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v179 : BitVec 32 := Scalar.subi c1_i32_103 v9
  let c0_i32_138 : BitVec 32 := 0#32
  let c5_i32_135 : BitVec 32 := 5#32
  let c0_i32_139 : BitVec 32 := 0#32
  ![v179.toNat, 0, 5, 0]
def k0_off49 (i : grid0.Coords) : Fin 3 → Nat :=
  let c6_i32_142 : BitVec 32 := 6#32
  let arg0 : BitVec 32 := BitVec.ofNat 32 (i 0).val
  let c1_i32_102 : BitVec 32 := 1#32
  let v178 : BitVec 32 := Scalar.subi arg0 c1_i32_102
  let c64_i32_140 : BitVec 32 := 64#32
  let v222 : BitVec 32 := Scalar.muli v178 c64_i32_140
  let c0_i32_143 : BitVec 32 := 0#32
  ![6, v222.toNat, 0]
def k0_off50 (i : grid0.Coords) : Fin 4 → Nat :=
  let c1_i32_103 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v179 : BitVec 32 := Scalar.subi c1_i32_103 v9
  let c0_i32_144 : BitVec 32 := 0#32
  let c6_i32_141 : BitVec 32 := 6#32
  let c0_i32_145 : BitVec 32 := 0#32
  ![v179.toNat, 0, 6, 0]
def k0_off51 (i : grid0.Coords) : Fin 3 → Nat :=
  let c7_i32_148 : BitVec 32 := 7#32
  let arg0 : BitVec 32 := BitVec.ofNat 32 (i 0).val
  let c1_i32_102 : BitVec 32 := 1#32
  let v178 : BitVec 32 := Scalar.subi arg0 c1_i32_102
  let c64_i32_146 : BitVec 32 := 64#32
  let v229 : BitVec 32 := Scalar.muli v178 c64_i32_146
  let c0_i32_149 : BitVec 32 := 0#32
  ![7, v229.toNat, 0]
def k0_off52 (i : grid0.Coords) : Fin 4 → Nat :=
  let c1_i32_103 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v179 : BitVec 32 := Scalar.subi c1_i32_103 v9
  let c0_i32_150 : BitVec 32 := 0#32
  let c7_i32_147 : BitVec 32 := 7#32
  let c0_i32_151 : BitVec 32 := 0#32
  ![v179.toNat, 0, 7, 0]
def k0_off53 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off54 (i : grid0.Coords) : Fin 3 → Nat :=
  let c0_i32_154 : BitVec 32 := 0#32
  let arg0 : BitVec 32 := BitVec.ofNat 32 (i 0).val
  let c64_i32_152 : BitVec 32 := 64#32
  let v236 : BitVec 32 := Scalar.muli arg0 c64_i32_152
  let c0_i32_155 : BitVec 32 := 0#32
  ![0, v236.toNat, 0]
def k0_off55 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_156 : BitVec 32 := 0#32
  let c0_i32_153 : BitVec 32 := 0#32
  let c0_i32_157 : BitVec 32 := 0#32
  ![v9.toNat, 0, 0, 0]
def k0_off56 (i : grid0.Coords) : Fin 3 → Nat :=
  let c1_i32_160 : BitVec 32 := 1#32
  let arg0 : BitVec 32 := BitVec.ofNat 32 (i 0).val
  let c64_i32_158 : BitVec 32 := 64#32
  let v243 : BitVec 32 := Scalar.muli arg0 c64_i32_158
  let c0_i32_161 : BitVec 32 := 0#32
  ![1, v243.toNat, 0]
def k0_off57 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_162 : BitVec 32 := 0#32
  let c1_i32_159 : BitVec 32 := 1#32
  let c0_i32_163 : BitVec 32 := 0#32
  ![v9.toNat, 0, 1, 0]
def k0_off58 (i : grid0.Coords) : Fin 3 → Nat :=
  let c2_i32_166 : BitVec 32 := 2#32
  let arg0 : BitVec 32 := BitVec.ofNat 32 (i 0).val
  let c64_i32_164 : BitVec 32 := 64#32
  let v250 : BitVec 32 := Scalar.muli arg0 c64_i32_164
  let c0_i32_167 : BitVec 32 := 0#32
  ![2, v250.toNat, 0]
def k0_off59 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_168 : BitVec 32 := 0#32
  let c2_i32_165 : BitVec 32 := 2#32
  let c0_i32_169 : BitVec 32 := 0#32
  ![v9.toNat, 0, 2, 0]
def k0_off60 (i : grid0.Coords) : Fin 3 → Nat :=
  let c3_i32_172 : BitVec 32 := 3#32
  let arg0 : BitVec 32 := BitVec.ofNat 32 (i 0).val
  let c64_i32_170 : BitVec 32 := 64#32
  let v257 : BitVec 32 := Scalar.muli arg0 c64_i32_170
  let c0_i32_173 : BitVec 32 := 0#32
  ![3, v257.toNat, 0]
def k0_off61 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_174 : BitVec 32 := 0#32
  let c3_i32_171 : BitVec 32 := 3#32
  let c0_i32_175 : BitVec 32 := 0#32
  ![v9.toNat, 0, 3, 0]
def k0_off62 (i : grid0.Coords) : Fin 3 → Nat :=
  let c4_i32_178 : BitVec 32 := 4#32
  let arg0 : BitVec 32 := BitVec.ofNat 32 (i 0).val
  let c64_i32_176 : BitVec 32 := 64#32
  let v264 : BitVec 32 := Scalar.muli arg0 c64_i32_176
  let c0_i32_179 : BitVec 32 := 0#32
  ![4, v264.toNat, 0]
def k0_off63 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_180 : BitVec 32 := 0#32
  let c4_i32_177 : BitVec 32 := 4#32
  let c0_i32_181 : BitVec 32 := 0#32
  ![v9.toNat, 0, 4, 0]
def k0_off64 (i : grid0.Coords) : Fin 3 → Nat :=
  let c5_i32_184 : BitVec 32 := 5#32
  let arg0 : BitVec 32 := BitVec.ofNat 32 (i 0).val
  let c64_i32_182 : BitVec 32 := 64#32
  let v271 : BitVec 32 := Scalar.muli arg0 c64_i32_182
  let c0_i32_185 : BitVec 32 := 0#32
  ![5, v271.toNat, 0]
def k0_off65 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_186 : BitVec 32 := 0#32
  let c5_i32_183 : BitVec 32 := 5#32
  let c0_i32_187 : BitVec 32 := 0#32
  ![v9.toNat, 0, 5, 0]
def k0_off66 (i : grid0.Coords) : Fin 3 → Nat :=
  let c6_i32_190 : BitVec 32 := 6#32
  let arg0 : BitVec 32 := BitVec.ofNat 32 (i 0).val
  let c64_i32_188 : BitVec 32 := 64#32
  let v278 : BitVec 32 := Scalar.muli arg0 c64_i32_188
  let c0_i32_191 : BitVec 32 := 0#32
  ![6, v278.toNat, 0]
def k0_off67 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_192 : BitVec 32 := 0#32
  let c6_i32_189 : BitVec 32 := 6#32
  let c0_i32_193 : BitVec 32 := 0#32
  ![v9.toNat, 0, 6, 0]
def k0_off68 (i : grid0.Coords) : Fin 3 → Nat :=
  let c7_i32_196 : BitVec 32 := 7#32
  let arg0 : BitVec 32 := BitVec.ofNat 32 (i 0).val
  let c64_i32_194 : BitVec 32 := 64#32
  let v285 : BitVec 32 := Scalar.muli arg0 c64_i32_194
  let c0_i32_197 : BitVec 32 := 0#32
  ![7, v285.toNat, 0]
def k0_off69 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_198 : BitVec 32 := 0#32
  let c7_i32_195 : BitVec 32 := 7#32
  let c0_i32_199 : BitVec 32 := 0#32
  ![v9.toNat, 0, 7, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S32768x1024 : Shape := ⟨2, ![32768, 1024]⟩
abbrev S1x1024x4096 : Shape := ⟨3, ![1, 1024, 4096]⟩
abbrev S1x4096 : Shape := ⟨2, ![1, 4096]⟩
abbrev S1x4096x1024 : Shape := ⟨3, ![1, 4096, 1024]⟩
abbrev S1x1024 : Shape := ⟨2, ![1, 1024]⟩
abbrev S4096x8x1024 : Shape := ⟨3, ![4096, 8, 1024]⟩
abbrev S8x4096x1024 : Shape := ⟨3, ![8, 4096, 1024]⟩
abbrev S1024x4096 : Shape := ⟨2, ![1024, 4096]⟩
abbrev S8x4096x4096 : Shape := ⟨3, ![8, 4096, 4096]⟩
abbrev S4096 : Shape := ⟨1, ![4096]⟩
abbrev S1x1x4096 : Shape := ⟨3, ![1, 1, 4096]⟩
abbrev S_ : Shape := ⟨0, ![]⟩
abbrev S4096x1024 : Shape := ⟨2, ![4096, 1024]⟩
abbrev S1024 : Shape := ⟨1, ![1024]⟩
abbrev S1x1x1024 : Shape := ⟨3, ![1, 1, 1024]⟩
abbrev S8x4096 : Shape := ⟨2, ![8, 4096]⟩
abbrev S8x4096x1 : Shape := ⟨3, ![8, 4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024x4096, .f32⟩
  | .hbm, ⟨2, _⟩ => ⟨S1x4096, .f32⟩
  | .hbm, ⟨3, _⟩ => ⟨S1x4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x8x1024, .f32⟩
  | .hbm, ⟨8, _⟩ => ⟨S8x4096x1024, .f32⟩
  | .hbm, ⟨9, _⟩ => ⟨S1024x4096, .f32⟩
  | .hbm, ⟨10, _⟩ => ⟨S8x4096x4096, .f32⟩
  | .hbm, ⟨11, _⟩ => ⟨S4096, .f32⟩
  | .hbm, ⟨12, _⟩ => ⟨S1x1x4096, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x1024, .f32⟩
  | .hbm, ⟨21, _⟩ => ⟨S8x4096x1024, .f32⟩
  | .hbm, ⟨22, _⟩ => ⟨S4096x1024, .f32⟩
  | .hbm, ⟨23, _⟩ => ⟨S8x4096x1024, .f32⟩
  | .hbm, ⟨24, _⟩ => ⟨S1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1024, .f32⟩
  | .hbm, ⟨45, _⟩ => ⟨S8x4096x1024, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x1024, .f32⟩
  | .hbm, ⟨51, _⟩ => ⟨S8x4096x1024, .f32⟩
  | .hbm, ⟨52, _⟩ => ⟨S1024, .f32⟩
  | .hbm, ⟨53, _⟩ => ⟨S1x1x1024, .f32⟩
  | .hbm, ⟨54, _⟩ => ⟨S8x4096x1024, .f32⟩
  | .hbm, ⟨55, _⟩ => ⟨S8x4096x1024, .f32⟩
  | .hbm, ⟨56, _⟩ => ⟨S1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel3.lean ====
abbrev S8x32768x128 : Shape := ⟨3, ![8, 32768, 128]⟩
abbrev S32768x1024 : Shape := ⟨2, ![32768, 1024]⟩
abbrev S1x1024x7168 : Shape := ⟨3, ![1, 1024, 7168]⟩
abbrev S1x7168 : Shape := ⟨2, ![1, 7168]⟩
abbrev S1x31x1024 : Shape := ⟨3, ![1, 31, 1024]⟩
abbrev S1x1024 : Shape := ⟨2, ![1, 1024]⟩
abbrev S1x1024x1024 : Shape := ⟨3, ![1, 1024, 1024]⟩
abbrev S1024x7168 : Shape := ⟨2, ![1024, 7168]⟩
abbrev S7168 : Shape := ⟨1, ![7168]⟩
abbrev S1024x1024 : Shape := ⟨2, ![1024, 1024]⟩
abbrev S1024 : Shape := ⟨1, ![1024]⟩
abbrev S31x1024 : Shape := ⟨2, ![31, 1024]⟩
abbrev S31x8x1024 : Shape := ⟨3, ![31, 8, 1024]⟩
abbrev S248x1024 : Shape := ⟨2, ![248, 1024]⟩
abbrev S248x8x128 : Shape := ⟨3, ![248, 8, 128]⟩
abbrev S8x248x128 : Shape := ⟨3, ![8, 248, 128]⟩
abbrev S8x128x128 : Shape := ⟨3, ![8, 128, 128]⟩
abbrev S8x512x128 : Shape := ⟨3, ![8, 512, 128]⟩
abbrev S512x1024 : Shape := ⟨2, ![512, 1024]⟩
abbrev S8x768x128 : Shape := ⟨3, ![8, 768, 128]⟩
abbrev S1x128 : Shape := ⟨2, ![1, 128]⟩
abbrev S8x128 : Shape := ⟨2, ![8, 128]⟩
abbrev S1x8x128 : Shape := ⟨3, ![1, 8, 128]⟩
abbrev S256x1024 : Shape := ⟨2, ![256, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 42
  | .vmem => 25
  | .smem => 0
  | _ => 0

abbrev bufTy : (tb : Table) → Fin (tcTables nBuf tb) → BufTy
  | .hbm, ⟨0, _⟩ => ⟨S8x32768x128, .f32⟩
  | .hbm, ⟨1, _⟩ => ⟨S32768x1024, .f32⟩
  | .hbm, ⟨2, _⟩ => ⟨S32768x1024, .f32⟩
  | .hbm, ⟨3, _⟩ => ⟨S1x1024x7168, .f32⟩
  | .hbm, ⟨4, _⟩ => ⟨S1x7168, .f32⟩
  | .hbm, ⟨5, _⟩ => ⟨S1x31x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024x1024, .f32⟩
  | .hbm, ⟨10, _⟩ => ⟨S1x1024x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x7168, .f32⟩
  | .hbm, ⟨15, _⟩ => ⟨S7168, .f32⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S31x1024, .f32⟩
  | .hbm, ⟨21, _⟩ => ⟨S31x8x1024, .f32⟩
  | .hbm, ⟨22, _⟩ => ⟨S248x1024, .f32⟩
  | .hbm, ⟨23, _⟩ => ⟨S248x8x128, .f32⟩
  | .hbm, ⟨24, _⟩ => ⟨S8x248x128, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024x1024, .f32⟩
  | .hbm, ⟨32, _⟩ => ⟨S1024x1024, .bf16⟩
  | .hbm, ⟨33, _⟩ => ⟨S1024x1024, .f32⟩
  | .hbm, ⟨34, _⟩ => ⟨S1024x1024, .bf16⟩
  | .hbm, ⟨35, _⟩ => ⟨S1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S32768x1024, .f32⟩
  | .local _ .vmem, ⟨0, _⟩ => ⟨S8x128x128, .f32⟩
  | .local _ .vmem, ⟨1, _⟩ => ⟨S8x128x128, .f32⟩
  | .local _ .vmem, ⟨2, _⟩ => ⟨S8x512x128, .f32⟩
  | .local _ .vmem, ⟨3, _⟩ => ⟨S8x512x128, .f32⟩
  | .local _ .vmem, ⟨4, _⟩ => ⟨S8x128x128, .f32⟩
  | .local _ .vmem, ⟨5, _⟩ => ⟨S8x128x128, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1x1024, .f32⟩
  | .local _ .vmem, ⟨12, _⟩ => ⟨S8x248x128, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S8x768x128, .f32⟩
  | .local _ .vmem, ⟨24, _⟩ => ⟨S8x512x128, .f32⟩
  | _, _ => ⟨S8x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_17 : BitVec 32 := 0#32
  let c16_i32 : BitVec 32 := 16#32
  let v19 : BitVec 32 := Scalar.addi c0_i32_17 c16_i32
  let c1_i32 : BitVec 32 := 1#32
  ⟨c0_i32_17, v19, c1_i32⟩
def k0_mult1 (k0_t1 : Fin k0_t1_loop.trips) : BitVec 32 :=
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  v236
def k0_off1 (k0_t1 : Fin k0_t1_loop.trips) (c0_i32_152 : BitVec 32) : Fin 3 → Nat :=
  let c0_153 : Index := 0#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let c8_i32 : BitVec 32 := 8#32
  let v244 : BitVec 32 := Scalar.addi v237 c8_i32
  let v245 : BitVec 32 := Scalar.addi v244 c0_i32_152
  let v246 : Index := Scalar.indexCast v245
  let c0_154 : Index := 0#32
  ![0, v246.toNat, 0]
def k0_off2 (k0_t1 : Fin k0_t1_loop.trips) (c0_i32_678 : BitVec 32) : Fin 3 → Nat :=
  let c0_679 : Index := 0#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let v1172 : BitVec 32 := Scalar.addi v237 c0_i32_678
  let v1173 : Index := Scalar.indexCast v1172
  let c0_680 : Index := 0#32
  ![0, v1173.toNat, 0]
def k0_off3 (k0_t1 : Fin k0_t1_loop.trips) (c0_i32_696 : BitVec 32) : Fin 3 → Nat :=
  let c1_697 : Index := 1#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let c8_i32_695 : BitVec 32 := 8#32
  let v1202 : BitVec 32 := Scalar.addi v237 c8_i32_695
  let v1203 : BitVec 32 := Scalar.addi v1202 c0_i32_696
  let v1204 : Index := Scalar.indexCast v1203
  let c0_698 : Index := 0#32
  ![1, v1204.toNat, 0]
def k0_off4 (k0_t1 : Fin k0_t1_loop.trips) (c0_i32_1281 : BitVec 32) : Fin 3 → Nat :=
  let c1_1282 : Index := 1#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let v2130 : BitVec 32 := Scalar.addi v237 c0_i32_1281
  let v2131 : Index := Scalar.indexCast v2130
  let c0_1283 : Index := 0#32
  ![1, v2131.toNat, 0]
def k0_off5 (k0_t1 : Fin k0_t1_loop.trips) (c0_i32_1299 : BitVec 32) : Fin 3 → Nat :=
  let c2_1300 : Index := 2#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let c8_i32_1298 : BitVec 32 := 8#32
  let v2160 : BitVec 32 := Scalar.addi v237 c8_i32_1298
  let v2161 : BitVec 32 := Scalar.addi v2160 c0_i32_1299
  let v2162 : Index := Scalar.indexCast v2161
  let c0_1301 : Index := 0#32
  ![2, v2162.toNat, 0]
def k0_off6 (k0_t1 : Fin k0_t1_loop.trips) (c0_i32_1884 : BitVec 32) : Fin 3 → Nat :=
  let c2_1885 : Index := 2#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let v3088 : BitVec 32 := Scalar.addi v237 c0_i32_1884
  let v3089 : Index := Scalar.indexCast v3088
  let c0_1886 : Index := 0#32
  ![2, v3089.toNat, 0]
def k0_off7 (k0_t1 : Fin k0_t1_loop.trips) (c0_i32_1901 : BitVec 32) : Fin 3 → Nat :=
  let c3_1902 : Index := 3#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let c8_i32_1900 : BitVec 32 := 8#32
  let v3118 : BitVec 32 := Scalar.addi v237 c8_i32_1900
  let v3119 : BitVec 32 := Scalar.addi v3118 c0_i32_1901
  let v3120 : Index := Scalar.indexCast v3119
  let c0_1903 : Index := 0#32
  ![3, v3120.toNat, 0]
def k0_off8 (k0_t1 : Fin k0_t1_loop.trips) (c0_i32_2486 : BitVec 32) : Fin 3 → Nat :=
  let c3_2487 : Index := 3#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let v4046 : BitVec 32 := Scalar.addi v237 c0_i32_2486
  let v4047 : Index := Scalar.indexCast v4046
  let c0_2488 : Index := 0#32
  ![3, v4047.toNat, 0]
def k0_off9 (k0_t1 : Fin k0_t1_loop.trips) (c0_i32_2503 : BitVec 32) : Fin 3 → Nat :=
  let c4_2504 : Index := 4#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let c8_i32_2502 : BitVec 32 := 8#32
  let v4076 : BitVec 32 := Scalar.addi v237 c8_i32_2502
  let v4077 : BitVec 32 := Scalar.addi v4076 c0_i32_2503
  let v4078 : Index := Scalar.indexCast v4077
  let c0_2505 : Index := 0#32
  ![4, v4078.toNat, 0]
def k0_off10 (k0_t1 : Fin k0_t1_loop.trips) (c0_i32_3088 : BitVec 32) : Fin 3 → Nat :=
  let c4_3089 : Index := 4#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let v5004 : BitVec 32 := Scalar.addi v237 c0_i32_3088
  let v5005 : Index := Scalar.indexCast v5004
  let c0_3090 : Index := 0#32
  ![4, v5005.toNat, 0]
def k0_off11 (k0_t1 : Fin k0_t1_loop.trips) (c0_i32_3106 : BitVec 32) : Fin 3 → Nat :=
  let c5_3107 : Index := 5#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let c8_i32_3105 : BitVec 32 := 8#32
  let v5034 : BitVec 32 := Scalar.addi v237 c8_i32_3105
  let v5035 : BitVec 32 := Scalar.addi v5034 c0_i32_3106
  let v5036 : Index := Scalar.indexCast v5035
  let c0_3108 : Index := 0#32
  ![5, v5036.toNat, 0]
def k0_off12 (k0_t1 : Fin k0_t1_loop.trips) (c0_i32_3691 : BitVec 32) : Fin 3 → Nat :=
  let c5_3692 : Index := 5#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let v5962 : BitVec 32 := Scalar.addi v237 c0_i32_3691
  let v5963 : Index := Scalar.indexCast v5962
  let c0_3693 : Index := 0#32
  ![5, v5963.toNat, 0]
def k0_off13 (k0_t1 : Fin k0_t1_loop.trips) (c0_i32_3708 : BitVec 32) : Fin 3 → Nat :=
  let c6_3709 : Index := 6#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let c8_i32_3707 : BitVec 32 := 8#32
  let v5992 : BitVec 32 := Scalar.addi v237 c8_i32_3707
  let v5993 : BitVec 32 := Scalar.addi v5992 c0_i32_3708
  let v5994 : Index := Scalar.indexCast v5993
  let c0_3710 : Index := 0#32
  ![6, v5994.toNat, 0]
def k0_off14 (k0_t1 : Fin k0_t1_loop.trips) (c0_i32_4293 : BitVec 32) : Fin 3 → Nat :=
  let c6_4294 : Index := 6#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let v6920 : BitVec 32 := Scalar.addi v237 c0_i32_4293
  let v6921 : Index := Scalar.indexCast v6920
  let c0_4295 : Index := 0#32
  ![6, v6921.toNat, 0]
def k0_off15 (k0_t1 : Fin k0_t1_loop.trips) (c0_i32_4310 : BitVec 32) : Fin 3 → Nat :=
  let c7_4311 : Index := 7#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let c8_i32_4309 : BitVec 32 := 8#32
  let v6950 : BitVec 32 := Scalar.addi v237 c8_i32_4309
  let v6951 : BitVec 32 := Scalar.addi v6950 c0_i32_4310
  let v6952 : Index := Scalar.indexCast v6951
  let c0_4312 : Index := 0#32
  ![7, v6952.toNat, 0]
def k0_off16 (k0_t1 : Fin k0_t1_loop.trips) (c0_i32_4895 : BitVec 32) : Fin 3 → Nat :=
  let c7_4896 : Index := 7#32
  let c0_i32_17 : BitVec 32 := 0#32
  let c1_i32 : BitVec 32 := 1#32
  let arg20 : BitVec 32 := Scf.iv c0_i32_17 c1_i32 k0_t1
  let c32_i32 : BitVec 32 := 32#32
  let v236 : BitVec 32 := Scalar.muli arg20 c32_i32
  let v237 : BitVec 32 := v236
  let v7878 : BitVec 32 := Scalar.addi v237 c0_i32_4895
  let v7879 : Index := Scalar.indexCast v7878
  let c0_4897 : Index := 0#32
  ![7, v7879.toNat, 0]
def cc0_transform_0 (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x248x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S8x32768x128 : Shape := ⟨3, ![8, 32768, 128]⟩
abbrev S32768x1024 : Shape := ⟨2, ![32768, 1024]⟩
abbrev S1x1024x7168 : Shape := ⟨3, ![1, 1024, 7168]⟩
abbrev S1x7168 : Shape := ⟨2, ![1, 7168]⟩
abbrev S1x31x1024 : Shape := ⟨3, ![1, 31, 1024]⟩
abbrev S1x1024 : Shape := ⟨2, ![1, 1024]⟩
abbrev S1x1024x1024 : Shape := ⟨3, ![1, 1024, 1024]⟩
abbrev S4096x8x1024 : Shape := ⟨3, ![4096, 8, 1024]⟩
abbrev S8x4096x1024 : Shape := ⟨3, ![8, 4096, 1024]⟩
abbrev S32768x8x128 : Shape := ⟨3, ![32768, 8, 128]⟩
abbrev S_ : Shape := ⟨0, ![]⟩
abbrev S8x4126x1024 : Shape := ⟨3, ![8, 4126, 1024]⟩
abbrev S1x1x1024 : Shape := ⟨3, ![1, 1, 1024]⟩
abbrev S1024 : Shape := ⟨1, ![1024]⟩
abbrev S8x4096 : Shape := ⟨2, ![8, 4096]⟩
abbrev S8x4096x1 : Shape := ⟨3, ![8, 4096, 1]⟩
abbrev S1024x1024 : Shape := ⟨2, ![1024, 1024]⟩
abbrev S1024x7168 : Shape := ⟨2, ![1024, 7168]⟩
abbrev S8x4096x7168 : Shape := ⟨3, ![8, 4096, 7168]⟩
abbrev S7168 : Shape := ⟨1, ![7168]⟩
abbrev S1x1x7168 : Shape := ⟨3, ![1, 1, 7168]⟩
abbrev S8x4096x2048 : Shape := ⟨3, ![8, 4096, 2048]⟩
abbrev S8x4096x2x1024 : Shape := ⟨4, ![8, 4096, 2, 1024]⟩
abbrev S8x4096x1x1024 : Shape := ⟨4, ![8, 4096, 1, 1024]⟩

abbrev nBuf : Space → Nat
  | .hbm => 352
  | .vmem => 0
  | .smem => 0
  | _ => 0

abbrev hbmTy0_0 (i : Nat) : BufTy := match i % 128 with
  | 0 => ⟨S8x32768x128, .f32⟩
  | 1 => ⟨S32768x1024, .f32⟩
  | 2 => ⟨S32768x1024, .f32⟩
  | 3 => ⟨S1x1024x7168, .f32⟩
  | 4 => ⟨S1x7168, .f32⟩
  | 5 => ⟨S1x31x1024, .f32⟩
  | 6 => ⟨S1x1024, .f32⟩
  | 7 => ⟨S1x1024, .f32⟩
  | 8 => ⟨S1x1024, .f32⟩
  | 9 => ⟨S1x1024x1024, .f32⟩
  | 10 => ⟨S1x1024x1024, .f32⟩
  | 11 => ⟨S1x1024, .f32⟩
  | 12 => ⟨S1x1024, .f32⟩
  | 13 => ⟨S1x1024, .f32⟩
  | 14 => ⟨S4096x8x1024, .f32⟩
  | 15 => ⟨S8x4096x1024, .f32⟩
  | 16 => ⟨S32768x8x128, .f32⟩
  | 17 => ⟨S4096x8x1024, .f32⟩
  | 18 => ⟨S8x4096x1024, .f32⟩
  | 19 => ⟨S_, .i32⟩
  | 20 => ⟨S_, .f32⟩
  | 21 => ⟨S8x4126x1024, .f32⟩
  | 22 => ⟨S8x4096x1024, .f32⟩
  | 23 => ⟨S1x1x1024, .f32⟩
  | 24 => ⟨S1024, .f32⟩
  | 25 => ⟨S1x1x1024, .f32⟩
  | 26 => ⟨S8x4096x1024, .f32⟩
  | 27 => ⟨S8x4096x1024, .f32⟩
  | 28 => ⟨S_, .f32⟩
  | 29 => ⟨S8x4096x1024, .f32⟩
  | 30 => ⟨S8x4096x1024, .f32⟩
  | 31 => ⟨S8x4096x1024, .f32⟩
  | 32 => ⟨S1x1x1024, .f32⟩
  | 33 => ⟨S1024, .f32⟩
  | 34 => ⟨S1x1x1024, .f32⟩
  | 35 => ⟨S8x4096x1024, .f32⟩
  | 36 => ⟨S8x4096x1024, .f32⟩
  | 37 => ⟨S8x4096x1024, .f32⟩
  | 38 => ⟨S8x4096x1024, .f32⟩
  | 39 => ⟨S1x1x1024, .f32⟩
  | 40 => ⟨S1024, .f32⟩
  | 41 => ⟨S1x1x1024, .f32⟩
  | 42 => ⟨S8x4096x1024, .f32⟩
  | 43 => ⟨S8x4096x1024, .f32⟩
  | 44 => ⟨S8x4096x1024, .f32⟩
  | 45 => ⟨S8x4096x1024, .f32⟩
  | 46 => ⟨S1x1x1024, .f32⟩
  | 47 => ⟨S1024, .f32⟩
  | 48 => ⟨S1x1x1024, .f32⟩
  | 49 => ⟨S8x4096x1024, .f32⟩
  | 50 => ⟨S8x4096x1024, .f32⟩
  | 51 => ⟨S8x4096x1024, .f32⟩
  | 52 => ⟨S8x4096x1024, .f32⟩
  | 53 => ⟨S1x1x1024, .f32⟩
  | 54 => ⟨S1024, .f32⟩
  | 55 => ⟨S1x1x1024, .f32⟩
  | 56 => ⟨S8x4096x1024, .f32⟩
  | 57 => ⟨S8x4096x1024, .f32⟩
  | 58 => ⟨S8x4096x1024, .f32⟩
  | 59 => ⟨S8x4096x1024, .f32⟩
  | 60 => ⟨S1x1x1024, .f32⟩
  | 61 => ⟨S1024, .f32⟩
  | 62 => ⟨S1x1x1024, .f32⟩
  | 63 => ⟨S8x4096x1024, .f32⟩
  | 64 => ⟨S8x4096x1024, .f32⟩
  | 65 => ⟨S8x4096x1024, .f32⟩
  | 66 => ⟨S8x4096x1024, .f32⟩
  | 67 => ⟨S1x1x1024, .f32⟩
  | 68 => ⟨S1024, .f32⟩
  | 69 => ⟨S1x1x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S1x1x1024, .f32⟩
  | 75 => ⟨S1024, .f32⟩
  | 76 => ⟨S1x1x1024, .f32⟩
  | 77 => ⟨S8x4096x1024, .f32⟩
  | 78 => ⟨S8x4096x1024, .f32⟩
  | 79 => ⟨S8x4096x1024, .f32⟩
  | 80 => ⟨S8x4096x1024, .f32⟩
  | 81 => ⟨S1x1x1024, .f32⟩
  | 82 => ⟨S1024, .f32⟩
  | 83 => ⟨S1x1x1024, .f32⟩
  | 84 => ⟨S8x4096x1024, .f32⟩
  | 85 => ⟨S8x4096x1024, .f32⟩
  | 86 => ⟨S8x4096x1024, .f32⟩
  | 87 => ⟨S8x4096x1024, .f32⟩
  | 88 => ⟨S1x1x1024, .f32⟩
  | 89 => ⟨S1024, .f32⟩
  | 90 => ⟨S1x1x1024, .f32⟩
  | 91 => ⟨S8x4096x1024, .f32⟩
  | 92 => ⟨S8x4096x1024, .f32⟩
  | 93 => ⟨S8x4096x1024, .f32⟩
  | 94 => ⟨S8x4096x1024, .f32⟩
  | 95 => ⟨S1x1x1024, .f32⟩
  | 96 => ⟨S1024, .f32⟩
  | 97 => ⟨S1x1x1024, .f32⟩
  | 98 => ⟨S8x4096x1024, .f32⟩
  | 99 => ⟨S8x4096x1024, .f32⟩
  | 100 => ⟨S8x4096x1024, .f32⟩
  | 101 => ⟨S8x4096x1024, .f32⟩
  | 102 => ⟨S1x1x1024, .f32⟩
  | 103 => ⟨S1024, .f32⟩
  | 104 => ⟨S1x1x1024, .f32⟩
  | 105 => ⟨S8x4096x1024, .f32⟩
  | 106 => ⟨S8x4096x1024, .f32⟩
  | 107 => ⟨S8x4096x1024, .f32⟩
  | 108 => ⟨S8x4096x1024, .f32⟩
  | 109 => ⟨S1x1x1024, .f32⟩
  | 110 => ⟨S1024, .f32⟩
  | 111 => ⟨S1x1x1024, .f32⟩
  | 112 => ⟨S8x4096x1024, .f32⟩
  | 113 => ⟨S8x4096x1024, .f32⟩
  | 114 => ⟨S8x4096x1024, .f32⟩
  | 115 => ⟨S8x4096x1024, .f32⟩
  | 116 => ⟨S1x1x1024, .f32⟩
  | 117 => ⟨S1024, .f32⟩
  | 118 => ⟨S1x1x1024, .f32⟩
  | 119 => ⟨S8x4096x1024, .f32⟩
  | 120 => ⟨S8x4096x1024, .f32⟩
  | 121 => ⟨S8x4096x1024, .f32⟩
  | 122 => ⟨S8x4096x1024, .f32⟩
  | 123 => ⟨S1x1x1024, .f32⟩
  | 124 => ⟨S1024, .f32⟩
  | 125 => ⟨S1x1x1024, .f32⟩
  | 126 => ⟨S8x4096x1024, .f32⟩
  | 127 => ⟨S8x4096x1024, .f32⟩
  | _ => ⟨S8x32768x128, .f32⟩

abbrev hbmTy0_1 (i : Nat) : BufTy := match i % 128 with
  | 0 => ⟨S8x4096x1024, .f32⟩
  | 1 => ⟨S8x4096x1024, .f32⟩
  | 2 => ⟨S1x1x1024, .f32⟩
  | 3 => ⟨S1024, .f32⟩
  | 4 => ⟨S1x1x1024, .f32⟩
  | 5 => ⟨S8x4096x1024, .f32⟩
  | 6 => ⟨S8x4096x1024, .f32⟩
  | 7 => ⟨S8x4096x1024, .f32⟩
  | 8 => ⟨S8x4096x1024, .f32⟩
  | 9 => ⟨S1x1x1024, .f32⟩
  | 10 => ⟨S1024, .f32⟩
  | 11 => ⟨S1x1x1024, .f32⟩
  | 12 => ⟨S8x4096x1024, .f32⟩
  | 13 => ⟨S8x4096x1024, .f32⟩
  | 14 => ⟨S8x4096x1024, .f32⟩
  | 15 => ⟨S8x4096x1024, .f32⟩
  | 16 => ⟨S1x1x1024, .f32⟩
  | 17 => ⟨S1024, .f32⟩
  | 18 => ⟨S1x1x1024, .f32⟩
  | 19 => ⟨S8x4096x1024, .f32⟩
  | 20 => ⟨S8x4096x1024, .f32⟩
  | 21 => ⟨S8x4096x1024, .f32⟩
  | 22 => ⟨S8x4096x1024, .f32⟩
  | 23 => ⟨S1x1x1024, .f32⟩
  | 24 => ⟨S1024, .f32⟩
  | 25 => ⟨S1x1x1024, .f32⟩
  | 26 => ⟨S8x4096x1024, .f32⟩
  | 27 => ⟨S8x4096x1024, .f32⟩
  | 28 => ⟨S8x4096x1024, .f32⟩
  | 29 => ⟨S8x4096x1024, .f32⟩
  | 30 => ⟨S1x1x1024, .f32⟩
  | 31 => ⟨S1024, .f32⟩
  | 32 => ⟨S1x1x1024, .f32⟩
  | 33 => ⟨S8x4096x1024, .f32⟩
  | 34 => ⟨S8x4096x1024, .f32⟩
  | 35 => ⟨S8x4096x1024, .f32⟩
  | 36 => ⟨S8x4096x1024, .f32⟩
  | 37 => ⟨S1x1x1024, .f32⟩
  | 38 => ⟨S1024, .f32⟩
  | 39 => ⟨S1x1x1024, .f32⟩
  | 40 => ⟨S8x4096x1024, .f32⟩
  | 41 => ⟨S8x4096x1024, .f32⟩
  | 42 => ⟨S8x4096x1024, .f32⟩
  | 43 => ⟨S8x4096x1024, .f32⟩
  | 44 => ⟨S1x1x1024, .f32⟩
  | 45 => ⟨S1024, .f32⟩
  | 46 => ⟨S1x1x1024, .f32⟩
  | 47 => ⟨S8x4096x1024, .f32⟩
  | 48 => ⟨S8x4096x1024, .f32⟩
  | 49 => ⟨S8x4096x1024, .f32⟩
  | 50 => ⟨S8x4096x1024, .f32⟩
  | 51 => ⟨S1x1x1024, .f32⟩
  | 52 => ⟨S1024, .f32⟩
  | 53 => ⟨S1x1x1024, .f32⟩
  | 54 => ⟨S8x4096x1024, .f32⟩
  | 55 => ⟨S8x4096x1024, .f32⟩
  | 56 => ⟨S8x4096x1024, .f32⟩
  | 57 => ⟨S8x4096x1024, .f32⟩
  | 58 => ⟨S1x1x1024, .f32⟩
  | 59 => ⟨S1024, .f32⟩
  | 60 => ⟨S1x1x1024, .f32⟩
  | 61 => ⟨S8x4096x1024, .f32⟩
  | 62 => ⟨S8x4096x1024, .f32⟩
  | 63 => ⟨S8x4096x1024, .f32⟩
  | 64 => ⟨S8x4096x1024, .f32⟩
  | 65 => ⟨S1x1x1024, .f32⟩
  | 66 => ⟨S1024, .f32⟩
  | 67 => ⟨S1x1x1024, .f32⟩
  | 68 => ⟨S8x4096x1024, .f32⟩
  | 69 => ⟨S8x4096x1024, .f32⟩
  | 70 => ⟨S8x4096x1024, .f32⟩
  | 71 => ⟨S8x4096x1024, .f32⟩
  | 72 => ⟨S1x1x1024, .f32⟩
  | 73 => ⟨S1024, .f32⟩
  | 74 => ⟨S1x1x1024, .f32⟩
  | 75 => ⟨S8x4096x1024, .f32⟩
  | 76 => ⟨S8x4096x1024, .f32⟩
  | 77 => ⟨S8x4096x1024, .f32⟩
  | 78 => ⟨S8x4096x1024, .f32⟩
  | 79 => ⟨S1x1x1024, .f32⟩
  | 80 => ⟨S1024, .f32⟩
  | 81 => ⟨S1x1x1024, .f32⟩
  | 82 => ⟨S8x4096x1024, .f32⟩
  | 83 => ⟨S8x4096x1024, .f32⟩
  | 84 => ⟨S8x4096x1024, .f32⟩
  | 85 => ⟨S8x4096x1024, .f32⟩
  | 86 => ⟨S1x1x1024, .f32⟩
  | 87 => ⟨S1024, .f32⟩
  | 88 => ⟨S1x1x1024, .f32⟩
  | 89 => ⟨S8x4096x1024, .f32⟩
  | 90 => ⟨S8x4096x1024, .f32⟩
  | 91 => ⟨S8x4096x1024, .f32⟩
  | 92 => ⟨S8x4096x1024, .f32⟩
  | 93 => ⟨S1x1x1024, .f32⟩
  | 94 => ⟨S1024, .f32⟩
  | 95 => ⟨S1x1x1024, .f32⟩
  | 96 => ⟨S8x4096x1024, .f32⟩
  | 97 => ⟨S8x4096x1024, .f32⟩
  | 98 => ⟨S8x4096x1024, .f32⟩
  | 99 => ⟨S8x4096x1024, .f32⟩
  | 100 => ⟨S1x1x1024, .f32⟩
  | 101 => ⟨S1024, .f32⟩
  | 102 => ⟨S1x1x1024, .f32⟩
  | 103 => ⟨S8x4096x1024, .f32⟩
  | 104 => ⟨S8x4096x1024, .f32⟩
  | 105 => ⟨S8x4096x1024, .f32⟩
  | 106 => ⟨S8x4096x1024, .f32⟩
  | 107 => ⟨S1x1x1024, .f32⟩
  | 108 => ⟨S1024, .f32⟩
  | 109 => ⟨S1x1x1024, .f32⟩
  | 110 => ⟨S8x4096x1024, .f32⟩
  | 111 => ⟨S8x4096x1024, .f32⟩
  | 112 => ⟨S8x4096x1024, .f32⟩
  | 113 => ⟨S1024, .f32⟩
  | 114 => ⟨S1x1x1024, .f32⟩
  | 115 => ⟨S8x4096x1024, .f32⟩
  | 116 => ⟨S8x4096x1024, .f32⟩
  | 117 => ⟨S1024, .f32⟩
  | 118 => ⟨S1024, .f32⟩
  | 119 => ⟨S_, .f32⟩
  | 120 => ⟨S8x4096, .f32⟩
  | 121 => ⟨S8x4096x1, .f32⟩
  | 122 => ⟨S_, .f32⟩
  | 123 => ⟨S8x4096x1, .f32⟩
  | 124 => ⟨S8x4096x1, .f32⟩
  | 125 => ⟨S8x4096x1024, .f32⟩
  | 126 => ⟨S8x4096x1024, .f32⟩
  | 127 => ⟨S8x4096x1024, .f32⟩
  | _ => ⟨S8x32768x128, .f32⟩

abbrev hbmTy0_2 (i : Nat) : BufTy := match i % 128 with
  | 0 => ⟨S_, .f32⟩
  | 1 => ⟨S8x4096, .f32⟩
  | 2 => ⟨S8x4096x1, .f32⟩
  | 3 => ⟨S_, .f32⟩
  | 4 => ⟨S8x4096x1, .f32⟩
  | 5 => ⟨S8x4096x1, .f32⟩
  | 6 => ⟨S8x4096x1024, .f32⟩
  | 7 => ⟨S8x4096x1024, .f32⟩
  | 8 => ⟨S_, .f32⟩
  | 9 => ⟨S8x4096x1, .f32⟩
  | 10 => ⟨S8x4096x1, .f32⟩
  | 11 => ⟨S8x4096x1, .f32⟩
  | 12 => ⟨S8x4096x1024, .f32⟩
  | 13 => ⟨S8x4096x1024, .f32⟩
  | 14 => ⟨S1x1x1024, .f32⟩
  | 15 => ⟨S8x4096x1024, .f32⟩
  | 16 => ⟨S8x4096x1024, .f32⟩
  | 17 => ⟨S1x1x1024, .f32⟩
  | 18 => ⟨S8x4096x1024, .f32⟩
  | 19 => ⟨S8x4096x1024, .f32⟩
  | 20 => ⟨S8x4096x1024, .f32⟩
  | 21 => ⟨S8x4096x1024, .f32⟩
  | 22 => ⟨S_, .f32⟩
  | 23 => ⟨S8x4096x1024, .f32⟩
  | 24 => ⟨S8x4096x1024, .f32⟩
  | 25 => ⟨S_, .f32⟩
  | 26 => ⟨S8x4096x1024, .f32⟩
  | 27 => ⟨S8x4096x1024, .f32⟩
  | 28 => ⟨S8x4096x1024, .f32⟩
  | 29 => ⟨S1024x1024, .f32⟩
  | 30 => ⟨S8x4096x1024, .f32⟩
  | 31 => ⟨S1024x7168, .f32⟩
  | 32 => ⟨S8x4096x7168, .f32⟩
  | 33 => ⟨S7168, .f32⟩
  | 34 => ⟨S1x1x7168, .f32⟩
  | 35 => ⟨S8x4096x7168, .f32⟩
  | 36 => ⟨S8x4096x7168, .f32⟩
  | 37 => ⟨S8x4096x2048, .f32⟩
  | 38 => ⟨S8x4096x2048, .f32⟩
  | 39 => ⟨S8x4096x2048, .f32⟩
  | 40 => ⟨S_, .f32⟩
  | 41 => ⟨S8x4096x2048, .f32⟩
  | 42 => ⟨S8x4096x2048, .f32⟩
  | 43 => ⟨S_, .f32⟩
  | 44 => ⟨S8x4096x2048, .f32⟩
  | 45 => ⟨S8x4096x2048, .f32⟩
  | 46 => ⟨S8x4096x2x1024, .f32⟩
  | 47 => ⟨S4096x8x1024, .f32⟩
  | 48 => ⟨S8x4096x1024, .f32⟩
  | 49 => ⟨S8x4096x1x1024, .f32⟩
  | 50 => ⟨S8x4096x1024, .f32⟩
  | 51 => ⟨S8x4096x1024, .f32⟩
  | 52 => ⟨S8x4096x1024, .f32⟩
  | 53 => ⟨S1024x1024, .f32⟩
  | 54 => ⟨S8x4096x1024, .f32⟩
  | 55 => ⟨S1024, .f32⟩
  | 56 => ⟨S1x1x1024, .f32⟩
  | 57 => ⟨S8x4096x1024, .f32⟩
  | 58 => ⟨S8x4096x1024, .f32⟩
  | 59 => ⟨S_, .f32⟩
  | 60 => ⟨S8x4096x1024, .f32⟩
  | 61 => ⟨S8x4096x1024, .f32⟩
  | 62 => ⟨S8x4096x1024, .f32⟩
  | 63 => ⟨S1024, .f32⟩
  | 64 => ⟨S1024, .f32⟩
  | 65 => ⟨S_, .f32⟩
  | 66 => ⟨S8x4096, .f32⟩
  | 67 => ⟨S8x4096x1, .f32⟩
  | 68 => ⟨S_, .f32⟩
  | 69 => ⟨S8x4096x1, .f32⟩
  | 70 => ⟨S8x4096x1, .f32⟩
  | 71 => ⟨S8x4096x1024, .f32⟩
  | 72 => ⟨S8x4096x1024, .f32⟩
  | 73 => ⟨S8x4096x1024, .f32⟩
  | 74 => ⟨S_, .f32⟩
  | 75 => ⟨S8x4096, .f32⟩
  | 76 => ⟨S8x4096x1, .f32⟩
  | 77 => ⟨S_, .f32⟩
  | 78 => ⟨S8x4096x1, .f32⟩
  | 79 => ⟨S8x4096x1, .f32⟩
  | 80 => ⟨S8x4096x1024, .f32⟩
  | 81 => ⟨S8x4096x1024, .f32⟩
  | 82 => ⟨S_, .f32⟩
  | 83 => ⟨S8x4096x1, .f32⟩
  | 84 => ⟨S8x4096x1, .f32⟩
  | 85 => ⟨S8x4096x1, .f32⟩
  | 86 => ⟨S8x4096x1024, .f32⟩
  | 87 => ⟨S8x4096x1024, .f32⟩
  | 88 => ⟨S1x1x1024, .f32⟩
  | 89 => ⟨S8x4096x1024, .f32⟩
  | 90 => ⟨S8x4096x1024, .f32⟩
  | 91 => ⟨S1x1x1024, .f32⟩
  | 92 => ⟨S8x4096x1024, .f32⟩
  | 93 => ⟨S8x4096x1024, .f32⟩
  | 94 => ⟨S4096x8x1024, .f32⟩
  | 95 => ⟨S32768x1024, .f32⟩
  | _ => ⟨S8x32768x128, .f32⟩

abbrev hbmTy (i : Nat) : BufTy := match i / 128 with
  | 0 => hbmTy0_0 i
  | 1 => hbmTy0_1 i
  | 2 => hbmTy0_2 i
  | _ => ⟨S8x32768x128, .f32⟩

abbrev bufTy : (tb : Table) → Fin (tcTables nBuf tb) → BufTy
  | .hbm, ⟨i, _⟩ => hbmTy i
  | _, _ => ⟨S8x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_cst_0 : Ref sig .tc := ⟨.hbm, 247, rfl⟩
abbrev main_v230 : Ref sig .tc := ⟨.hbm, 248, rfl⟩
abbrev main_v231 : Ref sig .tc := ⟨.hbm, 249, rfl⟩
abbrev main_cst_1 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_cst_2 : Ref sig .tc := ⟨.hbm, 256, rfl⟩
abbrev main_v237 : Ref sig .tc := ⟨.hbm, 257, rfl⟩
abbrev main_v238 : Ref sig .tc := ⟨.hbm, 258, rfl⟩
abbrev main_cst_3 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_cst_4 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_call1_v0 : Ref sig .tc := ⟨.hbm, 276, rfl⟩
abbrev main_call1_v1 : Ref sig .tc := ⟨.hbm, 277, rfl⟩
abbrev main_call1_cst : Ref sig .tc := ⟨.hbm, 278, rfl⟩
abbrev main_call1_v2 : Ref sig .tc := ⟨.hbm, 279, rfl⟩
abbrev main_call1_v3 : Ref sig .tc := ⟨.hbm, 280, rfl⟩
abbrev main_call1_cst_0 : Ref sig .tc := ⟨.hbm, 281, rfl⟩
abbrev main_call1_v4 : Ref sig .tc := ⟨.hbm, 282, rfl⟩
abbrev main_call1_v5 : Ref sig .tc := ⟨.hbm, 283, rfl⟩
abbrev main_v254 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩
abbrev main_v261 : Ref sig .tc := ⟨.hbm, 291, rfl⟩
abbrev main_v262 : Ref sig .tc := ⟨.hbm, 292, rfl⟩
abbrev main_v263 : Ref sig .tc := ⟨.hbm, 293, rfl⟩
abbrev main_v264 : Ref sig .tc := ⟨.hbm, 294, rfl⟩
abbrev main_v265 : Ref sig .tc := ⟨.hbm, 295, rfl⟩
abbrev main_cst_5 : Ref sig .tc := ⟨.hbm, 296, rfl⟩
abbrev main_v266 : Ref sig .tc := ⟨.hbm, 297, rfl⟩
abbrev main_v267 : Ref sig .tc := ⟨.hbm, 298, rfl⟩
abbrev main_cst_6 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_v279 : Ref sig .tc := ⟨.hbm, 311, rfl⟩
abbrev main_v280 : Ref sig .tc := ⟨.hbm, 312, rfl⟩
abbrev main_v281 : Ref sig .tc := ⟨.hbm, 313, rfl⟩
abbrev main_v282 : Ref sig .tc := ⟨.hbm, 314, rfl⟩
abbrev main_cst_7 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_cst_8 : Ref sig .tc := ⟨.hbm, 321, rfl⟩
abbrev main_v288 : Ref sig .tc := ⟨.hbm, 322, rfl⟩
abbrev main_v289 : Ref sig .tc := ⟨.hbm, 323, rfl⟩
abbrev main_cst_9 : Ref sig .tc := ⟨.hbm, 324, rfl⟩
abbrev main_v290 : Ref sig .tc := ⟨.hbm, 325, rfl⟩
abbrev main_v291 : Ref sig .tc := ⟨.hbm, 326, rfl⟩
abbrev main_v292 : Ref sig .tc := ⟨.hbm, 327, rfl⟩
abbrev main_v293 : Ref sig .tc := ⟨.hbm, 328, rfl⟩
abbrev main_v294 : Ref sig .tc := ⟨.hbm, 329, rfl⟩
abbrev main_cst_10 : Ref sig .tc := ⟨.hbm, 330, rfl⟩
abbrev main_v295 : Ref sig .tc := ⟨.hbm, 331, rfl⟩
abbrev main_v296 : Ref sig .tc := ⟨.hbm, 332, rfl⟩
abbrev main_cst_11 : Ref sig .tc := ⟨.hbm, 333, rfl⟩
abbrev main_v297 : Ref sig .tc := ⟨.hbm, 334, rfl⟩
abbrev main_v298 : Ref sig .tc := ⟨.hbm, 335, rfl⟩
abbrev main_v299 : Ref sig .tc := ⟨.hbm, 336, rfl⟩
abbrev main_v300 : Ref sig .tc := ⟨.hbm, 337, rfl⟩
abbrev main_cst_12 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩

abbrev nD : Nat := 1
abbrev τ : Topo := Topo.v7x

variable {F : FTy → Type} [FloatOps F]
-- ==== Proof.MlpRing.lean ====
module

public import proofs.«01_k».proof.Proof.Gen.Kernel2Ideal.Frame

/-!
The MLP kernel's write ring, with the contents of what it carries.

The kernel writes its result array through a ring of two slots of eight tiles: a step packs a slot, copies its eight
tiles out to eight pieces of the result, and the copies are waited for two steps later. The families here say what the
tiles and pieces hold: `Y` is the array the result is to become, a slot in flight holds what `Y` has at the step's
pieces, and a piece whose copy has been waited for holds `Y`.
-/

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Contents of the ring's scratch, and of the result array. -/
abbrev Scr (F : FTy → Type) (c : Dev nD) : Type := Buf (Elt F) ((c : Thread nD τ).loc cc0_scratch0)
abbrev Res (F : FTy → Type) (c : Dev nD) : Type := Buf (Elt F) ((c : Thread nD τ).loc main_v12)

section Families
variable (c : Dev nD) (Y : Res F c)

/-- Piece (u, m) once tile (g, m) of the scratch contents `E` has been copied to it. -/
abbrev landed (u : Fin 64) (g : Fin 2) (m : Fin 8) (E : Scr F c) : HbBuf0 (F := F) c (wpiece0_0 u m) :=
  (wpiece0_0 u m).view.writes (Elt F) (wpiece0_0 u m).view.junk
    [⟨Rect.whole S64x1024, ReadAs.same.apply ((wtile0_0 g m).view.read (Elt F) E)⟩]

/-- What step u's copies out of group g deliver, in the order they are issued: the piece landed, the tile back. -/
abbrev dlvV (u : Fin 64) (g : Fin 2) (E : Scr F c) : Fin 8 → sProp 𝕄 := fun j =>
  iprop(wpieceP0_0 c u (wsig0_0 j) (landed c u g (wsig0_0 j) E) ∗ wtileP0_0 c g (wsig0_0 j) E)

/-- Group g's tiles hold what the result is to have at step u's pieces. -/
def Carries (u : Fin 64) (g : Fin 2) (E : Scr F c) : Prop :=
  ∀ m : Fin 8, (wtile0_0 g m).view.read (Elt F) E = (wpiece0_0 u m).view.read (Elt F) Y

/-- Group g's eight tiles, all at the scratch contents `E`. -/
abbrev tilesAt (g : Fin 2) (E : Scr F c) : sProp 𝕄 :=
  iprop(wtileP0_0 c g 0 E ∗ wtileP0_0 c g 1 E ∗ wtileP0_0 c g 2 E ∗ wtileP0_0 c g 3 E
    ∗ wtileP0_0 c g 4 E ∗ wtileP0_0 c g 5 E ∗ wtileP0_0 c g 6 E ∗ wtileP0_0 c g 7 E)

/-- Group g in flight with step u's copies, its tiles holding what the result is to have there. -/
abbrev inflV (g : Fin 2) (u : Fin 64) : sProp 𝕄 :=
  iprop(∃ E : Scr F c, ⌜Carries c Y u g E⌝
    ∗ Transfers.Batch countersEmb (c : Thread nD τ) (wcellR0_0 g) default wN0_0 (dlvV c u g E) 8 0)

/-- Step u's pieces home at the array `Y`. -/
abbrev behindV (u : Fin 64) : sProp 𝕄 :=
  iprop(wpieceP0_0 c u 0 Y ∗ wpieceP0_0 c u 1 Y ∗ wpieceP0_0 c u 2 Y ∗ wpieceP0_0 c u 3 Y
    ∗ wpieceP0_0 c u 4 Y ∗ wpieceP0_0 c u 5 Y ∗ wpieceP0_0 c u 6 Y ∗ wpieceP0_0 c u 7 Y)

/-- Step u's pieces landed from group g. -/
abbrev landedV (u : Fin 64) (g : Fin 2) (E : Scr F c) : sProp 𝕄 :=
  iprop(wpieceP0_0 c u 0 (landed c u g 0 E) ∗ wpieceP0_0 c u 1 (landed c u g 1 E) ∗ wpieceP0_0 c u 2 (landed c u g 2 E)
    ∗ wpieceP0_0 c u 3 (landed c u g 3 E) ∗ wpieceP0_0 c u 4 (landed c u g 4 E) ∗ wpieceP0_0 c u 5 (landed c u g 5 E)
    ∗ wpieceP0_0 c u 6 (landed c u g 6 E) ∗ wpieceP0_0 c u 7 (landed c u g 7 E))

/-- The deliveries are storable. -/
theorem storable_dlvV (u : Fin 64) (g : Fin 2) (E : Scr F c) : ∀ j, Storable (upEmb : UEmb _ 𝕄) (dlvV (F := F) c u g E j) := by
  intro j
  exact @Storable.sep _ _ _ _ _ _ _ _ (wstorable_pt0_0 _ _ _ _) (wstorable_pt0_0 _ _ _ _)

/-- A piece that landed what `Y` has there is the piece at `Y`. -/
theorem piece_landed (u : Fin 64) (g : Fin 2) (E : Scr F c) (h : Carries c Y u g E) (m : Fin 8) :
    wpieceP0_0 (F := F) c u m (landed c u g m E) = wpieceP0_0 c u m Y := by
  unfold wpieceP0_0
  rw [pointsTo_rep (Ix := Unit) (Name := ℕ) (U := Pipeline.UD sig nD τ) (Lvl := ℕ) (c : Thread nD τ) (wpiece0_0 u m),
    pointsTo_rep (Ix := Unit) (Name := ℕ) (U := Pipeline.UD sig nD τ) (Lvl := ℕ) (c : Thread nD τ) (wpiece0_0 u m) Y]
  unfold landed
  rw [View.read_writes_whole, ← h m]

theorem landedV_eq (u : Fin 64) (g : Fin 2) (E : Scr F c) (h : Carries c Y u g E) :
    landedV (F := F) c u g E = behindV c Y u := by
  unfold landedV behindV
  simp only [piece_landed c Y u g E h]

/-- A slot at known contents is its tiles, all at those contents. -/
theorem slab_tiles_eq (g : Fin 2) (E₀ : Scr F c) : (wslabP0_0 (F := F) c g E₀ : sProp 𝕄) ⊢ tilesAt c g E₀ := by
  refine (Entails.of_eq (wslabP0_0_eq c g E₀)).trans ?_
  rw [← wbands0_0_cover g]
  refine (Entails.of_eq (pointsTo_biUnion (ℓ := (c : Thread nD τ).loc cc0_scratch0) (q := fullShare) (f := E₀) Finset.univ
    (fun m : Fin 8 => wtileSet0_0 (g, m))
    (fun m _ m' _ h => wtiles0_0_disjoint (g, m) (g, m') fun h' => h (congrArg Prod.snd h')))).trans ?_
  refine (Entails.of_eq (BI.bigSep_congr fun m _ => (wtileP0_0_eq c g m E₀).symm)).trans ?_
  rw [BI.bigSep_eq_bigSepL_of_eq [0, 1, 2, 3, 4, 5, 6, 7] (by decide) (by decide)]
  exact Entails.of_eq rfl

/-- A slot at known contents is its tiles, all at those contents (given a name). -/
theorem slab_tiles (g : Fin 2) (E₀ : Scr F c) :
    wslabP0_0 (F := F) c g E₀ ⊢ (iprop(∃ E : Scr F c, ⌜E = E₀⌝ ∗ tilesAt c g E) : sProp 𝕄) := by
  iintro H
  iexists E₀
  isplitr
  · ipureintro; rfl
  iapply (slab_tiles_eq c g E₀)
  iexact H

/-- The tiles at the contents they carried are the tiles at some contents each. -/
theorem tiles_some (g : Fin 2) (E : Scr F c) :
    tilesAt (F := F) c g E ⊢ iprop((∃ e, wtileP0_0 c g 0 e) ∗ (∃ e, wtileP0_0 c g 1 e) ∗ (∃ e, wtileP0_0 c g 2 e)
      ∗ (∃ e, wtileP0_0 c g 3 e) ∗ (∃ e, wtileP0_0 c g 4 e) ∗ (∃ e, wtileP0_0 c g 5 e) ∗ (∃ e, wtileP0_0 c g 6 e)
      ∗ ∃ e, wtileP0_0 c g 7 e) := by
  iintro ⟨H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

/-- and they join to the slot at some contents. -/
theorem tiles_slab (g : Fin 2) (E : Scr F c) : tilesAt (F := F) c g E ⊢ iprop(∃ e, wslabP0_0 c g e) :=
  (tiles_some c g E).trans (wslab0_0_join c g)

end Families

end Cert.Kernel2Ideal.Mlp

end
-- ==== Proof.MlpSlab.lean ====
module

public import proofs.«01_k».proof.Proof.MlpRing
public import Idealize.ShloMosaic.Lib.Pipeline.ValueKit
public import Idealize.ShloMosaic.Lib.PointwiseCore

/-!
What the MLP kernel packs into a slot of its ring: the layer's rows of the step's block, in two halves of 256 rows.
-/

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The kernel's seven inputs at a point, each in its staging buffer. -/
abbrev inputs (c : Dev nD) (arg1 : Memref sig .tc .vmem S512x1024 .f32) (arg2 : Memref sig .tc .vmem S1024x4096 .bf16)
    (arg3 : Memref sig .tc .vmem S1x4096 .f32) (arg4 : Memref sig .tc .vmem S4096x1024 .bf16)
    (arg5 arg6 arg7 : Memref sig .tc .vmem S1x1024 .f32)
    (x0 : Vec F S512x1024 .f32) (x1 : Vec F S1024x4096 .bf16) (x2 : Vec F S1x4096 .f32) (x3 : Vec F S4096x1024 .bf16)
    (x4 x5 x6 : Vec F S1x1024 .f32) : sProp 𝕄 :=
  iprop(owns (c : Thread nD τ) arg1 fullShare x0 ∗ owns (c : Thread nD τ) arg2 fullShare x1
    ∗ owns (c : Thread nD τ) arg3 fullShare x2 ∗ owns (c : Thread nD τ) arg4 fullShare x3
    ∗ owns (c : Thread nD τ) arg5 fullShare x4 ∗ owns (c : Thread nD τ) arg6 fullShare x5
    ∗ owns (c : Thread nD τ) arg7 fullShare x6)

/-- A whole buffer at what reads as `x` is the buffer at `x`. -/
theorem owns_unread (c : Dev nD) {sp : Space} {sh : Shape} {e : EltTy} (a : Memref sig .tc sp sh e) (h : a.IsWhole)
    (x : Vec F sh e) :
    (a.view.loc (c : Thread nD τ) ↦[a.view.set]{fullShare} h.unread x : sProp 𝕄) ⊢ owns (c : Thread nD τ) a fullShare x := by
  unfold owns
  iintro H
  iexists _
  isplitr
  · ipureintro; exact h.read_unread _
  iexact H

/-- The seven input buffers, found as they were. -/
theorem inputs_unread (c : Dev nD)
    (arg1 : Memref sig .tc .vmem S512x1024 .f32) (harg1 : arg1.IsWhole) (arg2 : Memref sig .tc .vmem S1024x4096 .bf16) (harg2 : arg2.IsWhole)
    (arg3 : Memref sig .tc .vmem S1x4096 .f32) (harg3 : arg3.IsWhole) (arg4 : Memref sig .tc .vmem S4096x1024 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole)
    (x0 : Vec F S512x1024 .f32) (x1 : Vec F S1024x4096 .bf16) (x2 : Vec F S1x4096 .f32) (x3 : Vec F S4096x1024 .bf16)
    (x4 x5 x6 : Vec F S1x1024 .f32) :
    iprop((arg1.view.loc (c : Thread nD τ) ↦[arg1.view.set]{fullShare} harg1.unread x0)
        ∗ (arg2.view.loc (c : Thread nD τ) ↦[arg2.view.set]{fullShare} harg2.unread x1)
        ∗ (arg3.view.loc (c : Thread nD τ) ↦[arg3.view.set]{fullShare} harg3.unread x2)
        ∗ (arg4.view.loc (c : Thread nD τ) ↦[arg4.view.set]{fullShare} harg4.unread x3)
        ∗ (arg5.view.loc (c : Thread nD τ) ↦[arg5.view.set]{fullShare} harg5.unread x4)
        ∗ (arg6.view.loc (c : Thread nD τ) ↦[arg6.view.set]{fullShare} harg6.unread x5)
        ∗ (arg7.view.loc (c : Thread nD τ) ↦[arg7.view.set]{fullShare} harg7.unread x6))
      ⊢ (inputs c arg1 arg2 arg3 arg4 arg5 arg6 arg7 x0 x1 x2 x3 x4 x5 x6 : sProp 𝕄) := by
  exact BI.sep_mono (owns_unread c arg1 harg1 x0) (BI.sep_mono (owns_unread c arg2 harg2 x1) (BI.sep_mono (owns_unread c arg3 harg3 x2)
    (BI.sep_mono (owns_unread c arg4 harg4 x3) (BI.sep_mono (owns_unread c arg5 harg5 x4) (BI.sep_mono (owns_unread c arg6 harg6 x5)
      (owns_unread c arg7 harg7 x6))))))

/-- 256 rows of the step's block of inputs, from row `n`. -/
abbrev halfRows (n : ℕ) (h : ∀ a, ![n, 0] a + S256x1024.size a ≤ S512x1024.size a) (x0 : Vec F S512x1024 .f32) :
    Vec F S256x1024 .f32 := View.ld x0 (Rect.unit (s := S512x1024) ![n, 0] S256x1024.size h)

/-- The MLP, the residual and the norm on 256 rows, as the kernel computes them, laid out as 32 groups of 8 rows. -/
abbrev half (h : Vec F S256x1024 .f32) (x1 : Vec F S1024x4096 .bf16) (x2 : Vec F S1x4096 .f32) (x3 : Vec F S4096x1024 .bf16)
    (x4 x5 x6 : Vec F S1x1024 .f32) : FVec F S32x8x1024 .f32 := k0_pay2 (k0_pay1 h x1 x2 x3 x4) x5 x6

/-- The kernel's second half, whose computation the program spells over three payloads. -/
theorem half_eq (h : Vec F S256x1024 .f32) (x1 : Vec F S1024x4096 .bf16) (x2 : Vec F S1x4096 .f32)
    (x3 : Vec F S4096x1024 .bf16) (x4 x5 x6 : Vec F S1x1024 .f32) :
    k0_pay6 (k0_pay5 h (k0_pay3 h x1) (k0_pay4 x2) x3 x4 x5 x6) = half h x1 x2 x3 x4 x5 x6 := rfl

/-- Two halves of a slot, stacked. -/
def stack (p0 p1 : FVec F S32x8x1024 .f32) : Vec F S64x8x1024 .f32 := fun y =>
  if h : (y 0 : ℕ) < 32 then p0 (ix3 ⟨(y 0 : ℕ), h⟩ ⟨(y 1 : ℕ), (y 1).isLt⟩ ⟨(y 2 : ℕ), (y 2).isLt⟩)
  else p1 (ix3 ⟨(y 0 : ℕ) - 32, by have := (y 0).isLt; change (y 0 : ℕ) < 64 at this; omega⟩
    ⟨(y 1 : ℕ), (y 1).isLt⟩ ⟨(y 2 : ℕ), (y 2).isLt⟩)

/-- The slot a step packs, of the step's inputs. -/
def slab (x0 : Vec F S512x1024 .f32) (x1 : Vec F S1024x4096 .bf16) (x2 : Vec F S1x4096 .f32)
    (x3 : Vec F S4096x1024 .bf16) (x4 x5 x6 : Vec F S1x1024 .f32) : Vec F S64x8x1024 .f32 :=
  stack (half (halfRows 0 inb_S512x1024_S256x1024_0_0 x0) x1 x2 x3 x4 x5 x6)
    (half (halfRows 256 inb_S512x1024_S256x1024_256_0 x0) x1 x2 x3 x4 x5 x6)

/-- The two stores that pack a slot, the later first. -/
abbrev packs (p0 p1 : FVec F S32x8x1024 .f32) : List (View.Piece (Elt F) S64x8x1024 .f32) :=
  [⟨Rect.unit (s := S64x8x1024) ![32, 0, 0] S32x8x1024.size inb_S64x8x1024_S32x8x1024_32_0_0, p1⟩,
   ⟨Rect.unit (s := S64x8x1024) ![0, 0, 0] S32x8x1024.size inb_S64x8x1024_S32x8x1024_0_0_0, p0⟩]

/-- A slot so packed reads as the two halves stacked. -/
theorem read_packs (g : Fin 2) (f : (wslab0_0 g).view.ty.Contents (Elt F)) (p0 p1 : FVec F S32x8x1024 .f32) :
    (wslab0_0 g).view.read (Elt F) ((wslab0_0 g).view.writes (Elt F) f (packs p0 p1)) = stack p0 p1 := by
  have hcov : ∀ y : S64x8x1024.Idx, ∃ p ∈ packs p0 p1, y ∈ p.1.set := by
    intro y
    have h0 : (y 0 : ℕ) < 64 := (y 0).isLt
    have h1 : (y 1 : ℕ) < 8 := (y 1).isLt
    have h2 : (y 2 : ℕ) < 1024 := (y 2).isLt
    by_cases hy : (y 0 : ℕ) < 32
    · refine ⟨_, List.mem_cons_of_mem _ List.mem_cons_self, ?_⟩
      rw [Rect.mem_set_unit]
      intro a
      fin_cases a
      · exact ⟨Nat.zero_le _, by show (y 0 : ℕ) < 0 + 32; omega⟩
      · exact ⟨Nat.zero_le _, by show (y 1 : ℕ) < 0 + 8; omega⟩
      · exact ⟨Nat.zero_le _, by show (y 2 : ℕ) < 0 + 1024; omega⟩
    · refine ⟨_, List.mem_cons_self, ?_⟩
      rw [Rect.mem_set_unit]
      intro a
      fin_cases a
      · exact ⟨by show 32 ≤ (y 0 : ℕ); omega, by show (y 0 : ℕ) < 32 + 32; omega⟩
      · exact ⟨Nat.zero_le _, by show (y 1 : ℕ) < 0 + 8; omega⟩
      · exact ⟨Nat.zero_le _, by show (y 2 : ℕ) < 0 + 1024; omega⟩
  rw [View.read_writes_eq_canon _ _ _ hcov]
  funext y
  refine View.canon_apply_of_pieces (Val := Elt F) (e := .f32) (stack p0 p1) _ ?_ y (hcov y)
  intro q hq
  simp only [List.mem_cons, List.not_mem_nil, or_false] at hq
  rcases hq with rfl | rfl
  · intro x
    have h0 : (x 0 : ℕ) < 32 := (x 0).isLt
    unfold stack
    rw [dif_neg (by rw [ValueKit.rect_emb_unit_val]; show ¬ 32 + (x 0 : ℕ) < 32; omega)]
    refine congrArg p1 ((eq_ix3 (n0 := 32) (n1 := 8) (n2 := 1024) x).trans ?_)
    funext a
    fin_cases a
    · refine Fin.ext ?_
      show (x 0 : ℕ) = ((Rect.unit (s := S64x8x1024) ![32, 0, 0] S32x8x1024.size inb_S64x8x1024_S32x8x1024_32_0_0).emb x 0 : ℕ) - 32
      rw [ValueKit.rect_emb_unit_val]
      show (x 0 : ℕ) = 32 + (x 0 : ℕ) - 32
      omega
    · refine Fin.ext ?_
      show (x 1 : ℕ) = ((Rect.unit (s := S64x8x1024) ![32, 0, 0] S32x8x1024.size inb_S64x8x1024_S32x8x1024_32_0_0).emb x 1 : ℕ)
      rw [ValueKit.rect_emb_unit_val]
      exact (Nat.zero_add _).symm
    · refine Fin.ext ?_
      show (x 2 : ℕ) = ((Rect.unit (s := S64x8x1024) ![32, 0, 0] S32x8x1024.size inb_S64x8x1024_S32x8x1024_32_0_0).emb x 2 : ℕ)
      rw [ValueKit.rect_emb_unit_val]
      exact (Nat.zero_add _).symm
  · intro x
    have h0 : (x 0 : ℕ) < 32 := (x 0).isLt
    unfold stack
    rw [dif_pos (by rw [ValueKit.rect_emb_unit_val]; show 0 + (x 0 : ℕ) < 32; omega)]
    refine congrArg p0 ((eq_ix3 (n0 := 32) (n1 := 8) (n2 := 1024) x).trans ?_)
    funext a
    fin_cases a
    all_goals
      refine Fin.ext ?_
      exact ((ValueKit.rect_emb_unit_val (s := S64x8x1024) ![0, 0, 0] S32x8x1024.size inb_S64x8x1024_S32x8x1024_0_0_0 x _).trans (Nat.zero_add _)).symm

theorem hz : (![0, 0] : Fin 2 → Nat) = fun _ => 0 := funext fun a => by fin_cases a <;> rfl

end Cert.Kernel2Ideal.Mlp

end
-- ==== Proof.MlpGeom.lean ====
module

public import proofs.«01_k».proof.Proof.MlpSlab

/-!
Where the MLP kernel's tiles, slots and pieces lie in the ring's scratch and in the result array, and the result array
itself: row `64 u + r` of sequence `b` is row `r` of sequence `b` in the slot of step `u`.
-/

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Row `r`, column `j` of tile `m` of slot `g` is element `(g, r, m, j)` of the scratch. -/
theorem tile_read (g : Fin 2) (m : Fin 8) (E : S2x64x8x1024.Idx → Elt F .f32) (r : Fin 64) (j : Fin 1024) :
    (wtile0_0 g m).view.read (Elt F) E (ix2 r j) = E (ix4 g r m j) := by
  have hx : Shape.reshapeEquiv (s := S1x64x1x1024) (s' := S64x1024) (by decide) (ix2 r j)
      = ix4 (⟨0, Nat.one_pos⟩ : Fin 1) r (⟨0, Nat.one_pos⟩ : Fin 1) j :=
    Shape.reshapeEquiv_eq_of_rowMajor _ (by
      rw [Shape.rowMajor_val_four, Shape.rowMajor_val_two]
      show (((0 * 64 + r.val) * 1 + 0) * 1024 + j.val) = r.val * 1024 + j.val
      omega)
  show E ((Rect.unit (s := S2x64x8x1024) ![g.val, 0, m.val, 0] S1x64x1x1024.size (inb_wtile0_0 g m)).emb
    (Shape.reshapeEquiv (s := S1x64x1x1024) (s' := S64x1024) (by decide) (ix2 r j))) = _
  rw [hx]
  refine congrArg E (funext fun a => Fin.ext ?_)
  rw [ValueKit.rect_emb_unit_val]
  fin_cases a
  · exact Nat.add_zero _
  · exact Nat.zero_add _
  · exact Nat.add_zero _
  · exact Nat.zero_add _

/-- Element `(r, m, j)` of slot `g` is element `(g, r, m, j)` of the scratch. -/
theorem slab_at (g : Fin 2) (E : S2x64x8x1024.Idx → Elt F .f32) (r : Fin 64) (m : Fin 8) (j : Fin 1024) :
    (wslab0_0 g).view.read (Elt F) E (ix3 r m j) = E (ix4 g r m j) := by
  have hx : Shape.reshapeEquiv (s := S1x64x8x1024) (s' := S64x8x1024) (by decide) (ix3 r m j)
      = ix4 (⟨0, Nat.one_pos⟩ : Fin 1) r m j :=
    Shape.reshapeEquiv_eq_of_rowMajor _ (by
      rw [Shape.rowMajor_val_four, Shape.rowMajor_val_three]
      show (((0 * 64 + r.val) * 8 + m.val) * 1024 + j.val) = (r.val * 8 + m.val) * 1024 + j.val
      omega)
  show E ((Rect.unit (s := S2x64x8x1024) ![g.val, 0, 0, 0] S1x64x8x1024.size (inb_wslab0_0 g)).emb
    (Shape.reshapeEquiv (s := S1x64x8x1024) (s' := S64x8x1024) (by decide) (ix3 r m j))) = _
  rw [hx]
  refine congrArg E (funext fun a => Fin.ext ?_)
  rw [ValueKit.rect_emb_unit_val]
  fin_cases a
  · exact Nat.add_zero _
  · exact Nat.zero_add _
  · exact Nat.zero_add _
  · exact Nat.zero_add _

/-- Row `r`, column `j` of piece `(u, m)` is element `(m, 64 u + r, j)` of the result. -/
theorem piece_read (u : Fin 64) (m : Fin 8) (Y : S8x4096x1024.Idx → Elt F .f32) (r : Fin 64) (j : Fin 1024) :
    (wpiece0_0 u m).view.read (Elt F) Y (ix2 r j) = Y (ix3 m (⟨64 * u.val + r.val, by omega⟩ : Fin 4096) j) := by
  have hx : Shape.reshapeEquiv (s := S1x64x1024) (s' := S64x1024) (by decide) (ix2 r j)
      = ix3 (⟨0, Nat.one_pos⟩ : Fin 1) r j :=
    Shape.reshapeEquiv_eq_of_rowMajor _ (by
      rw [Shape.rowMajor_val_three, Shape.rowMajor_val_two]
      show ((0 * 64 + r.val) * 1024 + j.val) = r.val * 1024 + j.val
      omega)
  show Y ((Rect.unit (s := S8x4096x1024) ![m.val, 64 * u.val, 0] S1x64x1024.size (inb_wpiece0_0 u m)).emb
    (Shape.reshapeEquiv (s := S1x64x1024) (s' := S64x1024) (by decide) (ix2 r j))) = _
  rw [hx]
  refine congrArg Y (funext fun a => Fin.ext ?_)
  rw [ValueKit.rect_emb_unit_val]
  fin_cases a
  · exact Nat.add_zero _
  · rfl
  · exact Nat.zero_add _

/-- The slot step `t` packs, of the step's blocks of the region's arrays. -/
abbrev slabAt (m : (ℓ : Loc nD τ sig) → Buf (Elt F) ℓ) (c : Dev nD) (t : Fin cfg0.N) : Vec F S64x8x1024 .f32 :=
  slab (iblk m c 0 t) (iblk m c 1 t) (iblk m c 2 t) (iblk m c 3 t) (iblk m c 4 t) (iblk m c 5 t) (iblk m c 6 t)

/-- The array the result is to become. -/
def result (m : (ℓ : Loc nD τ sig) → Buf (Elt F) ℓ) (c : Dev nD) : S8x4096x1024.Idx → Elt F .f32 := fun i =>
  slabAt m c ⟨(i 1 : ℕ) / 64, by
      have h : (i 1 : ℕ) < 4096 := (i 1).isLt
      show (i 1 : ℕ) / 64 < grid0.N
      rw [N_0]
      omega⟩
    (ix3 (⟨(i 1 : ℕ) % 64, Nat.mod_lt _ (by decide)⟩ : Fin 64) (⟨(i 0 : ℕ), (i 0).isLt⟩ : Fin 8) (⟨(i 2 : ℕ), (i 2).isLt⟩ : Fin 1024))

/-- A slot packed as step `t` packs it holds what the result is to have at step `t`'s pieces. -/
theorem carries (m : (ℓ : Loc nD τ sig) → Buf (Elt F) ℓ) (c : Dev nD) (t : Fin cfg0.N) (E : Scr F c)
    (hE : (wslab0_0 (Ring.sl 2 t.val)).view.read (Elt F) E = slabAt m c t) :
    Carries c (result m c) (Ring.bk 64 t.val) (Ring.sl 2 t.val) E := by
  intro k
  funext x
  obtain ⟨r, j, rfl⟩ : ∃ (r : Fin 64) (j : Fin 1024), x = ix2 r j := ⟨x 0, x 1, eq_ix2 x⟩
  rw [tile_read, piece_read, ← slab_at (Ring.sl 2 t.val) E r k j, hE]
  have ht : t.val < 64 := lt_of_lt_of_eq t.isLt (show cfg0.N = 64 from N_0)
  have hu : ((Ring.bk 64 t.val : Fin 64) : ℕ) = t.val := by
    show t.val % 64 = t.val
    exact Nat.mod_eq_of_lt ht
  have hr : (r : ℕ) < 64 := r.isLt
  unfold result
  have e1 : (64 * (Ring.bk 64 t.val : Fin 64).val + r.val) / 64 = t.val := by rw [hu]; omega
  have e2 : (64 * (Ring.bk 64 t.val : Fin 64).val + r.val) % 64 = r.val := by rw [hu]; omega
  refine congr (congrArg (slabAt m c) (Fin.ext e1.symm)) (funext fun a => Fin.ext ?_)
  fin_cases a
  · exact e2.symm
  · rfl
  · rfl

/-- The pieces are the whole result. -/
theorem pieces_cover : Finset.univ.biUnion wpieceSet0_0 = Finset.univ := by
  ext y
  simp only [Finset.mem_biUnion, Finset.mem_univ, true_and, iff_true]
  have h0 : (y 0 : ℕ) < 8 := (y 0).isLt
  have h1 : (y 1 : ℕ) < 4096 := (y 1).isLt
  have h2 : (y 2 : ℕ) < 1024 := (y 2).isLt
  refine ⟨(⟨(y 1 : ℕ) / 64, by omega⟩, ⟨(y 0 : ℕ), h0⟩), ?_⟩
  rw [Rect.mem_set_unit]
  intro a
  fin_cases a
  · exact ⟨le_refl _, Nat.lt_succ_self _⟩
  · constructor
    · show 64 * ((y 1 : ℕ) / 64) ≤ (y 1 : ℕ)
      omega
    · show (y 1 : ℕ) < 64 * ((y 1 : ℕ) / 64) + 64
      omega
  · exact ⟨Nat.zero_le _, by show (y 2 : ℕ) < 0 + 1024; omega⟩

end Cert.Kernel2Ideal.Mlp

end
-- ==== Proof.MlpRunA.lean ====
module

public import proofs.«01_k».proof.Proof.MlpSlab

/-!
The MLP kernel's body at the ring's first two points: nothing to wait for, a free slot packed and copied out.
-/

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2000000 in
theorem runA (c : Dev nD) (t : Fin cfg0.N) (Y : Res F c)
    (arg1 : Memref sig .tc .vmem S512x1024 .f32) (harg1 : arg1.IsWhole) (arg2 : Memref sig .tc .vmem S1024x4096 .bf16) (harg2 : arg2.IsWhole)
    (arg3 : Memref sig .tc .vmem S1x4096 .f32) (harg3 : arg3.IsWhole) (arg4 : Memref sig .tc .vmem S4096x1024 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole)
    (hc0 : ¬cond0_0 (grid0.coords t)) (hc1 : ¬cond0_1 (grid0.coords t))
    (x0 : Vec F S512x1024 .f32) (x1 : Vec F S1024x4096 .bf16) (x2 : Vec F S1x4096 .f32) (x3 : Vec F S4096x1024 .bf16)
    (x4 x5 x6 : Vec F S1x1024 .f32)
    (hY : ∀ E : Scr F c, (wslab0_0 (Ring.sl 2 t.val)).view.read (Elt F) E = slab x0 x1 x2 x3 x4 x5 x6 →
      Carries c Y (Ring.bk 64 t.val) (Ring.sl 2 t.val) E)
    (W : Waits sig Unit) (K : PUnit → sProp 𝕄) :
    iprop(inputs c arg1 arg2 arg3 arg4 arg5 arg6 arg7 x0 x1 x2 x3 x4 x5 x6
        ∗ whome0_0 c (Ring.bk 64 t.val) ∗ wfree0_0 c (Ring.sl 2 t.val) ∗ owes (c : Thread nD τ) 0 W
        ∗ (iprop(inputs c arg1 arg2 arg3 arg4 arg5 arg6 arg7 x0 x1 x2 x3 x4 x5 x6
            ∗ inflV c Y (Ring.sl 2 t.val) (Ring.bk 64 t.val) ∗ (∃ W, owes (c : Thread nD τ) 0 W)) -∗ K ⟨⟩))
      ⊢ wp frame (wpE (defs₀ (F := F)) Variants.none c none) Set.univ (cc0_mlp (grid0.coords t) arg1 harg1 arg2 harg2 arg3 harg3 arg4 harg4 arg5 harg5 arg6 harg6 arg7 harg7 (Memref.whole main_v12) (Memref.isWhole_whole _) scM0_0 (Memref.isWhole_whole _) cc0_scratch1) K := by
  haveI : Fact (¬cond0_0 (grid0.coords t)) := ⟨hc0⟩
  haveI : Fact (¬cond0_1 (grid0.coords t)) := ⟨hc1⟩
  simp only [cc0_mlp_eq_skeleton]; unfold cc0_mlp_skel
  simp only [k0_part5_eq_skeleton, k0_part6_eq_skeleton, k0_part7_eq_skeleton, k0_part8_eq_skeleton, k0_part9_eq_skeleton]
  have hcanon0 := wcanon0_0_21 t
  have hcanon1 := wcanon0_0_21' t
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%fp0, Hp0⟩, ⟨%fp1, Hp1⟩, ⟨%fp2, Hp2⟩, ⟨%fp3, Hp3⟩, ⟨%fp4, Hp4⟩, ⟨%fp5, Hp5⟩, ⟨%fp6, Hp6⟩, ⟨%fp7, Hp7⟩⟩, ⟨HF, HT⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  ihave HS' := (wslab0_0_join (F := F) c (Ring.sl 2 t.val)) $$ HT
  icases HS' with ⟨%es, HS⟩
  sl_exec (disch := first | sl_exact hc0 | sl_exact hc1)
  ihave HT := (slab_tiles (F := F) c (Ring.sl 2 t.val) _) $$ [HS]
  · iexact HS
  icases HT with ⟨%E, %hE, Ht0, Ht1, Ht2, Ht3, Ht4, Ht5, Ht6, Ht7⟩
  have hD := storable_dlvV (F := F) c (Ring.bk 64 t.val) (Ring.sl 2 t.val) E
  imod (Transfers.batch_alloc' (Lvl := ℕ) countersEmb (c : Thread nD τ) default wN0_0 (dlvV c (Ring.bk 64 t.val) (Ring.sl 2 t.val) E) (sm := wcellR0_0 (Ring.sl 2 t.val)) (E := Set.univ)) $$ HF with HN
  clear hD
  have hC : Carries c Y (Ring.bk 64 t.val) (Ring.sl 2 t.val) E := by
    apply hY
    rw [hE]
    sl_unfold_words
    simp only [View.readAt_eq_ld, harg1.read_unread, harg2.read_unread, harg3.read_unread, harg4.read_unread,
      harg5.read_unread, harg6.read_unread, harg7.read_unread, View.ld_unit_zero (S := S1024x4096) hz,
      View.ld_unit_zero (S := S1x4096) hz, View.ld_unit_zero (S := S4096x1024) hz, View.ld_unit_zero (S := S1x1024) hz, half_eq]
    exact read_packs _ _ _ _
  clear hE
  sl_exec (disch := first | sl_exact hc0 | sl_exact hc1)
  sl_step
  iapply Hk
  isplitl [H0 H1 H2 H3 H4 H5 H6]
  · iapply (inputs_unread c arg1 harg1 arg2 harg2 arg3 harg3 arg4 harg4 arg5 harg5 arg6 harg6 arg7 harg7 x0 x1 x2 x3 x4 x5 x6)
    isplitl [H0]; · iexact H0
    isplitl [H1]; · iexact H1
    isplitl [H2]; · iexact H2
    isplitl [H3]; · iexact H3
    isplitl [H4]; · iexact H4
    isplitl [H5]; · iexact H5
    iexact H6
  isplitl [HN]
  · iexists E
    isplitr
    · ipureintro; exact hC
    iexact HN
  iexists _; iexact HW

end Cert.Kernel2Ideal.Mlp

end
-- ==== Proof.MlpRunB.lean ====
module

public import proofs.«01_k».proof.Proof.MlpSlab

/-!
The MLP kernel's body at the points in between: the slot's copies of two steps ago waited for, the slot packed again and
copied out.
-/

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2000000 in
theorem runB (c : Dev nD) (t : Fin cfg0.N) (Y : Res F c)
    (arg1 : Memref sig .tc .vmem S512x1024 .f32) (harg1 : arg1.IsWhole) (arg2 : Memref sig .tc .vmem S1024x4096 .bf16) (harg2 : arg2.IsWhole)
    (arg3 : Memref sig .tc .vmem S1x4096 .f32) (harg3 : arg3.IsWhole) (arg4 : Memref sig .tc .vmem S4096x1024 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole)
    (hc0 : cond0_0 (grid0.coords t)) (hc1 : ¬cond0_1 (grid0.coords t))
    (x0 : Vec F S512x1024 .f32) (x1 : Vec F S1024x4096 .bf16) (x2 : Vec F S1x4096 .f32) (x3 : Vec F S4096x1024 .bf16)
    (x4 x5 x6 : Vec F S1x1024 .f32)
    (hY : ∀ E : Scr F c, (wslab0_0 (Ring.sl 2 t.val)).view.read (Elt F) E = slab x0 x1 x2 x3 x4 x5 x6 →
      Carries c Y (Ring.bk 64 t.val) (Ring.sl 2 t.val) E)
    (W : Waits sig Unit) (K : PUnit → sProp 𝕄) :
    iprop(inputs c arg1 arg2 arg3 arg4 arg5 arg6 arg7 x0 x1 x2 x3 x4 x5 x6
        ∗ whome0_0 c (Ring.bk 64 t.val) ∗ inflV c Y (Ring.sl 2 t.val) (Ring.bk 64 (t.val - 2)) ∗ owes (c : Thread nD τ) 0 W
        ∗ (iprop(inputs c arg1 arg2 arg3 arg4 arg5 arg6 arg7 x0 x1 x2 x3 x4 x5 x6
            ∗ behindV c Y (Ring.bk 64 (t.val - 2)) ∗ inflV c Y (Ring.sl 2 t.val) (Ring.bk 64 t.val) ∗ (∃ W, owes (c : Thread nD τ) 0 W)) -∗ K ⟨⟩))
      ⊢ wp frame (wpE (defs₀ (F := F)) Variants.none c none) Set.univ (cc0_mlp (grid0.coords t) arg1 harg1 arg2 harg2 arg3 harg3 arg4 harg4 arg5 harg5 arg6 harg6 arg7 harg7 (Memref.whole main_v12) (Memref.isWhole_whole _) scM0_0 (Memref.isWhole_whole _) cc0_scratch1) K := by
  haveI : Fact (cond0_0 (grid0.coords t)) := ⟨hc0⟩
  haveI : Fact (¬cond0_1 (grid0.coords t)) := ⟨hc1⟩
  simp only [cc0_mlp_eq_skeleton]; unfold cc0_mlp_skel
  simp only [k0_part5_eq_skeleton, k0_part1_eq_skeleton, k0_part6_eq_skeleton, k0_part7_eq_skeleton, k0_part8_eq_skeleton, k0_part9_eq_skeleton]
  have hcanon0 := wcanon0_0_21 t
  have hcanon1 := wcanon0_0_21' t
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%fp0, Hp0⟩, ⟨%fp1, Hp1⟩, ⟨%fp2, Hp2⟩, ⟨%fp3, Hp3⟩, ⟨%fp4, Hp4⟩, ⟨%fp5, Hp5⟩, ⟨%fp6, Hp6⟩, ⟨%fp7, Hp7⟩⟩, ⟨%E0, %hE0, HF⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  ihave HS' := (tiles_slab (F := F) c (Ring.sl 2 t.val) E0) $$ [HF_src0 HF_src1 HF_src2 HF_src3 HF_src4 HF_src5 HF_src6 HF_src7]
  · isplitl [HF_src0]; · iexact HF_src0
    isplitl [HF_src1]; · iexact HF_src1
    isplitl [HF_src2]; · iexact HF_src2
    isplitl [HF_src3]; · iexact HF_src3
    isplitl [HF_src4]; · iexact HF_src4
    isplitl [HF_src5]; · iexact HF_src5
    isplitl [HF_src6]; · iexact HF_src6
    iexact HF_src7
  icases HS' with ⟨%es, HS⟩
  sl_exec (disch := first | sl_exact hc0 | sl_exact hc1)
  ihave HT := (slab_tiles (F := F) c (Ring.sl 2 t.val) _) $$ [HS]
  · iexact HS
  icases HT with ⟨%E, %hE, Ht0, Ht1, Ht2, Ht3, Ht4, Ht5, Ht6, Ht7⟩
  have hD := storable_dlvV (F := F) c (Ring.bk 64 t.val) (Ring.sl 2 t.val) E
  imod (Transfers.batch_alloc' (Lvl := ℕ) countersEmb (c : Thread nD τ) default wN0_0 (dlvV c (Ring.bk 64 t.val) (Ring.sl 2 t.val) E) (sm := wcellR0_0 (Ring.sl 2 t.val)) (E := Set.univ)) $$ HF with HN
  clear hD
  have hC : Carries c Y (Ring.bk 64 t.val) (Ring.sl 2 t.val) E := by
    apply hY
    rw [hE]
    sl_unfold_words
    simp only [View.readAt_eq_ld, harg1.read_unread, harg2.read_unread, harg3.read_unread, harg4.read_unread,
      harg5.read_unread, harg6.read_unread, harg7.read_unread, View.ld_unit_zero (S := S1024x4096) hz,
      View.ld_unit_zero (S := S1x4096) hz, View.ld_unit_zero (S := S4096x1024) hz, View.ld_unit_zero (S := S1x1024) hz, half_eq]
    exact read_packs _ _ _ _
  clear hE
  sl_exec (disch := first | sl_exact hc0 | sl_exact hc1)
  sl_step
  iapply Hk
  isplitl [H0 H1 H2 H3 H4 H5 H6]
  · iapply (inputs_unread c arg1 harg1 arg2 harg2 arg3 harg3 arg4 harg4 arg5 harg5 arg6 harg6 arg7 harg7 x0 x1 x2 x3 x4 x5 x6)
    isplitl [H0]; · iexact H0
    isplitl [H1]; · iexact H1
    isplitl [H2]; · iexact H2
    isplitl [H3]; · iexact H3
    isplitl [H4]; · iexact H4
    isplitl [H5]; · iexact H5
    iexact H6
  isplitl [HF_dst0 HF_dst1 HF_dst2 HF_dst3 HF_dst4 HF_dst5 HF_dst6 HF_dst7]
  · iapply (Entails.of_eq (landedV_eq c Y (Ring.bk 64 (t.val - 2)) (Ring.sl 2 t.val) E0 hE0))
    isplitl [HF_dst0]; · iexact HF_dst0
    isplitl [HF_dst1]; · iexact HF_dst1
    isplitl [HF_dst2]; · iexact HF_dst2
    isplitl [HF_dst3]; · iexact HF_dst3
    isplitl [HF_dst4]; · iexact HF_dst4
    isplitl [HF_dst5]; · iexact HF_dst5
    isplitl [HF_dst6]; · iexact HF_dst6
    iexact HF_dst7
  isplitl [HN]
  · iexists E
    isplitr
    · ipureintro; exact hC
    iexact HN
  iexists _; iexact HW

end Cert.Kernel2Ideal.Mlp

end
-- ==== Proof.MlpRunC.lean ====
module

public import proofs.«01_k».proof.Proof.MlpSlab

/-!
The MLP kernel's body at the last point: as in between, then both slots' copies waited for.
-/

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2000000 in
theorem runC (c : Dev nD) (t : Fin cfg0.N) (Y : Res F c)
    (arg1 : Memref sig .tc .vmem S512x1024 .f32) (harg1 : arg1.IsWhole) (arg2 : Memref sig .tc .vmem S1024x4096 .bf16) (harg2 : arg2.IsWhole)
    (arg3 : Memref sig .tc .vmem S1x4096 .f32) (harg3 : arg3.IsWhole) (arg4 : Memref sig .tc .vmem S4096x1024 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole)
    (hc0 : cond0_0 (grid0.coords t)) (hc1 : cond0_1 (grid0.coords t))
    (x0 : Vec F S512x1024 .f32) (x1 : Vec F S1024x4096 .bf16) (x2 : Vec F S1x4096 .f32) (x3 : Vec F S4096x1024 .bf16)
    (x4 x5 x6 : Vec F S1x1024 .f32)
    (hY : ∀ E : Scr F c, (wslab0_0 (Ring.sl 2 t.val)).view.read (Elt F) E = slab x0 x1 x2 x3 x4 x5 x6 →
      Carries c Y (Ring.bk 64 t.val) (Ring.sl 2 t.val) E)
    (W : Waits sig Unit) (K : PUnit → sProp 𝕄) :
    iprop(inputs c arg1 arg2 arg3 arg4 arg5 arg6 arg7 x0 x1 x2 x3 x4 x5 x6
        ∗ whome0_0 c (Ring.bk 64 t.val) ∗ inflV c Y (Ring.sl 2 t.val) (Ring.bk 64 (t.val - 2))
        ∗ inflV c Y (Ring.sl 2 (t.val + 1)) (Ring.bk 64 (t.val - 1)) ∗ owes (c : Thread nD τ) 0 W
        ∗ (iprop(inputs c arg1 arg2 arg3 arg4 arg5 arg6 arg7 x0 x1 x2 x3 x4 x5 x6
            ∗ behindV c Y (Ring.bk 64 t.val) ∗ behindV c Y (Ring.bk 64 (t.val - 2)) ∗ behindV c Y (Ring.bk 64 (t.val - 1))
            ∗ wfree0_0 c (Ring.sl 2 t.val) ∗ wfree0_0 c (Ring.sl 2 (t.val + 1)) ∗ (∃ W, owes (c : Thread nD τ) 0 W)) -∗ K ⟨⟩))
      ⊢ wp frame (wpE (defs₀ (F := F)) Variants.none c none) Set.univ (cc0_mlp (grid0.coords t) arg1 harg1 arg2 harg2 arg3 harg3 arg4 harg4 arg5 harg5 arg6 harg6 arg7 harg7 (Memref.whole main_v12) (Memref.isWhole_whole _) scM0_0 (Memref.isWhole_whole _) cc0_scratch1) K := by
  haveI : Fact (cond0_0 (grid0.coords t)) := ⟨hc0⟩
  haveI : Fact (cond0_1 (grid0.coords t)) := ⟨hc1⟩
  simp only [cc0_mlp_eq_skeleton]; unfold cc0_mlp_skel
  simp only [k0_part5_eq_skeleton, k0_part1_eq_skeleton, k0_part6_eq_skeleton, k0_part7_eq_skeleton, k0_part8_eq_skeleton, k0_part9_eq_skeleton, k0_part2_eq_skeleton, k0_part3_eq_skeleton, k0_part4_eq_skeleton]
  have hcanon0 := wcanon0_0_21 t
  have hcanon1 := wcanon0_0_21' t
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%fp0, Hp0⟩, ⟨%fp1, Hp1⟩, ⟨%fp2, Hp2⟩, ⟨%fp3, Hp3⟩, ⟨%fp4, Hp4⟩, ⟨%fp5, Hp5⟩, ⟨%fp6, Hp6⟩, ⟨%fp7, Hp7⟩⟩, ⟨%E0, %hE0, HF⟩, ⟨%E1, %hE1, HI⟩, HW, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0 | sl_exact hc1)
  ihave HS' := (tiles_slab (F := F) c (Ring.sl 2 t.val) E0) $$ [HF_src0 HF_src1 HF_src2 HF_src3 HF_src4 HF_src5 HF_src6 HF_src7]
  · isplitl [HF_src0]; · iexact HF_src0
    isplitl [HF_src1]; · iexact HF_src1
    isplitl [HF_src2]; · iexact HF_src2
    isplitl [HF_src3]; · iexact HF_src3
    isplitl [HF_src4]; · iexact HF_src4
    isplitl [HF_src5]; · iexact HF_src5
    isplitl [HF_src6]; · iexact HF_src6
    iexact HF_src7
  icases HS' with ⟨%es, HS⟩
  sl_exec (disch := first | sl_exact hc0 | sl_exact hc1)
  ihave HT := (slab_tiles (F := F) c (Ring.sl 2 t.val) _) $$ [HS]
  · iexact HS
  icases HT with ⟨%E, %hE, Ht0, Ht1, Ht2, Ht3, Ht4, Ht5, Ht6, Ht7⟩
  have hD := storable_dlvV (F := F) c (Ring.bk 64 t.val) (Ring.sl 2 t.val) E
  imod (Transfers.batch_alloc' (Lvl := ℕ) countersEmb (c : Thread nD τ) default wN0_0 (dlvV c (Ring.bk 64 t.val) (Ring.sl 2 t.val) E) (sm := wcellR0_0 (Ring.sl 2 t.val)) (E := Set.univ)) $$ HF with HN
  clear hD
  have hC : Carries c Y (Ring.bk 64 t.val) (Ring.sl 2 t.val) E := by
    apply hY
    rw [hE]
    sl_unfold_words
    simp only [View.readAt_eq_ld, harg1.read_unread, harg2.read_unread, harg3.read_unread, harg4.read_unread,
      harg5.read_unread, harg6.read_unread, harg7.read_unread, View.ld_unit_zero (S := S1024x4096) hz,
      View.ld_unit_zero (S := S1x4096) hz, View.ld_unit_zero (S := S4096x1024) hz, View.ld_unit_zero (S := S1x1024) hz, half_eq]
    exact read_packs _ _ _ _
  clear hE
  sl_exec (disch := first | sl_exact hc0 | sl_exact hc1)
  sl_step
  iapply Hk
  isplitl [H0 H1 H2 H3 H4 H5 H6]
  · iapply (inputs_unread c arg1 harg1 arg2 harg2 arg3 harg3 arg4 harg4 arg5 harg5 arg6 harg6 arg7 harg7 x0 x1 x2 x3 x4 x5 x6)
    isplitl [H0]; · iexact H0
    isplitl [H1]; · iexact H1
    isplitl [H2]; · iexact H2
    isplitl [H3]; · iexact H3
    isplitl [H4]; · iexact H4
    isplitl [H5]; · iexact H5
    iexact H6
  isplitl [HN_dst0 HN_dst1 HN_dst2 HN_dst3 HN_dst4 HN_dst5 HN_dst6 HN_dst7]
  · iapply (Entails.of_eq (landedV_eq c Y (Ring.bk 64 t.val) (Ring.sl 2 t.val) E hC))
    isplitl [HN_dst0]; · iexact HN_dst0
    isplitl [HN_dst1]; · iexact HN_dst1
    isplitl [HN_dst2]; · iexact HN_dst2
    isplitl [HN_dst3]; · iexact HN_dst3
    isplitl [HN_dst4]; · iexact HN_dst4
    isplitl [HN_dst5]; · iexact HN_dst5
    isplitl [HN_dst6]; · iexact HN_dst6
    iexact HN_dst7
  isplitl [HF_dst0 HF_dst1 HF_dst2 HF_dst3 HF_dst4 HF_dst5 HF_dst6 HF_dst7]
  · iapply (Entails.of_eq (landedV_eq c Y (Ring.bk 64 (t.val - 2)) (Ring.sl 2 t.val) E0 hE0))
    isplitl [HF_dst0]; · iexact HF_dst0
    isplitl [HF_dst1]; · iexact HF_dst1
    isplitl [HF_dst2]; · iexact HF_dst2
    isplitl [HF_dst3]; · iexact HF_dst3
    isplitl [HF_dst4]; · iexact HF_dst4
    isplitl [HF_dst5]; · iexact HF_dst5
    isplitl [HF_dst6]; · iexact HF_dst6
    iexact HF_dst7
  isplitl [HI_dst0 HI_dst1 HI_dst2 HI_dst3 HI_dst4 HI_dst5 HI_dst6 HI_dst7]
  · iapply (Entails.of_eq (landedV_eq c Y (Ring.bk 64 (t.val - 1)) (Ring.sl 2 (t.val + 1)) E1 hE1))
    isplitl [HI_dst0]; · iexact HI_dst0
    isplitl [HI_dst1]; · iexact HI_dst1
    isplitl [HI_dst2]; · iexact HI_dst2
    isplitl [HI_dst3]; · iexact HI_dst3
    isplitl [HI_dst4]; · iexact HI_dst4
    isplitl [HI_dst5]; · iexact HI_dst5
    isplitl [HI_dst6]; · iexact HI_dst6
    iexact HI_dst7
  isplitl [HN HN_src0 HN_src1 HN_src2 HN_src3 HN_src4 HN_src5 HN_src6 HN_src7]
  · isplitl [HN]; · iexact HN
    iapply (tiles_some (F := F) c (Ring.sl 2 t.val) E)
    isplitl [HN_src0]; · iexact HN_src0
    isplitl [HN_src1]; · iexact HN_src1
    isplitl [HN_src2]; · iexact HN_src2
    isplitl [HN_src3]; · iexact HN_src3
    isplitl [HN_src4]; · iexact HN_src4
    isplitl [HN_src5]; · iexact HN_src5
    isplitl [HN_src6]; · iexact HN_src6
    iexact HN_src7
  isplitl [HI HI_src0 HI_src1 HI_src2 HI_src3 HI_src4 HI_src5 HI_src6 HI_src7]
  · isplitl [HI]; · iexact HI
    iapply (tiles_some (F := F) c (Ring.sl 2 (t.val + 1)) E1)
    isplitl [HI_src0]; · iexact HI_src0
    isplitl [HI_src1]; · iexact HI_src1
    isplitl [HI_src2]; · iexact HI_src2
    isplitl [HI_src3]; · iexact HI_src3
    isplitl [HI_src4]; · iexact HI_src4
    isplitl [HI_src5]; · iexact HI_src5
    isplitl [HI_src6]; · iexact HI_src6
    iexact HI_src7
  iexists _; iexact HW

end Cert.Kernel2Ideal.Mlp

end
-- ==== Proof.MlpFrame.lean ====
module

public import proofs.«01_k».proof.Proof.MlpGeom
public import proofs.«01_k».proof.Proof.MlpRunA
public import proofs.«01_k».proof.Proof.MlpRunB
public import proofs.«01_k».proof.Proof.MlpRunC
public import Idealize.ShloMosaic.Lib.Pipeline.Routed

/-!
The MLP kernel's launch, with the contents of its result: every run ends with the result array at `result`.
-/

@[expose] public section

set_option maxRecDepth 16384

noncomputable section

namespace Cert.Kernel2Ideal.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The write ring before step `k`, with the contents of what it carries. -/
def ringV (c : Dev nD) (k : ℕ) : sProp 𝕄 :=
  Ring.AtBΦ 2 (wfree0_0 c) (inflV c (result m c)) (whome0_0 c) (behindV c (result m c)) k

/-- The invariant before point `k`: the generator register at some state, the ring, and what lies outside it. -/
def PhiV (c : Dev nD) (k : ℕ) : sProp 𝕄 :=
  iprop((∃ r, prngReg c r) ∗ (ringV m c k ∗ wtileSpare0_0 c ∗ wpieceSpare0_0 c))

/-- The pipeline's proof data, with that invariant. -/
def datsV (p : Fin 1) (c : Dev nD) : Dat τ (Elt F) Unit ℕ (Pipeline.UD sig nD τ) ℕ cfg0 c where
  A := (dats m p c).A
  after := (dats m p c).after
  Φ t := PhiV m c t.val
  q _ := fullShare
  owed _ := 0

theorem A_eqV (c : Dev nD) (w : Fin cfg0.W) : (datsV m 0 c).A w = V m c (Pipeline.arrRef spec0 w) := A_eq m c w

theorem PhiV_castSucc (c : Dev nD) (t : Fin cfg0.N) : (datsV m 0 c).Φ t.castSucc = PhiV m c t.val := by
  dsimp only [datsV]; simp only [Fin.coe_castSucc]

theorem PhiV_succ (c : Dev nD) (t : Fin cfg0.N) : (datsV m 0 c).Φ t.succ = PhiV m c (t.val + 1) := by
  dsimp only [datsV]; simp only [Fin.val_succ]

theorem afterV_0 (c : Dev nD) (t : Fin cfg0.N) : (datsV m 0 c).after 0 t = iblk m c 0 t := after0_0 m c t
theorem afterV_1 (c : Dev nD) (t : Fin cfg0.N) : (datsV m 0 c).after 1 t = iblk m c 1 t := after0_1 m c t
theorem afterV_2 (c : Dev nD) (t : Fin cfg0.N) : (datsV m 0 c).after 2 t = iblk m c 2 t := after0_2 m c t
theorem afterV_3 (c : Dev nD) (t : Fin cfg0.N) : (datsV m 0 c).after 3 t = iblk m c 3 t := after0_3 m c t
theorem afterV_4 (c : Dev nD) (t : Fin cfg0.N) : (datsV m 0 c).after 4 t = iblk m c 4 t := after0_4 m c t
theorem afterV_5 (c : Dev nD) (t : Fin cfg0.N) : (datsV m 0 c).after 5 t = iblk m c 5 t := after0_5 m c t
theorem afterV_6 (c : Dev nD) (t : Fin cfg0.N) : (datsV m 0 c).after 6 t = iblk m c 6 t := after0_6 m c t

theorem beforeV_0 (c : Dev nD) (t : Fin cfg0.N) (d) : (datsV m 0 c).before 0 t d = iblk m c 0 t :=
  before0_0_of m (datsV m 0 c) (A_eqV m c 0) (afterV_0 m c) t d
theorem beforeV_1 (c : Dev nD) (t : Fin cfg0.N) (d) : (datsV m 0 c).before 1 t d = iblk m c 1 t :=
  before0_1_of m (datsV m 0 c) (A_eqV m c 1) (afterV_1 m c) t d
theorem beforeV_2 (c : Dev nD) (t : Fin cfg0.N) (d) : (datsV m 0 c).before 2 t d = iblk m c 2 t :=
  before0_2_of m (datsV m 0 c) (A_eqV m c 2) (afterV_2 m c) t d
theorem beforeV_3 (c : Dev nD) (t : Fin cfg0.N) (d) : (datsV m 0 c).before 3 t d = iblk m c 3 t :=
  before0_3_of m (datsV m 0 c) (A_eqV m c 3) (afterV_3 m c) t d
theorem beforeV_4 (c : Dev nD) (t : Fin cfg0.N) (d) : (datsV m 0 c).before 4 t d = iblk m c 4 t :=
  before0_4_of m (datsV m 0 c) (A_eqV m c 4) (afterV_4 m c) t d
theorem beforeV_5 (c : Dev nD) (t : Fin cfg0.N) (d) : (datsV m 0 c).before 5 t d = iblk m c 5 t :=
  before0_5_of m (datsV m 0 c) (A_eqV m c 5) (afterV_5 m c) t d
theorem beforeV_6 (c : Dev nD) (t : Fin cfg0.N) (d) : (datsV m 0 c).before 6 t d = iblk m c 6 t :=
  before0_6_of m (datsV m 0 c) (A_eqV m c 6) (afterV_6 m c) t d

/-- What the body is called with at point `t`, -/
def bodyPreV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d))
    ∗ (∃ d, owns (c : Thread nD τ) (ms0_6 t) fullShare ((datsV m 0 c).before 6 t d)))

/-- and what it returns. -/
def bodyPostV (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t)
    ∗ owns (c : Thread nD τ) (ms0_3 t) fullShare ((datsV m 0 c).after 3 t)
    ∗ owns (c : Thread nD τ) (ms0_4 t) fullShare ((datsV m 0 c).after 4 t)
    ∗ owns (c : Thread nD τ) (ms0_5 t) fullShare ((datsV m 0 c).after 5 t)
    ∗ owns (c : Thread nD τ) (ms0_6 t) fullShare ((datsV m 0 c).after 6 t))

set_option maxHeartbeats 2400000 in
/-- The body at any point: the point's case says what the ring's step takes and gives back. -/
theorem sound_bodyV (c : Dev nD) (t : Fin cfg0.N) :
    bodyPreV m c t ⊢ wp frame (wpE (defs₀ (F := F)) Variants.none c none) Set.univ (bodyAt0 t) (fun _ => bodyPostV m c t) := by
  unfold bodyPreV bodyPostV bodyAt0
  simp only [beforeV_0, beforeV_1, beforeV_2, beforeV_3, beforeV_4, beforeV_5, beforeV_6]
  rw [afterV_0, afterV_1, afterV_2, afterV_3, afterV_4, afterV_5, afterV_6]
  rw [PhiV_castSucc m c t, PhiV_succ m c t]
  unfold Dat.owesAt Pipeline.owesWithin
  rw [show (datsV m 0 c).owed t.castSucc = 0 from rfl, show (datsV m 0 c).owed t.succ = 0 from rfl]
  unfold PhiV ringV
  have hgN : grid0.N = 64 := N_0
  have hN : t.val < 64 := lt_of_lt_of_eq t.isLt (show cfg0.N = 64 from N_0)
  by_cases h0 : 2 ≤ t.val
  · by_cases h1 : t.val % 64 = 63
    · have hw0 := wstep0_0_C t ((hcond0_0 t).mpr h0) ((hcond0_1 t).mpr h1)
      obtain ⟨hW20, hWend0, hWs0⟩ := hw0
      rw [Ring.AtBΦ_lt _ _ _ _ _ t.val (by omega), Ring.AtB22_here_last _ _ _ _ t.val hW20 hWend0, Ring.AtBΦ_end _ _ _ _ _ (t.val + 1) hWend0, Ring.AtB22_drained _ _ t.val hW20 hWend0]
      iintro ⟨⟨Hg, ⟨⟨Hp, HB, HF, HI⟩, HTsp, HPsp⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply (runC c t (result m c) _ _ _ _ _ _ _ _ _ _ _ _ _ _ ((hcond0_0 t).mpr h0) ((hcond0_1 t).mpr h1)
        (iblk m c 0 t) (iblk m c 1 t) (iblk m c 2 t) (iblk m c 3 t) (iblk m c 4 t) (iblk m c 5 t) (iblk m c 6 t) (carries m c t) W _)
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [Hp]; · iexact Hp
      isplitl [HF]; · iexact HF
      isplitl [HI]; · iexact HI
      isplitl [HW]; · iexact HW
      iintro ⟨⟨H0, H1, H2, H3, H4, H5, H6⟩, Ho, Hl, Hm, Hf0, Hf1, ⟨%W', HW'⟩⟩
      isplitl [Hg HB HTsp HPsp Ho Hl Hm Hf0 Hf1]
      · isplitl [Hg]; · iexact Hg
        isplitl [Ho Hl Hm HB Hf0 Hf1]
        · isplitl [Ho Hl Hm HB]
          · isplitl [Ho]; · iexact Ho
            isplitl [Hl]; · iexact Hl
            isplitl [Hm]; · iexact Hm
            iexact HB
          isplitl [Hf0]; · iexact Hf0
          iexact Hf1
        isplitl [HTsp]; · iexact HTsp
        iexact HPsp
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      iexact H6
    · have hw0 := wstep0_0_B t ((hcond0_0 t).mpr h0) (fun h => h1 ((hcond0_1 t).mp h))
      obtain ⟨hW20, hWlt0, hWs0⟩ := hw0
      rw [Ring.AtBΦ_lt _ _ _ _ _ t.val (by omega), Ring.AtB22_here _ _ _ _ t.val hW20 (by omega), Ring.AtBΦ_lt _ _ _ _ _ (t.val + 1) hWlt0, Ring.AtB22_next _ _ _ _ t.val hW20 (by omega)]
      iintro ⟨⟨Hg, ⟨⟨⟨Hp, HA⟩, HB, HF, Hcar⟩, HTsp, HPsp⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply (runB c t (result m c) _ _ _ _ _ _ _ _ _ _ _ _ _ _ ((hcond0_0 t).mpr h0) (fun h => h1 ((hcond0_1 t).mp h))
        (iblk m c 0 t) (iblk m c 1 t) (iblk m c 2 t) (iblk m c 3 t) (iblk m c 4 t) (iblk m c 5 t) (iblk m c 6 t) (carries m c t) W _)
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [Hp]; · iexact Hp
      isplitl [HF]; · iexact HF
      isplitl [HW]; · iexact HW
      iintro ⟨⟨H0, H1, H2, H3, H4, H5, H6⟩, Hl, Hn, ⟨%W', HW'⟩⟩
      isplitl [Hg HA HB Hcar HTsp HPsp Hl Hn]
      · isplitl [Hg]; · iexact Hg
        isplitl [HA Hl HB Hcar Hn]
        · isplitl [HA]; · iexact HA
          isplitl [Hl HB]
          · isplitl [Hl]; · iexact Hl
            iexact HB
          isplitl [Hcar]; · iexact Hcar
          iexact Hn
        isplitl [HTsp]; · iexact HTsp
        iexact HPsp
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      iexact H6
  · have h1 : ¬ t.val % 64 = 63 := by omega
    have h01 : t.val = 0 ∨ t.val = 1 := by omega
    rcases h01 with hW0 | hW0
    · rw [Ring.AtBΦ_lt _ _ _ _ _ t.val (by omega), Ring.AtB2_zero' 2 _ _ _ _ t.val hW0, Ring.AtBΦ_lt _ _ _ _ _ (t.val + 1) (by omega), Ring.AtB22_next_zero' _ _ _ _ t.val hW0]
      iintro ⟨⟨Hg, ⟨⟨⟨Hp, HA⟩, Hf, Hx⟩, HTsp, HPsp⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply (runA c t (result m c) _ _ _ _ _ _ _ _ _ _ _ _ _ _ (fun h => h0 ((hcond0_0 t).mp h)) (fun h => h1 ((hcond0_1 t).mp h))
        (iblk m c 0 t) (iblk m c 1 t) (iblk m c 2 t) (iblk m c 3 t) (iblk m c 4 t) (iblk m c 5 t) (iblk m c 6 t) (carries m c t) W _)
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [Hp]; · iexact Hp
      isplitl [Hf]; · iexact Hf
      isplitl [HW]; · iexact HW
      iintro ⟨⟨H0, H1, H2, H3, H4, H5, H6⟩, Hn, ⟨%W', HW'⟩⟩
      isplitl [Hg HA Hx HTsp HPsp Hn]
      · isplitl [Hg]; · iexact Hg
        isplitl [HA Hx Hn]
        · isplitl [HA]; · iexact HA
          isplitl [Hx]; · iexact Hx
          iexact Hn
        isplitl [HTsp]; · iexact HTsp
        iexact HPsp
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      iexact H6
    · rw [Ring.AtBΦ_lt _ _ _ _ _ t.val (by omega), Ring.AtB22_one' _ _ _ _ t.val hW0 (by decide), Ring.AtBΦ_lt _ _ _ _ _ (t.val + 1) (by omega), Ring.AtB22_next_one' _ _ _ _ t.val hW0]
      iintro ⟨⟨Hg, ⟨⟨⟨Hp, HA⟩, Hf, Hx⟩, HTsp, HPsp⟩⟩, ⟨%W, -, HW⟩, ⟨%d0, H0⟩, ⟨%d1, H1⟩, ⟨%d2, H2⟩, ⟨%d3, H3⟩, ⟨%d4, H4⟩, ⟨%d5, H5⟩, ⟨%d6, H6⟩⟩
      iapply (runA c t (result m c) _ _ _ _ _ _ _ _ _ _ _ _ _ _ (fun h => h0 ((hcond0_0 t).mp h)) (fun h => h1 ((hcond0_1 t).mp h))
        (iblk m c 0 t) (iblk m c 1 t) (iblk m c 2 t) (iblk m c 3 t) (iblk m c 4 t) (iblk m c 5 t) (iblk m c 6 t) (carries m c t) W _)
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [Hp]; · iexact Hp
      isplitl [Hf]; · iexact Hf
      isplitl [HW]; · iexact HW
      iintro ⟨⟨H0, H1, H2, H3, H4, H5, H6⟩, Hn, ⟨%W', HW'⟩⟩
      isplitl [Hg HA Hx HTsp HPsp Hn]
      · isplitl [Hg]; · iexact Hg
        isplitl [HA Hx Hn]
        · isplitl [HA]; · iexact HA
          isplitl [Hx]; · iexact Hx
          iexact Hn
        isplitl [HTsp]; · iexact HTsp
        iexact HPsp
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      iexact H6

/-- The body obligation, at every point. -/
theorem body_obligationV (c : Dev nD) : BodyObligation (datsV (F := F) m 0 c) (defs₀ (F := F)) Variants.none () Set.univ := fun t => by
  rw [bigSep_W0, bigSep_W0, defs₀_row]
  exact triple_restated (sound_bodyV m c t) rfl .rfl fun _ => .rfl

/-- Before the first point the ring is the same whatever its contents are to be. -/
theorem ringV_zero (c : Dev nD) : ringV m c 0 = wringAt0_0 c 0 := by
  unfold ringV wringAt0_0
  rw [Ring.AtBΦ_lt _ _ _ _ _ 0 (by decide), Ring.AtBΦ_lt _ _ _ _ _ 0 (by decide), Ring.AtB_zero, Ring.AtB_zero]

/-- What the routed buffer is to hold at the end. -/
def ends (c : Dev nD) : (b : Ref sig .tc) → Buf (Elt F) ((c : Thread nD τ).loc b) :=
  Function.update (V m c) main_v12 (result m c)

theorem hinV (c : Dev nD) : Pipeline.Ends spec0 osem0 R0 c (V m c) ⊢ (datsV m 0 c).Φ 0 := by
  rw [show (datsV m 0 c).Φ 0 = PhiV m c 0 from rfl]
  unfold Pipeline.Ends PhiV R0
  rw [Pipeline.routed_singleton, scopedRest0_eq, ownSems00_eq, ringV_zero]
  iintro ⟨HR, Hq, Hs, Hg⟩
  isplitl [Hg]; · iexact Hg
  iapply (wring0_0_in (F := F) c)
  isplitl [Hs]
  · simp only [scM0_0, owns_whole]
    iexact Hs
  isplitl [Hq]; · iexact Hq
  iexists _
  iexact HR

/-- The steps' pieces, all at `Y`, are the result array at `Y`. -/
theorem behind_whole (c : Dev nD) (Y : Res F c) :
    (bigSep Finset.univ (behindV (F := F) c Y) : sProp 𝕄) ⊢ (((c : Thread nD τ).loc main_v12) ↦{fullShare} Y : sProp 𝕄) := by
  have e1 : ∀ u : Fin 64, (behindV (F := F) c Y u : sProp 𝕄) = bigSep Finset.univ fun k : Fin 8 => wpieceP0_0 c u k Y := fun u => by
    rw [BI.bigSep_eq_bigSepL_of_eq [0, 1, 2, 3, 4, 5, 6, 7] (by decide) (by decide)]; rfl
  rw [BI.bigSep_congr fun u _ => e1 u]
  rw [← BI.bigSep_univ_prod (fun i : Fin 64 × Fin 8 => (wpieceP0_0 (F := F) c i.1 i.2 Y : sProp 𝕄))]
  refine (Entails.of_eq (BI.bigSep_congr fun i _ => wpieceP0_0_eq c i.1 i.2 Y)).trans ?_
  refine (Entails.of_eq (pointsTo_biUnion (ℓ := (c : Thread nD τ).loc main_v12) (q := fullShare) (f := Y) Finset.univ
    wpieceSet0_0 (fun i _ i' _ h => wpieces0_0_disjoint i i' h)).symm).trans ?_
  rw [pieces_cover]

theorem houtV (c : Dev nD) : (datsV m 0 c).Φ (Fin.last cfg0.N) ⊢ Pipeline.Ends spec0 osem0 R0 c (ends m c) := by
  rw [show (datsV m 0 c).Φ (Fin.last cfg0.N) = PhiV m c grid0.N from rfl]
  unfold Pipeline.Ends PhiV R0
  rw [show grid0.N = 64 by rw [N_0], Pipeline.routed_singleton, scopedRest0_eq, ownSems00_eq]
  unfold ringV
  rw [Ring.AtBΦ_ge _ _ _ _ _ 64 (by decide)]
  unfold Ring.AtBEnd ends
  rw [← wfrees0_0_eq, wcells0_0_eq, Function.update_self]
  iintro ⟨Hg, ⟨HP, HQ, HT⟩, HTsp, HPsp⟩
  isplitl [HP]
  · iapply (behind_whole c (result m c))
    iexact HP
  isplitl [HQ]; · iexact HQ
  isplitl [HT HTsp]
  · ihave H := (wtiles0_0_out (F := F) c) $$ [HT HTsp]
    · isplitl [HT]; · iexact HT
      iexact HTsp
    simp only [scM0_0, owns_whole]
    iexact H
  iexact Hg

set_option backward.isDefEq.respectTransparency.types false in
/-- The launch: every run ends with the result array at `result`. -/
theorem run_value : θ_run defs (onTc (τ := τ) (main (F := F))) (s₀ m ρ) (fun r => ∀ c : Dev nD,
    r.2.mem ((c : Thread nD τ).loc main_v12) = result m c) :=
  Pipeline.θ_run_frame_routed cfgs (datsV m) (0 : Fin 1) launch0 ownSemFacts0 defs₀ Variants.none m ρ main
    (hbody := fun c => (body_obligationV m c).loose) (hshare := fun c => (datsV m 0 c).share_full fun _ => rfl)
    (howed := fun _ _ => rfl) (V := V m) (hmain := hmain m Variants.none) (hA := A_eqV m)
    (R := R0) (hR := by decide) (Y := ends m) (hin := hinV m) (hout := houtV m)
    (Q' := fun r => ∀ c : Dev nD, r.2.mem ((c : Thread nD τ).loc main_v12) = result m c)
    (hQ' := fun r h c => ((h.1 c).2.1 main_v12 (Finset.mem_singleton_self _)).trans (Function.update_self _ _ _))

end Cert.Kernel2Ideal.Mlp

end
-- ==== Proof.MlpSpec.lean ====
module

public import Idealize.ShloMosaic.PureOps
public import Idealize.ShloMosaic.PureOps.Ideal

@[expose] public section

noncomputable section

/-! The feed-forward layer with its residual and norm over the extended reals, one row at a time. -/

namespace Cert.MlpSpec

open Idealize.ShloMosaic

/-- The rectified hidden layer of a row. -/
def hidden (x : Fin 1024 → EReal) (w : Fin 1024 → Fin 4096 → EReal) (b : Fin 4096 → EReal) (f : Fin 4096) : EReal :=
  max ((∑ k : Fin 1024, x k * w k f) + b f) 0

/-- The row's scaled residual plus the feed-forward layer. -/
def stream (x : Fin 1024 → EReal) (w : Fin 1024 → Fin 4096 → EReal) (b : Fin 4096 → EReal) (v : Fin 4096 → Fin 1024 → EReal) (c : Fin 1024 → EReal)
    (j : Fin 1024) : EReal :=
  Ideal.ofBits .f32 0x3F9837F0#32 * x j + ((∑ f : Fin 4096, hidden x w b f * hidden x w b f * v f j) + c j)

/-- The mean of a row. -/
def mean (y : Fin 1024 → EReal) : EReal := Ideal.div (∑ k : Fin 1024, y k) (Ideal.ofBits .f32 0x44800000#32)

/-- The row less its mean. -/
def centred (y : Fin 1024 → EReal) (j : Fin 1024) : EReal := y j - mean y

/-- The row, normalised, with its gain and bias. -/
def norm (y g b : Fin 1024 → EReal) (j : Fin 1024) : EReal :=
  centred y j * Ideal.rsqrt (mean (fun k => centred y k * centred y k) + Ideal.ofBits .f32 0x3727C5AC#32) * g j + b j

end Cert.MlpSpec

end
-- ==== Proof.MlpHalf.lean ====
module

public import proofs.«01_k».proof.Proof.MlpSpec
public import proofs.«01_k».proof.Proof.MlpSlab
public import Idealize.ShloMosaic.Lib.Pipeline.ValueKit
public import Idealize.ShloMosaic.Lib.PointwiseCore

@[expose] public section

set_option maxRecDepth 16384

noncomputable section

/-! One half of a grid point's rows over the extended reals. -/

namespace Cert.Kernel2Ideal.Result

open Cert.Kernel2Ideal Cert.Kernel2Ideal.Gen Cert.Kernel2Ideal.Mlp Cert.MlpSpec Idealize.ShloMosaic

variable (x : Vec Ideal S256x1024 .f32) (w : Vec Ideal S1024x4096 .bf16) (b : Vec Ideal S1x4096 .f32) (v : Vec Ideal S4096x1024 .bf16)
  (c : Vec Ideal S1x1024 .f32)

/-- The residual plus the feed-forward layer. -/
theorem stream_apply (r : Fin 256) (j : Fin 1024) :
    k0_pay1 x w b v c (ix2 r j) = stream (fun k => x (ix2 r k)) (fun k f => w (ix2 k f)) (fun f => b (ix2 0 f)) (fun f j => v (ix2 f j))
      (fun j => c (ix2 0 j)) j := by
  unfold k0_pay1
  pointwise
  rfl

/-- The norm, in the order in which the rows are stored. -/
theorem norm_apply (y : FVec Ideal S256x1024 .f32) (g e : Vec Ideal S1x1024 .f32) (p : Fin 32) (q : Fin 8) (j : Fin 1024) :
    k0_pay2 y g e (ix3 p q j) = norm (fun k => y (ix2 ⟨p * 8 + q, by omega⟩ k)) (fun k => g (ix2 0 k)) (fun k => e (ix2 0 k)) j := by
  unfold k0_pay2
  pointwise
  rfl

variable (x0 : Vec Ideal S512x1024 .f32) (g e : Vec Ideal S1x1024 .f32)

/-- The rows of a half. -/
theorem halfRows_apply (n : ℕ) (h : ∀ a, ![n, 0] a + S256x1024.size a ≤ S512x1024.size a) (hn : n + 256 ≤ 512) (r : Fin 256) (k : Fin 1024) :
    halfRows n h x0 (ix2 r k) = x0 (ix2 ⟨n + r, by omega⟩ k) := by
  unfold halfRows
  rw [View.ld_unit]
  pointwise

/-- The layer's row from a row of the input. -/
def layer (x : Fin 1024 → EReal) : Fin 1024 → EReal :=
  norm (stream x (fun k f => w (ix2 k f)) (fun f => b (ix2 0 f)) (fun f j => v (ix2 f j)) fun j => c (ix2 0 j)) (fun k => g (ix2 0 k))
    fun k => e (ix2 0 k)

/-- A half's rows, in the order in which they are stored. -/
theorem half_apply (p : Fin 32) (q : Fin 8) (j : Fin 1024) :
    half x w b v c g e (ix3 p q j) = layer w b v c g e (fun k => x (ix2 ⟨p * 8 + q, by omega⟩ k)) j := by
  unfold half layer
  rw [norm_apply]
  simp only [stream_apply]

/-- A grid point's rows: sequence `q`'s row `p` is the block's row `8 p + q`. -/
theorem slab_apply (p : Fin 64) (q : Fin 8) (j : Fin 1024) :
    slab x0 w b v c g e (ix3 p q j) = layer w b v c g e (fun k => x0 (ix2 ⟨p * 8 + q, by omega⟩ k)) j := by
  unfold slab stack
  dsimp only
  split
  · rename_i hp
    refine (half_apply _ w b v c g e ⟨p, hp⟩ q j).trans ?_
    congr 1
    funext k
    rw [halfRows_apply x0 0 _ (by omega)]
    exact congrArg x0 (congrArg (ix2 · k) (Fin.ext (by simp only []; omega)))
  · rename_i hp
    have hp' : ¬(p : ℕ) < 32 := hp
    refine (half_apply _ w b v c g e ⟨p - 32, by omega⟩ q j).trans ?_
    congr 1
    funext k
    rw [halfRows_apply x0 256 _ (by omega)]
    exact congrArg x0 (congrArg (ix2 · k) (Fin.ext (by simp only []; omega)))

end Cert.Kernel2Ideal.Result

end
-- ==== Proof.MlpValue.lean ====
module

public import proofs.«01_k».proof.Proof.MlpHalf
public import proofs.«01_k».proof.Proof.MlpGeom
public import Idealize.ShloMosaic.Lib.StableHlo.ReadAt

@[expose] public section

set_option maxRecDepth 16384

noncomputable section

/-! The second kernel's result array over the extended reals, element by element. -/

namespace Cert.Kernel2Ideal.Result

open Cert.Kernel2Ideal Cert.Kernel2Ideal.Gen Cert.Kernel2Ideal.Mlp Cert.MlpSpec Idealize.ShloMosaic Idealize.ShloMosaic.TcCoe Idealize.SL.Sem

variable (m : (ℓ : Loc nD τ sig) → Buf (Elt Ideal) ℓ) (d : Dev nD)

/-- The rows' blocks are placed at the grid point's number. -/
theorem index_rows : ∀ t : Fin cfg0.N, win0_0.index t = ![t.val, 0] :=
  (by decide +kernel : ∀ t : Fin grid0.N, win0_0.index t = ![t.val, 0])

/-- The other windows' blocks are the whole arrays. -/
theorem index_whole : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, win0_1.index t = ![0, 0] ∧ win0_2.index t = ![0, 0] ∧ win0_3.index t = ![0, 0]
    ∧ win0_4.index t = ![0, 0] ∧ win0_5.index t = ![0, 0] ∧ win0_6.index t = ![0, 0])

/-- A grid point's rows. -/
theorem x_apply (t : Fin cfg0.N) (r : Fin 512) (k : Fin 1024) (R : Fin 32768) (hR : (R : ℕ) = 512 * t + r) :
    (iblk m d 0 t : Vec Ideal S512x1024 .f32) (ix2 r k) = (m ((d : Thread nD τ).loc main_arg0) : S32768x1024.Idx → EReal) (ix2 R k) := by
  have hN := lt_of_lt_of_eq t.isLt (show cfg0.N = 64 from N_0)
  have e : R = ⟨512 * t + r, by omega⟩ := Fin.ext hR
  rw [← V_main_arg0 m d, e]
  blk_ext [iblk, index_rows t]

/-- The first matrix. -/
theorem w_apply (t : Fin cfg0.N) (k : Fin 1024) (f : Fin 4096) :
    (iblk m d 1 t : Vec Ideal S1024x4096 .bf16) (ix2 k f) = (m ((d : Thread nD τ).loc main_arg1) : S1x1024x4096.Idx → EReal) (ix3 0 k f) := by
  rw [show (iblk m d 1 t : Vec Ideal S1024x4096 .bf16) = V m d main_v1 from funext fun i => by blk_ext [iblk, (index_whole t).1]]
  unfold V hostOps0
  after_reads_at

/-- The first bias. -/
theorem b_apply (t : Fin cfg0.N) (f : Fin 4096) :
    (iblk m d 2 t : Vec Ideal S1x4096 .f32) (ix2 0 f) = (m ((d : Thread nD τ).loc main_arg2) : S1x4096.Idx → EReal) (ix2 0 f) := by
  rw [show (iblk m d 2 t : Vec Ideal S1x4096 .f32) = V m d main_v3 from funext fun i => by blk_ext [iblk, (index_whole t).2.1]]
  unfold V hostOps0
  after_reads_at

/-- The second matrix. -/
theorem v_apply (t : Fin cfg0.N) (f : Fin 4096) (j : Fin 1024) :
    (iblk m d 3 t : Vec Ideal S4096x1024 .bf16) (ix2 f j) = (m ((d : Thread nD τ).loc main_arg3) : S1x4096x1024.Idx → EReal) (ix3 0 f j) := by
  rw [show (iblk m d 3 t : Vec Ideal S4096x1024 .bf16) = V m d main_v5 from funext fun i => by blk_ext [iblk, (index_whole t).2.2.1]]
  unfold V hostOps0
  after_reads_at

/-- The second bias. -/
theorem c_apply (t : Fin cfg0.N) (j : Fin 1024) :
    (iblk m d 4 t : Vec Ideal S1x1024 .f32) (ix2 0 j) = (m ((d : Thread nD τ).loc main_arg4) : S1x1024.Idx → EReal) (ix2 0 j) := by
  rw [show (iblk m d 4 t : Vec Ideal S1x1024 .f32) = V m d main_v7 from funext fun i => by blk_ext [iblk, (index_whole t).2.2.2.1]]
  unfold V hostOps0
  after_reads_at

/-- The norm's gain. -/
theorem g_apply (t : Fin cfg0.N) (j : Fin 1024) :
    (iblk m d 5 t : Vec Ideal S1x1024 .f32) (ix2 0 j) = (m ((d : Thread nD τ).loc main_arg5) : S1x1024.Idx → EReal) (ix2 0 j) := by
  rw [show (iblk m d 5 t : Vec Ideal S1x1024 .f32) = V m d main_v9 from funext fun i => by blk_ext [iblk, (index_whole t).2.2.2.2.1]]
  unfold V hostOps0
  after_reads_at

/-- The norm's bias. -/
theorem e_apply (t : Fin cfg0.N) (j : Fin 1024) :
    (iblk m d 6 t : Vec Ideal S1x1024 .f32) (ix2 0 j) = (m ((d : Thread nD τ).loc main_arg6) : S1x1024.Idx → EReal) (ix2 0 j) := by
  rw [show (iblk m d 6 t : Vec Ideal S1x1024 .f32) = V m d main_v11 from funext fun i => by blk_ext [iblk, (index_whole t).2.2.2.2.2]]
  unfold V hostOps0
  after_reads_at

/-- The kernel's result at sequence `b`, position `t`. -/
theorem result_apply (b : Fin 8) (t : Fin 4096) (j : Fin 1024) :
    result m d (ix3 b t j)
      = norm (stream (fun k => (m ((d : Thread nD τ).loc main_arg0) : S32768x1024.Idx → EReal) (ix2 ⟨t * 8 + b, by omega⟩ k))
          (fun k f => (m ((d : Thread nD τ).loc main_arg1) : S1x1024x4096.Idx → EReal) (ix3 0 k f))
          (fun f => (m ((d : Thread nD τ).loc main_arg2) : S1x4096.Idx → EReal) (ix2 0 f))
          (fun f j => (m ((d : Thread nD τ).loc main_arg3) : S1x4096x1024.Idx → EReal) (ix3 0 f j))
          (fun j => (m ((d : Thread nD τ).loc main_arg4) : S1x1024.Idx → EReal) (ix2 0 j)))
        (fun k => (m ((d : Thread nD τ).loc main_arg5) : S1x1024.Idx → EReal) (ix2 0 k))
        (fun k => (m ((d : Thread nD τ).loc main_arg6) : S1x1024.Idx → EReal) (ix2 0 k)) j := by
  refine (slab_apply _ _ _ _ _ _ _ ⟨(t : ℕ) % 64, by omega⟩ b j).trans ?_
  unfold layer
  simp only [w_apply, b_apply, v_apply, c_apply, g_apply, e_apply]
  congr 2
  funext k
  exact x_apply m d _ _ k _ (by show (t : ℕ) * 8 + b = 512 * ((t : ℕ) / 64) + ((t : ℕ) % 64 * 8 + b); omega)

end Cert.Kernel2Ideal.Result

end
-- ==== Proof.MlpRef.lean ====
module

public import proofs.«01_k».proof.Proof.MlpSpec
public import proofs.«01_k».proof.Proof.Gen.Reference2Ideal.Run
public import Idealize.ShloMosaic.Lib.Pipeline.ValueKit
public import Idealize.ShloMosaic.Lib.PointwiseCore

@[expose] public section

set_option maxRecDepth 16384

noncomputable section

/-! The second reference's result over the extended reals. -/

namespace Cert.Reference2Ideal.Result

open Cert.Reference2Ideal Cert.Reference2Ideal.Gen Cert.MlpSpec Idealize.ShloMosaic Idealize.ShloMosaic.TcCoe

variable (x0 : Vec Ideal S32768x1024 .f32) (x1 : Vec Ideal S1x1024x4096 .f32) (x2 : Vec Ideal S1x4096 .f32) (x3 : Vec Ideal S1x4096x1024 .f32)
  (x4 x5 x6 : Vec Ideal S1x1024 .f32)

/-- The input, sequence by sequence. -/
def inputT : FVec Ideal S8x4096x1024 .f32 :=
  transpose S8x4096x1024 [1, 0, 2] (shapeCast _ x0 shapeCasts_S32768x1024_S4096x8x1024) transposes_S4096x8x1024_S8x4096x1024_1_0_2

/-- The rectified hidden layer. -/
def hiddenT : FVec Ideal S8x4096x4096 .f32 :=
  maximumf (addf (Host.dotGeneral (φ₂ := .f32) dot_S8x4096x1024_S1024x4096_S8x4096x4096_2_0_01_1_n_n none (inputT x0) (shapeCast _ x1 shapeCasts_S1x1024x4096_S1024x4096))
    (broadcastInDim S8x4096x4096 ![0, 1, 2] bcast_S1x1x4096_S8x4096x4096_0_1_2 (broadcastInDim S1x1x4096 ![2] bcast_S4096_S1x1x4096_2 (shapeCast _ x2 shapeCasts_S1x4096_S4096))))
    (broadcastInDim S8x4096x4096 ![] bcast_S_S8x4096x4096 (constant S_ .f32 0x00000000#32))

/-- A vector along the last axis, for every row. -/
def rowT (x : Vec Ideal S1x1024 .f32) : FVec Ideal S8x4096x1024 .f32 :=
  broadcastInDim S8x4096x1024 ![0, 1, 2] bcast_S1x1x1024_S8x4096x1024_0_1_2 (broadcastInDim S1x1x1024 ![2] bcast_S1024_S1x1x1024_2 (shapeCast _ x shapeCasts_S1x1024_S1024))

/-- The scaled residual plus the feed-forward layer. -/
def streamT : FVec Ideal S8x4096x1024 .f32 :=
  addf (mulf (broadcastInDim S8x4096x1024 ![] bcast_S_S8x4096x1024 (constant S_ .f32 0x3F9837F0#32)) (inputT x0))
    (addf (Host.dotGeneral (φ₂ := .f32) dot_S8x4096x4096_S4096x1024_S8x4096x1024_2_0_01_1_n_n none (mulf (hiddenT x0 x1 x2) (hiddenT x0 x1 x2)) (shapeCast _ x3 shapeCasts_S1x4096x1024_S4096x1024))
      (rowT x4))

/-- The rows' means. -/
def meanT (y : FVec Ideal S8x4096x1024 .f32) : FVec Ideal S8x4096x1 .f32 :=
  Host.divf (broadcastInDim S8x4096x1 ![0, 1] bcast_S8x4096_S8x4096x1_0_1 (Host.reduceAdd y (constant S_ .f32 0x00000000#32) reducesTo_S8x4096x1024_S8x4096_d2 h_S_))
    (broadcastInDim S8x4096x1 ![] bcast_S_S8x4096x1 (constant S_ .f32 0x44800000#32))

/-- The rows less their means. -/
def centredT (y : FVec Ideal S8x4096x1024 .f32) : FVec Ideal S8x4096x1024 .f32 :=
  subf y (broadcastInDim S8x4096x1024 ![0, 1, 2] bcast_S8x4096x1_S8x4096x1024_0_1_2 (meanT y))

/-- The rows, normalised, with gain and bias. -/
def normT (y : FVec Ideal S8x4096x1024 .f32) : FVec Ideal S8x4096x1024 .f32 :=
  addf (mulf (mulf (centredT y) (broadcastInDim S8x4096x1024 ![0, 1, 2] bcast_S8x4096x1_S8x4096x1024_0_1_2
      (Host.rsqrt (addf (meanT (mulf (centredT y) (centredT y))) (broadcastInDim S8x4096x1 ![] bcast_S_S8x4096x1 (constant S_ .f32 0x3727C5AC#32))))))
    (rowT x5)) (rowT x6)

theorem inputT_apply (b : Fin 8) (t : Fin 4096) (k : Fin 1024) : inputT x0 (ix3 b t k) = x0 (ix2 ⟨t * 8 + b, by omega⟩ k) := by
  unfold inputT
  pointwise

theorem rowT_apply (x : Vec Ideal S1x1024 .f32) (b : Fin 8) (t : Fin 4096) (k : Fin 1024) : rowT x (ix3 b t k) = x (ix2 0 k) := by
  unfold rowT
  pointwise

theorem hiddenT_apply (b : Fin 8) (t : Fin 4096) (f : Fin 4096) :
    hiddenT x0 x1 x2 (ix3 b t f) = hidden (fun k => x0 (ix2 ⟨t * 8 + b, by omega⟩ k)) (fun k f => x1 (ix3 0 k f)) (fun f => x2 (ix2 0 f)) f := by
  unfold hiddenT
  pointwise
  simp only [inputT_apply]
  rfl

theorem streamT_apply (b : Fin 8) (t : Fin 4096) (j : Fin 1024) :
    streamT x0 x1 x2 x3 x4 (ix3 b t j) = stream (fun k => x0 (ix2 ⟨t * 8 + b, by omega⟩ k)) (fun k f => x1 (ix3 0 k f)) (fun f => x2 (ix2 0 f))
      (fun f j => x3 (ix3 0 f j)) (fun j => x4 (ix2 0 j)) j := by
  unfold streamT
  pointwise
  simp only [inputT_apply, hiddenT_apply, rowT_apply]
  rfl

theorem meanT_apply (y : FVec Ideal S8x4096x1024 .f32) (b : Fin 8) (t : Fin 4096) : meanT y (ix3 b t 0) = mean fun k => y (ix3 b t k) := by
  unfold meanT
  pointwise
  rfl

theorem centredT_apply (y : FVec Ideal S8x4096x1024 .f32) (b : Fin 8) (t : Fin 4096) (j : Fin 1024) :
    centredT y (ix3 b t j) = centred (fun k => y (ix3 b t k)) j := by
  unfold centredT
  pointwise
  rw [meanT_apply]
  rfl

theorem normT_apply (y : FVec Ideal S8x4096x1024 .f32) (b : Fin 8) (t : Fin 4096) (j : Fin 1024) :
    normT x5 x6 y (ix3 b t j) = norm (fun k => y (ix3 b t k)) (fun k => x5 (ix2 0 k)) (fun k => x6 (ix2 0 k)) j := by
  unfold normT
  pointwise
  rw [meanT_apply, centredT_apply, rowT_apply, rowT_apply]
  unfold MlpSpec.norm
  congr 4
  congr 2
  funext k
  pointwise
  rw [centredT_apply]

variable (m : (ℓ : Loc nD τ sig) → Buf (Elt Ideal) ℓ) (d : Dev nD)

/-- The reference's result is these operations of its arguments. -/
theorem result_eq : Value.res_main_v44 m d = normT (m ((d : Thread nD τ).loc main_arg5)) (m ((d : Thread nD τ).loc main_arg6))
    (streamT (m ((d : Thread nD τ).loc main_arg0)) (m ((d : Thread nD τ).loc main_arg1)) (m ((d : Thread nD τ).loc main_arg2))
      (m ((d : Thread nD τ).loc main_arg3)) (m ((d : Thread nD τ).loc main_arg4))) := by
  simp only [Value.res_main_v44, normT, centredT, meanT, streamT, hiddenT, rowT, inputT]

/-- The reference's result at sequence `b`, position `t`. -/
theorem result_apply (b : Fin 8) (t : Fin 4096) (j : Fin 1024) :
    (Value.res_main_v44 m d : Vec Ideal S8x4096x1024 .f32) (ix3 b t j)
      = norm (stream (fun k => (m ((d : Thread nD τ).loc main_arg0) : S32768x1024.Idx → EReal) (ix2 ⟨t * 8 + b, by omega⟩ k))
          (fun k f => (m ((d : Thread nD τ).loc main_arg1) : S1x1024x4096.Idx → EReal) (ix3 0 k f))
          (fun f => (m ((d : Thread nD τ).loc main_arg2) : S1x4096.Idx → EReal) (ix2 0 f))
          (fun f j => (m ((d : Thread nD τ).loc main_arg3) : S1x4096x1024.Idx → EReal) (ix3 0 f j))
          (fun j => (m ((d : Thread nD τ).loc main_arg4) : S1x1024.Idx → EReal) (ix2 0 j)))
        (fun k => (m ((d : Thread nD τ).loc main_arg5) : S1x1024.Idx → EReal) (ix2 0 k))
        (fun k => (m ((d : Thread nD τ).loc main_arg6) : S1x1024.Idx → EReal) (ix2 0 k)) j := by
  rw [result_eq, normT_apply]
  simp only [streamT_apply]

end Cert.Reference2Ideal.Result

end
-- ==== Proof.MixTrip.lean ====
module

public import proofs.«01_k».proof.Proof.Gen.Kernel3Ideal.Loops
public import Idealize.ShloMosaic.Lib.Tactic

@[expose] public section

set_option maxRecDepth 16384

noncomputable section

/-! What one trip of the convolution's loop stores: for each of eight groups of channels and each of four groups of rows,
the bias plus thirty-one products of a tap with a row block of the scratch. -/

namespace Cert.Kernel3Ideal.Mix

open Idealize.ShloMosaic Idealize.ShloMosaic.TcCoe Idealize.SL.Sem
open Cert.Kernel3Ideal Cert.Kernel3Ideal.Gen

variable {F : FTy → Type} [FloatOps F]

/-- One more product. -/
def step (a : FVec F S8x128 .f32) (w x : Vec F S1x8x128 .f32) : FVec F S8x128 .f32 :=
  addf a (mulf (shapeCast S8x128 w shapeCasts_S1x8x128_S8x128) (shapeCast S8x128 x shapeCasts_S1x8x128_S8x128))

/-- All thirty-one products, added in order. -/
def taps (z : FVec F S8x128 .f32) (w x : Fin 31 → Vec F S1x8x128 .f32) : FVec F S8x128 .f32 :=
  (step (step (step (step (step (step (step (step (step (step (step (step (step (step (step (step (step (step (step (step (step (step (step (step (step (step (step (step (step (step (step z (w 0) (x 0)) (w 1) (x 1)) (w 2) (x 2)) (w 3) (x 3)) (w 4) (x 4)) (w 5) (x 5)) (w 6) (x 6)) (w 7) (x 7)) (w 8) (x 8)) (w 9) (x 9)) (w 10) (x 10)) (w 11) (x 11)) (w 12) (x 12)) (w 13) (x 13)) (w 14) (x 14)) (w 15) (x 15)) (w 16) (x 16)) (w 17) (x 17)) (w 18) (x 18)) (w 19) (x 19)) (w 20) (x 20)) (w 21) (x 21)) (w 22) (x 22)) (w 23) (x 23)) (w 24) (x 24)) (w 25) (x 25)) (w 26) (x 26)) (w 27) (x 27)) (w 28) (x 28)) (w 29) (x 29)) (w 30) (x 30))

/-- The bias in every row. -/
def bias (b : Vec F S1x128 .f32) : FVec F S8x128 .f32 :=
  broadcastTo S8x128 (shapeCast S1x128 (shapeCast S1x128 b shapeCasts_S1x128_S1x128) shapeCasts_S1x128_S1x128) broadcasts_S1x128_S8x128

/-- Where a trip loads from, by group of channels. -/
def lOff (l : Fin 8) (k : Fin k0_t1_loop.trips) (b : BitVec 32) : Fin 3 → Nat :=
  match l with
  | 0 => k0_off1 k b
  | 1 => k0_off3 k b
  | 2 => k0_off5 k b
  | 3 => k0_off7 k b
  | 4 => k0_off9 k b
  | 5 => k0_off11 k b
  | 6 => k0_off13 k b
  | 7 => k0_off15 k b

/-- Where a trip stores to, by group of channels. -/
def sOff (l : Fin 8) (k : Fin k0_t1_loop.trips) (b : BitVec 32) : Fin 3 → Nat :=
  match l with
  | 0 => k0_off2 k b
  | 1 => k0_off4 k b
  | 2 => k0_off6 k b
  | 3 => k0_off8 k b
  | 4 => k0_off10 k b
  | 5 => k0_off12 k b
  | 6 => k0_off14 k b
  | 7 => k0_off16 k b

theorem lOff_inb (l : Fin 8) (k : Fin k0_t1_loop.trips) (r : Fin 34) :
    ∀ a, lOff l k (BitVec.ofNat 32 (8 * r.val)) a + S1x8x128.size a ≤ S8x768x128.size a := by
  fin_cases l
  · exact k0_off1_inb k r
  · exact k0_off3_inb k r
  · exact k0_off5_inb k r
  · exact k0_off7_inb k r
  · exact k0_off9_inb k r
  · exact k0_off11_inb k r
  · exact k0_off13_inb k r
  · exact k0_off15_inb k r

theorem lOff_eq (l : Fin 8) (k : Fin k0_t1_loop.trips) (r : Fin 34) :
    lOff l k (BitVec.ofNat 32 (8 * r.val)) = ![l.val, 32 * k.val + 8 * r.val + 8, 0] := by
  fin_cases l
  · exact k0_off1_eq k r
  · exact k0_off3_eq k r
  · exact k0_off5_eq k r
  · exact k0_off7_eq k r
  · exact k0_off9_eq k r
  · exact k0_off11_eq k r
  · exact k0_off13_eq k r
  · exact k0_off15_eq k r

theorem sOff_inb (l : Fin 8) (k : Fin k0_t1_loop.trips) (r : Fin 4) :
    ∀ a, sOff l k (BitVec.ofNat 32 (8 * r.val)) a + S1x8x128.size a ≤ S8x512x128.size a := by
  fin_cases l
  · exact k0_off2_inb k r
  · exact k0_off4_inb k r
  · exact k0_off6_inb k r
  · exact k0_off8_inb k r
  · exact k0_off10_inb k r
  · exact k0_off12_inb k r
  · exact k0_off14_inb k r
  · exact k0_off16_inb k r

theorem sOff_eq (l : Fin 8) (k : Fin k0_t1_loop.trips) (r : Fin 4) :
    sOff l k (BitVec.ofNat 32 (8 * r.val)) = ![l.val, 32 * k.val + 8 * r.val, 0] := by
  fin_cases l
  · exact k0_off2_eq k r
  · exact k0_off4_eq k r
  · exact k0_off6_eq k r
  · exact k0_off8_eq k r
  · exact k0_off10_eq k r
  · exact k0_off12_eq k r
  · exact k0_off14_eq k r
  · exact k0_off16_eq k r

theorem wInb (l : Fin 8) (j : Fin 31) : ∀ a, (![l.val, 8 * j.val, 0] : Fin 3 → Nat) a + S1x8x128.size a ≤ S8x248x128.size a := by
  have := l.isLt; have := j.isLt
  intro a
  fin_cases a
  · show l.val + 1 ≤ 8; omega
  · show 8 * j.val + 8 ≤ 248; omega
  · show 0 + 128 ≤ 128; omega

theorem bInb (l : Fin 8) : ∀ a, (![0, 128 * l.val] : Fin 2 → Nat) a + S1x128.size a ≤ S1x1024.size a := by
  have := l.isLt
  intro a
  fin_cases a
  · show 0 + 1 ≤ 1; omega
  · show 128 * l.val + 128 ≤ 1024; omega

/-- One tap, in eight equal rows. -/
def wT (arg8 : Memref sig .tc .vmem S8x248x128 .f32) (X_arg8 : BufTy.Contents (Elt F) arg8.view.ty) (l : Fin 8) (j : Fin 31) : Vec F S1x8x128 .f32 :=
  View.readAt (Elt F) arg8.view (Rect.unit (s := S8x248x128) ![l.val, 8 * j.val, 0] S1x8x128.size (wInb l j)).toLoadRect X_arg8

/-- The bias of one group of channels. -/
def bT (arg9 : Memref sig .tc .vmem S1x1024 .f32) (X_arg9 : BufTy.Contents (Elt F) arg9.view.ty) (l : Fin 8) : Vec F S1x128 .f32 :=
  View.readAt (Elt F) arg9.view (Rect.unit (s := S1x1024) ![0, 128 * l.val] S1x128.size (bInb l)).toLoadRect X_arg9

/-- Eight rows of the scratch. -/
def xT (arg18 : Memref sig .tc .vmem S8x768x128 .f32) (X_arg18 : BufTy.Contents (Elt F) arg18.view.ty) (k : Fin k0_t1_loop.trips) (l : Fin 8) (r : Fin 34) : Vec F S1x8x128 .f32 :=
  View.readAt (Elt F) arg18.view (Rect.unit (s := S8x768x128) (lOff l k (BitVec.ofNat 32 (8 * r.val))) S1x8x128.size (lOff_inb l k r)).toLoadRect X_arg18

/-- Eight rows of one group of channels. -/
def acc (arg8 : Memref sig .tc .vmem S8x248x128 .f32) (arg9 : Memref sig .tc .vmem S1x1024 .f32) (arg18 : Memref sig .tc .vmem S8x768x128 .f32) (X_arg8 : BufTy.Contents (Elt F) arg8.view.ty) (X_arg9 : BufTy.Contents (Elt F) arg9.view.ty) (X_arg18 : BufTy.Contents (Elt F) arg18.view.ty) (k : Fin k0_t1_loop.trips) (l : Fin 8) (g : Fin 4) : FVec F S8x128 .f32 :=
  taps (bias (bT arg9 X_arg9 l)) (wT arg8 X_arg8 l) fun j => xT arg18 X_arg18 k l ⟨j.val + g.val, by omega⟩

/-- What is stored for it. -/
def piece (arg8 : Memref sig .tc .vmem S8x248x128 .f32) (arg9 : Memref sig .tc .vmem S1x1024 .f32) (arg18 : Memref sig .tc .vmem S8x768x128 .f32) (X_arg8 : BufTy.Contents (Elt F) arg8.view.ty) (X_arg9 : BufTy.Contents (Elt F) arg9.view.ty) (X_arg18 : BufTy.Contents (Elt F) arg18.view.ty) (k : Fin k0_t1_loop.trips) (l : Fin 8) (g : Fin 4) : View.Piece (Elt F) S8x512x128 .f32 :=
  ⟨Rect.unit (s := S8x512x128) (sOff l k (BitVec.ofNat 32 (8 * g.val))) S1x8x128.size (sOff_inb l k g),
    shapeCast S1x8x128 (acc arg8 arg9 arg18 X_arg8 X_arg9 X_arg18 k l g) shapeCasts_S8x128_S1x8x128⟩

/-- A trip's stores, the last first. -/
theorem trip_list (𝒱 : Variants) (c : Dev nD) (bd : Option 𝒱.V) (i : grid0.Coords) (arg1 : Memref sig .tc .vmem S8x128x128 .f32) (harg1 : arg1.IsWhole) (arg2 : Memref sig .tc .vmem S8x512x128 .f32) (harg2 : arg2.IsWhole) (arg3 : Memref sig .tc .vmem S8x128x128 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S8x248x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S512x1024 .f32) (harg17 : arg17.IsWhole) (arg18 : Memref sig .tc .vmem S8x768x128 .f32) (harg18 : arg18.IsWhole) (arg19 : Memref sig .tc .vmem S8x512x128 .f32) (harg19 : arg19.IsWhole) (X_arg8 : BufTy.Contents (Elt F) arg8.view.ty) (X_arg9 : BufTy.Contents (Elt F) arg9.view.ty) (X_arg18 : BufTy.Contents (Elt F) arg18.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 0#1 X_arg8 X_arg9 X_arg18 k =
     [piece arg8 arg9 arg18 X_arg8 X_arg9 X_arg18 k 7 3,
      piece arg8 arg9 arg18 X_arg8 X_arg9 X_arg18 k 7 2,
      piece arg8 arg9 arg18 X_arg8 X_arg9 X_arg18 k 7 1,
      piece arg8 arg9 arg18 X_arg8 X_arg9 X_arg18 k 7 0,
      piece arg8 arg9 arg18 X_arg8 X_arg9 X_arg18 k 6 3,
      piece arg8 arg9 arg18 X_arg8 X_arg9 X_arg18 k 6 2,
      piece arg8 arg9 arg18 X_arg8 X_arg9 X_arg18 k 6 1,
      piece arg8 arg9 arg18 X_arg8 X_arg9 X_arg18 k 6 0,
      piece arg8 arg9 arg18 X_arg8 X_arg9 X_arg18 k 5 3,
      piece arg8 arg9 arg18 X_arg8 X_arg9 X_arg18 k 5 2,
      piece arg8 arg9 arg18 X_arg8 X_arg9 X_arg18 k 5 1,
      piece arg8 arg9 arg18 X_arg8 X_arg9 X_arg18 k 5 0,
      piece arg8 arg9 arg18 X_arg8 X_arg9 X_arg18 k 4 3,
      piece arg8 arg9 arg18 X_arg8 X_arg9 X_arg18 k 4 2,
      piece arg8 arg9 arg18 X_arg8 X_arg9 X_arg18 k 4 1,
      piece arg8 arg9 arg18 X_arg8 X_arg9 X_arg18 k 4 0,
      piece arg8 arg9 arg18 X_arg8 X_arg9 X_arg18 k 3 3,
      piece arg8 arg9 arg18 X_arg8 X_arg9 X_arg18 k 3 2,
      piece arg8 arg9 arg18 X_arg8 X_arg9 X_arg18 k 3 1,
      piece arg8 arg9 arg18 X_arg8 X_arg9 X_arg18 k 3 0,
      piece arg8 arg9 arg18 X_arg8 X_arg9 X_arg18 k 2 3,
      piece arg8 arg9 arg18 X_arg8 X_arg9 X_arg18 k 2 2,
      piece arg8 arg9 arg18 X_arg8 X_arg9 X_arg18 k 2 1,
      piece arg8 arg9 arg18 X_arg8 X_arg9 X_arg18 k 2 0,
      piece arg8 arg9 arg18 X_arg8 X_arg9 X_arg18 k 1 3,
      piece arg8 arg9 arg18 X_arg8 X_arg9 X_arg18 k 1 2,
      piece arg8 arg9 arg18 X_arg8 X_arg9 X_arg18 k 1 1,
      piece arg8 arg9 arg18 X_arg8 X_arg9 X_arg18 k 1 0,
      piece arg8 arg9 arg18 X_arg8 X_arg9 X_arg18 k 0 3,
      piece arg8 arg9 arg18 X_arg8 X_arg9 X_arg18 k 0 2,
      piece arg8 arg9 arg18 X_arg8 X_arg9 X_arg18 k 0 1,
      piece arg8 arg9 arg18 X_arg8 X_arg9 X_arg18 k 0 0] := by
  unfold tripL_k0_t1 trip_k0_t1
  dsimp only
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  refine congrArg₂ List.cons ?_ ?_
  · rfl
  rfl

end Cert.Kernel3Ideal.Mix

end
-- ==== Proof.Scalar.lean ====
module

public import Idealize.ShloMosaic.PureOps
public import Idealize.ShloMosaic.PureOps.Ideal
public import Mathlib.Analysis.SpecialFunctions.Trigonometric.DerivHyp

@[expose] public section

noncomputable section

/-! The scalar identities over the extended reals on which the two programs' elements agree. -/

namespace Cert.Scalar

open Idealize.ShloMosaic

/-- The bits of one half denote one half. -/
theorem half_bits : Ideal.ofBits .f32 0x3F000000#32 = ((1 / 2 : ℝ) : EReal) := by
  simp [Ideal.ofBits, Ideal.ieee, -EReal.coe_mul]; norm_num

/-- The bits of minus one denote minus one. -/
theorem neg_one_bits : Ideal.ofBits .f32 0xBF800000#32 = ((-1 : ℝ) : EReal) := by
  simp [Ideal.ofBits, Ideal.ieee, -EReal.coe_mul]; norm_num

/-- The bits of two denote two. -/
theorem two_bits : Ideal.ofBits .f32 0x40000000#32 = ((2 : ℝ) : EReal) := by
  simp [Ideal.ofBits, Ideal.ieee, -EReal.coe_mul]; norm_num

/-- The bits of minus eight denote minus eight. -/
theorem neg_eight_bits : Ideal.ofBits .f32 0xC1000000#32 = ((-8 : ℝ) : EReal) := by
  simp [Ideal.ofBits, Ideal.ieee, -EReal.coe_mul]; norm_num

/-- The bits of minus four denote minus four. -/
theorem neg_four_bits : Ideal.ofBits .f32 0xC0800000#32 = ((-4 : ℝ) : EReal) := by
  simp [Ideal.ofBits, Ideal.ieee, -EReal.coe_mul]; norm_num

/-- The bits of gelu's outer constant. -/
theorem root_bits : Ideal.ofBits .f32 0x3F4C422A#32 = ((6693141 / 8388608 : ℝ) : EReal) := by
  simp [Ideal.ofBits, Ideal.ieee, -EReal.coe_mul]; norm_num

/-- The bits of gelu's cubic constant. -/
theorem cubic_bits : Ideal.ofBits .f32 0x3D372713#32 = ((12003091 / 268435456 : ℝ) : EReal) := by
  simp [Ideal.ofBits, Ideal.ieee, -EReal.coe_mul]; norm_num

/-- The logistic function as the quotient that the layer writes. -/
def sig (x : EReal) : EReal := Ideal.div 1 (1 + Ideal.exp (-x))

theorem sig_coe (r : ℝ) : sig (r : EReal) = (((1 + Real.exp (-r))⁻¹ : ℝ) : EReal) := by
  have h : (1 + Real.exp (-r)) ≠ 0 := by positivity
  unfold sig Ideal.div
  rw [← EReal.coe_neg]
  show (if (1 : EReal) + (Real.exp (-r) : EReal) = 0 then _ else _) = _
  rw [← EReal.coe_one, ← EReal.coe_add, if_neg (by exact_mod_cast h)]
  show (1 : EReal) * ((1 + Real.exp (-r) : ℝ) : EReal)⁻¹ = _
  rw [one_mul, EReal.coe_inv]

theorem half_tanh_real (r : ℝ) : 1 / 2 * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  rw [h1]
  have p1 := Real.exp_pos (1 / 2 * r)
  have p2 := Real.exp_pos (-(1 / 2 * r))
  set a := Real.exp (1 / 2 * r)
  set b := Real.exp (-(1 / 2 * r))
  field_simp
  nlinarith [h2]

/-- One half of the hyperbolic tangent of half an argument, plus one half, is the logistic function, at the
    infinities too. -/
theorem half_tanh (x : EReal) :
    ((1 / 2 : ℝ) : EReal) * Ideal.tanh (((1 / 2 : ℝ) : EReal) * x) + ((1 / 2 : ℝ) : EReal) = sig x := by
  induction x with
  | bot =>
    rw [EReal.coe_mul_bot_of_pos (by norm_num)]
    show ((1 / 2 : ℝ) : EReal) * (-1) + _ = Ideal.div 1 (1 + Ideal.exp (-⊥))
    rw [EReal.neg_bot]
    show _ = Ideal.div 1 (1 + ⊤)
    rw [show (1 : EReal) + ⊤ = ⊤ from EReal.add_top_of_ne_bot (by exact_mod_cast EReal.coe_ne_bot 1)]
    unfold Ideal.div
    rw [if_neg (by simp), EReal.inv_top, mul_zero, ← EReal.coe_one, ← EReal.coe_neg, ← EReal.coe_mul, ← EReal.coe_add]
    norm_num
  | top =>
    rw [EReal.coe_mul_top_of_pos (by norm_num)]
    show ((1 / 2 : ℝ) : EReal) * 1 + _ = Ideal.div 1 (1 + Ideal.exp (-⊤))
    rw [EReal.neg_top]
    show _ = Ideal.div 1 (1 + 0)
    unfold Ideal.div
    rw [add_zero, if_neg (by simp), mul_one, ← EReal.coe_one, ← EReal.coe_inv, ← EReal.coe_mul, ← EReal.coe_add]
    norm_num
  | coe r =>
    rw [sig_coe, ← half_tanh_real, ← EReal.coe_mul]
    rfl

/-- The hyperbolic tangent of any extended real is a real number from -1 to 1. -/
theorem tanh_real (x : EReal) : ∃ t : ℝ, Ideal.tanh x = (t : EReal) ∧ -1 ≤ t ∧ t ≤ 1 := by
  induction x with
  | bot => exact ⟨-1, rfl, by norm_num, by norm_num⟩
  | top => exact ⟨1, rfl, by norm_num, by norm_num⟩
  | coe r =>
    refine ⟨Real.tanh r, rfl, ?_, ?_⟩
    · rw [Real.tanh_eq_sinh_div_cosh, le_div_iff₀ (Real.cosh_pos r)]
      have := Real.exp_pos r
      rw [Real.sinh_eq, Real.cosh_eq]; linarith
    · rw [Real.tanh_eq_sinh_div_cosh, div_le_one (Real.cosh_pos r)]
      have := Real.exp_pos (-r)
      rw [Real.sinh_eq, Real.cosh_eq]; linarith

/-- A half distributes over a sum of extended reals. -/
theorem half_distrib (x y : EReal) :
    ((1 / 2 : ℝ) : EReal) * (x + y) = ((1 / 2 : ℝ) : EReal) * x + ((1 / 2 : ℝ) : EReal) * y := by
  have hp : (0 : ℝ) < 1 / 2 := by norm_num
  induction x with
  | bot => rw [EReal.bot_add, EReal.coe_mul_bot_of_pos hp, EReal.bot_add]
  | top =>
    induction y with
    | bot => rw [EReal.add_bot, EReal.coe_mul_bot_of_pos hp, EReal.add_bot]
    | top => rw [EReal.top_add_top, EReal.coe_mul_top_of_pos hp, EReal.top_add_top]
    | coe b => rw [EReal.top_add_coe, EReal.coe_mul_top_of_pos hp, ← EReal.coe_mul, EReal.top_add_coe]
  | coe a =>
    induction y with
    | bot => rw [EReal.add_bot, EReal.coe_mul_bot_of_pos hp, EReal.add_bot]
    | top => rw [EReal.coe_add_top, EReal.coe_mul_top_of_pos hp, ← EReal.coe_mul, EReal.coe_add_top]
    | coe b =>
      simp only [← EReal.coe_mul, ← EReal.coe_add]
      congr 1; ring

/-- A sum of halved terms is half the sum: a positive real distributes over every sum of extended reals. -/
theorem half_sum {ι : Type} (s : Finset ι) (f : ι → EReal) :
    ∑ k ∈ s, ((1 / 2 : ℝ) : EReal) * f k = ((1 / 2 : ℝ) : EReal) * ∑ k ∈ s, f k := by
  classical
  induction s using Finset.induction_on with
  | empty => simp
  | insert a s ha ih =>
    rw [Finset.sum_insert ha, Finset.sum_insert ha, ih]
    exact (half_distrib _ _).symm

theorem half_add (x y : EReal) :
    ((1 / 2 : ℝ) : EReal) * x + ((1 / 2 : ℝ) : EReal) * y = ((1 / 2 : ℝ) : EReal) * (x + y) :=
  (half_distrib _ _).symm

/-- softplus as the layer computes it. -/
def softplus (x : EReal) : EReal := max x 0 + Ideal.log1p (Ideal.exp (-(max (x - 0) (-(x - 0)))))

/-- At a real argument softplus is a real number, not negative. -/
theorem softplus_real (r : ℝ) : ∃ p : ℝ, softplus (r : EReal) = (p : EReal) ∧ 0 ≤ p := by
  refine ⟨max r 0 + Real.log (1 + Real.exp (-(max (r - 0) (-(r - 0))))), ?_, ?_⟩
  · unfold softplus Ideal.log1p
    have h0 : ((0 : ℝ) : EReal) = 0 := rfl
    have h1 : ((1 : ℝ) : EReal) = 1 := rfl
    have hm : ∀ a b : ℝ, max (a : EReal) (b : EReal) = ((max a b : ℝ) : EReal) := fun a b =>
      (EReal.coe_strictMono.monotone.map_max).symm
    rw [← h0, ← EReal.coe_sub, ← EReal.coe_neg, hm, hm, ← EReal.coe_neg]
    show _ + Ideal.log (1 + (Real.exp _ : EReal)) = _
    rw [← h1, ← EReal.coe_add]
    show _ + (if 1 + Real.exp _ ≤ 0 then (⊥ : EReal) else _) = _
    rw [if_neg (by have := Real.exp_pos (-(max (r - 0) (-(r - 0)))); linarith), ← EReal.coe_add]
  · have := Real.exp_pos (-(max (r - 0) (-(r - 0))))
    exact add_nonneg (le_max_right _ _) (Real.log_nonneg (by linarith))

/-- The logarithm of the decay: the kernel folds the logistic's two halves and the factor eight into one
    constant. -/
theorem log_decay (L : EReal) (p : ℝ) :
    Ideal.tanh (((1 / 2 : ℝ) : EReal) * L) * (((-4 : ℝ) : EReal) * (p : EReal)) + ((-4 : ℝ) : EReal) * (p : EReal)
      = ((-8 : ℝ) : EReal) * sig L * (p : EReal) := by
  rw [← half_tanh]
  obtain ⟨t, ht, -, -⟩ := tanh_real (((1 / 2 : ℝ) : EReal) * L)
  rw [ht]
  simp only [← EReal.coe_mul, ← EReal.coe_add]
  congr 1; ring

/-- The logarithm of the decay is a real number, not positive. -/
theorem log_decay_real (L : EReal) (p : ℝ) (hp : 0 ≤ p) :
    ∃ l : ℝ, ((-8 : ℝ) : EReal) * sig L * (p : EReal) = (l : EReal) ∧ l ≤ 0 := by
  rw [← half_tanh]
  obtain ⟨t, ht, h1, -⟩ := tanh_real (((1 / 2 : ℝ) : EReal) * L)
  rw [ht]
  refine ⟨-8 * (1 / 2 * t + 1 / 2) * p, ?_, ?_⟩
  · simp only [← EReal.coe_mul, ← EReal.coe_add]
  · have : 0 ≤ (1 / 2 * t + 1 / 2) * p := mul_nonneg (by linarith) hp
    nlinarith

/-- The input's scale: the kernel takes one minus the squared decay as a product with a hyperbolic tangent, and
    its square root as that times the reciprocal square root. -/
theorem input_scale (l : ℝ) (hl : l ≤ 0) :
    (Ideal.tanh (l : EReal) * (((-1 : ℝ) : EReal) - Ideal.exp (l : EReal) * Ideal.exp (l : EReal)))
        * Ideal.rsqrt (max (Ideal.tanh (l : EReal) * (((-1 : ℝ) : EReal) - Ideal.exp (l : EReal) * Ideal.exp (l : EReal))) ⊥)
      = Ideal.sqrt (-(Ideal.exp (((2 : ℝ) : EReal) * (l : EReal)) - 1)) := by
  have hq : Real.tanh l * (-1 - Real.exp l * Real.exp l) = 1 - Real.exp (2 * l) := by
    rw [Real.tanh_eq_sinh_div_cosh, Real.sinh_eq, Real.cosh_eq]
    have h1 : Real.exp (2 * l) = Real.exp l * Real.exp l := by rw [← Real.exp_add]; congr 1; ring
    have h2 : Real.exp l * Real.exp (-l) = 1 := by rw [← Real.exp_add]; simp
    rw [h1]
    have p1 := Real.exp_pos l
    have p2 := Real.exp_pos (-l)
    set a := Real.exp l
    set b := Real.exp (-l)
    have : a + b ≠ 0 := by positivity
    rw [div_div_div_cancel_right₀ (by norm_num), div_mul_eq_mul_div, div_eq_iff this]
    linear_combination (2 * a) * h2
  have hn : (0 : ℝ) ≤ 1 - Real.exp (2 * l) := by
    have : Real.exp (2 * l) ≤ 1 := Real.exp_le_one_iff.mpr (by linarith)
    linarith
  have e1 : Ideal.tanh (l : EReal) * (((-1 : ℝ) : EReal) - Ideal.exp (l : EReal) * Ideal.exp (l : EReal))
      = ((1 - Real.exp (2 * l) : ℝ) : EReal) := by
    show (Real.tanh l : EReal) * (((-1 : ℝ) : EReal) - (Real.exp l : EReal) * (Real.exp l : EReal)) = _
    rw [← hq]
    simp only [← EReal.coe_mul, ← EReal.coe_sub]
  have e2 : -(Ideal.exp (((2 : ℝ) : EReal) * (l : EReal)) - 1) = ((1 - Real.exp (2 * l) : ℝ) : EReal) := by
    rw [← EReal.coe_mul]
    show -((Real.exp (2 * l) : EReal) - 1) = _
    rw [← EReal.coe_one, ← EReal.coe_sub, ← EReal.coe_neg]
    congr 1; ring
  rw [e1, e2, max_eq_left bot_le]
  generalize 1 - Real.exp (2 * l) = q at hn
  show _ * (if q < 0 then (⊥ : EReal) else if q = 0 then ⊤ else ((Real.sqrt q)⁻¹ : ℝ)) = (if q < 0 then (⊥ : EReal) else (Real.sqrt q : EReal))
  rw [if_neg (not_lt.mpr hn), if_neg (not_lt.mpr hn)]
  by_cases h0 : q = 0
  · subst h0; simp
  · rw [if_neg h0, ← EReal.coe_mul]
    congr 1
    have := Real.sqrt_ne_zero'.mpr (lt_of_le_of_ne hn (Ne.symm h0))
    field_simp
    exact (Real.sq_sqrt hn).symm

/-- gelu in the layer's form. -/
def gelu (x : EReal) : EReal :=
  x * (((1 / 2 : ℝ) : EReal) * (1 + Ideal.tanh (((6693141 / 8388608 : ℝ) : EReal) *
    (x + ((12003091 / 268435456 : ℝ) : EReal) * (x * x * x)))))

/-- gelu at a real argument: the kernel multiplies the two constants beforehand and takes the half first. -/
theorem gelu_real (x : ℝ) :
    (((1 / 2 : ℝ) : EReal) * (x : EReal)) * Ideal.tanh ((x : EReal) * (((x : EReal) * (x : EReal)) *
        ((80338380498831 / 2251799813685248 : ℝ) : EReal) + ((6693141 / 8388608 : ℝ) : EReal)))
      + ((1 / 2 : ℝ) : EReal) * (x : EReal) = gelu (x : EReal) := by
  unfold gelu
  have e : (x : EReal) * (((x : EReal) * (x : EReal)) *
        ((80338380498831 / 2251799813685248 : ℝ) : EReal) + ((6693141 / 8388608 : ℝ) : EReal))
      = ((6693141 / 8388608 : ℝ) : EReal) *
    ((x : EReal) + ((12003091 / 268435456 : ℝ) : EReal) * ((x : EReal) * (x : EReal) * (x : EReal))) := by
    simp only [← EReal.coe_mul, ← EReal.coe_add]
    congr 1; ring
  rw [e]
  obtain ⟨t, ht, -, -⟩ := tanh_real (((6693141 / 8388608 : ℝ) : EReal) *
    ((x : EReal) + ((12003091 / 268435456 : ℝ) : EReal) * ((x : EReal) * (x : EReal) * (x : EReal))))
  rw [ht, ← EReal.coe_one]
  simp only [← EReal.coe_mul, ← EReal.coe_add]
  congr 1; ring

end Cert.Scalar

end
-- ==== Proof.MixSpec.lean ====
module

public import proofs.«01_k».proof.Proof.MlpSpec
public import proofs.«01_k».proof.Proof.Scalar

@[expose] public section

noncomputable section

/-! The convolution branch, the merge, the output projection and the norm over the extended reals, one row at a time. -/

namespace Cert.MixSpec

open Idealize.ShloMosaic Cert.Scalar

/-- The products of thirty-one taps with thirty-one values, added to a start in order. -/
def chain (z : EReal) (f : Fin 31 → EReal) : EReal :=
  z + f 0 + f 1 + f 2 + f 3 + f 4 + f 5 + f 6 + f 7 + f 8 + f 9 + f 10 + f 11 + f 12 + f 13 + f 14 + f 15 + f 16 + f 17 + f 18 + f 19 + f 20
    + f 21 + f 22 + f 23 + f 24 + f 25 + f 26 + f 27 + f 28 + f 29 + f 30

theorem chain_eq (z : EReal) (f : Fin 31 → EReal) : chain z f = z + ∑ j : Fin 31, f j := by
  simp only [chain, Fin.sum_univ_succ, Finset.univ_eq_empty, Finset.sum_empty, add_zero, add_assoc]
  rfl

/-- The start may as well be added last. -/
theorem chain_zero_add (z : EReal) (f : Fin 31 → EReal) : chain 0 f + z = chain z f := by
  rw [chain_eq, chain_eq, zero_add, add_comm]

/-- The channel `i` of row `n - 120`, if there is such a row; otherwise zero. -/
def padded (c : Fin 8 → Fin 32768 → Fin 128 → EReal) (n : ℕ) (i : Fin 1024) : EReal :=
  if h : 120 ≤ n ∧ n - 120 < 32768 then c ⟨i / 128, by omega⟩ ⟨n - 120, h.2⟩ ⟨i % 128, by omega⟩ else 0

/-- The convolution at row `R`: every eighth row, from 120 rows before to 120 rows after. -/
def conv (c : Fin 8 → Fin 32768 → Fin 128 → EReal) (w : Fin 31 → Fin 1024 → EReal) (b : Fin 1024 → EReal) (R : ℕ) (i : Fin 1024) : EReal :=
  chain (b i) fun j => w j i * padded c (R + 8 * j) i

/-- A value times its logistic function. -/
def silu (v : EReal) : EReal := v * sig v

/-- Branch A's row plus the gated convolution branch. -/
def merged (h ma : Fin 1024 → EReal) (wg : Fin 1024 → Fin 1024 → EReal) (bg y lg lb : Fin 1024 → EReal) (wb : Fin 1024 → Fin 1024 → EReal)
    (k : Fin 1024) : EReal :=
  ma k + sig ((∑ i : Fin 1024, h i * wg i k) + bg k) * ∑ i : Fin 1024, silu (MlpSpec.norm y lg lb i) * wb i k

/-- The row's scaled residual plus the projection of the merged branches. -/
def stream (h ma : Fin 1024 → EReal) (wg : Fin 1024 → Fin 1024 → EReal) (bg y lg lb : Fin 1024 → EReal) (wb : Fin 1024 → Fin 1024 → EReal)
    (wo : Fin 1024 → Fin 1024 → EReal) (bo : Fin 1024 → EReal) (j : Fin 1024) : EReal :=
  Ideal.ofBits .f32 0x3F9837F0#32 * h j + ((∑ k : Fin 1024, merged h ma wg bg y lg lb wb k * wo k j) + bo j)

/-- The layer's row `R`, from the whole arrays. -/
def layer (c : Fin 8 → Fin 32768 → Fin 128 → EReal) (hn ma : Fin 32768 → Fin 1024 → EReal) (wi : Fin 1024 → Fin 7168 → EReal)
    (bi : Fin 7168 → EReal) (cw : Fin 31 → Fin 1024 → EReal) (cb lg lb : Fin 1024 → EReal) (wb wo : Fin 1024 → Fin 1024 → EReal)
    (bo g e : Fin 1024 → EReal) (R : Fin 32768) : Fin 1024 → EReal :=
  MlpSpec.norm (stream (hn R) (ma R) (fun i k => wi i ⟨6144 + k, by omega⟩) (fun k => bi ⟨6144 + k, by omega⟩) (conv c cw cb R) lg lb wb wo bo) g e

end Cert.MixSpec

end
-- ==== Proof.MixScratch.lean ====
module

public import proofs.«01_k».proof.Proof.MixTrip
public import proofs.«01_k».proof.Proof.MixSpec
public import Idealize.ShloMosaic.Lib.Pipeline.ValueKit
public import Idealize.ShloMosaic.Lib.PointwiseCore

@[expose] public section

set_option maxRecDepth 16384

noncomputable section

/-! What the kernel's two scratch arrays hold: the padded rows of a grid point, and their convolution. -/

namespace Cert.Kernel3Ideal.Mix

open Idealize.ShloMosaic Idealize.ShloMosaic.TcCoe Idealize.SL.Sem
open Cert.Kernel3Ideal Cert.Kernel3Ideal.Gen

/-- Three blocks of rows, one after another. -/
def rows {F : FTy → Type} [FloatOps F] (p0 : FVec F S8x128x128 .f32) (p1 : FVec F S8x512x128 .f32) (p2 : FVec F S8x128x128 .f32) : Vec F S8x768x128 .f32 := fun y =>
  if h : (y 1 : ℕ) < 128 then p0 (ix3 ⟨(y 0 : ℕ), (y 0).isLt⟩ ⟨(y 1 : ℕ), h⟩ ⟨(y 2 : ℕ), (y 2).isLt⟩)
  else if h' : (y 1 : ℕ) < 640 then p1 (ix3 ⟨(y 0 : ℕ), (y 0).isLt⟩ ⟨(y 1 : ℕ) - 128, by omega⟩ ⟨(y 2 : ℕ), (y 2).isLt⟩)
  else p2 (ix3 ⟨(y 0 : ℕ), (y 0).isLt⟩ ⟨(y 1 : ℕ) - 640, by have := (y 1).isLt; change (y 1 : ℕ) < 768 at this; omega⟩ ⟨(y 2 : ℕ), (y 2).isLt⟩)

/-- The three stores that fill the scratch, the last first. -/
abbrev fills {F : FTy → Type} [FloatOps F] (p0 : FVec F S8x128x128 .f32) (p1 : FVec F S8x512x128 .f32) (p2 : FVec F S8x128x128 .f32) :
    List (View.Piece (Elt F) S8x768x128 .f32) :=
  [⟨Rect.unit (s := S8x768x128) ![0, 640, 0] S8x128x128.size inb_S8x768x128_S8x128x128_0_640_0, p2⟩,
   ⟨Rect.unit (s := S8x768x128) ![0, 128, 0] S8x512x128.size inb_S8x768x128_S8x512x128_0_128_0, p1⟩,
   ⟨Rect.unit (s := S8x768x128) ![0, 0, 0] S8x128x128.size inb_S8x768x128_S8x128x128_0_0_0, p0⟩]

theorem canon_fills {F : FTy → Type} [FloatOps F] (p0 : FVec F S8x128x128 .f32) (p1 : FVec F S8x512x128 .f32) (p2 : FVec F S8x128x128 .f32) :
    View.canon (fills p0 p1 p2) = rows p0 p1 p2 := by
  have hcov : ∀ y : S8x768x128.Idx, ∃ p ∈ fills p0 p1 p2, y ∈ p.1.set := by
    intro y
    have h0 : (y 0 : ℕ) < 8 := (y 0).isLt
    have h1 : (y 1 : ℕ) < 768 := (y 1).isLt
    have h2 : (y 2 : ℕ) < 128 := (y 2).isLt
    by_cases hy : (y 1 : ℕ) < 128
    · refine ⟨_, List.mem_cons_of_mem _ (List.mem_cons_of_mem _ List.mem_cons_self), ?_⟩
      rw [Rect.mem_set_unit]
      intro a
      fin_cases a
      · exact ⟨Nat.zero_le _, by show (y 0 : ℕ) < 0 + 8; omega⟩
      · exact ⟨Nat.zero_le _, by show (y 1 : ℕ) < 0 + 128; omega⟩
      · exact ⟨Nat.zero_le _, by show (y 2 : ℕ) < 0 + 128; omega⟩
    · by_cases hy' : (y 1 : ℕ) < 640
      · refine ⟨_, List.mem_cons_of_mem _ List.mem_cons_self, ?_⟩
        rw [Rect.mem_set_unit]
        intro a
        fin_cases a
        · exact ⟨Nat.zero_le _, by show (y 0 : ℕ) < 0 + 8; omega⟩
        · exact ⟨by show 128 ≤ (y 1 : ℕ); omega, by show (y 1 : ℕ) < 128 + 512; omega⟩
        · exact ⟨Nat.zero_le _, by show (y 2 : ℕ) < 0 + 128; omega⟩
      · refine ⟨_, List.mem_cons_self, ?_⟩
        rw [Rect.mem_set_unit]
        intro a
        fin_cases a
        · exact ⟨Nat.zero_le _, by show (y 0 : ℕ) < 0 + 8; omega⟩
        · exact ⟨by show 640 ≤ (y 1 : ℕ); omega, by show (y 1 : ℕ) < 640 + 128; omega⟩
        · exact ⟨Nat.zero_le _, by show (y 2 : ℕ) < 0 + 128; omega⟩
  funext y
  refine View.canon_apply_of_pieces (Val := Elt F) (e := .f32) (rows p0 p1 p2) _ ?_ y (hcov y)
  intro q hq
  simp only [List.mem_cons, List.not_mem_nil, or_false] at hq
  rcases hq with rfl | rfl | rfl
  · intro x
    have h1 : (x 1 : ℕ) < 128 := (x 1).isLt
    have e0 := (ValueKit.rect_emb_unit_val (s := S8x768x128) ![0, 640, 0] S8x128x128.size inb_S8x768x128_S8x128x128_0_640_0 x 0).trans (Nat.zero_add _)
    have e1 : ((Rect.unit (s := S8x768x128) ![0, 640, 0] S8x128x128.size inb_S8x768x128_S8x128x128_0_640_0).emb x 1 : ℕ) = 640 + (x 1 : ℕ) :=
      ValueKit.rect_emb_unit_val (s := S8x768x128) ![0, 640, 0] S8x128x128.size inb_S8x768x128_S8x128x128_0_640_0 x 1
    have e2 := (ValueKit.rect_emb_unit_val (s := S8x768x128) ![0, 640, 0] S8x128x128.size inb_S8x768x128_S8x128x128_0_640_0 x 2).trans (Nat.zero_add _)
    unfold rows
    rw [dif_neg (fun h => absurd (lt_of_eq_of_lt e1.symm h) (by omega)), dif_neg (fun h => absurd (lt_of_eq_of_lt e1.symm h) (by omega))]
    refine congrArg p2 ((eq_ix3 (n0 := 8) (n1 := 128) (n2 := 128) x).trans ?_)
    funext a
    fin_cases a
    · exact Fin.ext e0.symm
    · exact Fin.ext ((by omega : (x 1 : ℕ) = 640 + (x 1 : ℕ) - 640).trans (congrArg (· - 640) e1.symm))
    · exact Fin.ext e2.symm
  · intro x
    have h1 : (x 1 : ℕ) < 512 := (x 1).isLt
    have e0 := (ValueKit.rect_emb_unit_val (s := S8x768x128) ![0, 128, 0] S8x512x128.size inb_S8x768x128_S8x512x128_0_128_0 x 0).trans (Nat.zero_add _)
    have e1 : ((Rect.unit (s := S8x768x128) ![0, 128, 0] S8x512x128.size inb_S8x768x128_S8x512x128_0_128_0).emb x 1 : ℕ) = 128 + (x 1 : ℕ) :=
      ValueKit.rect_emb_unit_val (s := S8x768x128) ![0, 128, 0] S8x512x128.size inb_S8x768x128_S8x512x128_0_128_0 x 1
    have e2 := (ValueKit.rect_emb_unit_val (s := S8x768x128) ![0, 128, 0] S8x512x128.size inb_S8x768x128_S8x512x128_0_128_0 x 2).trans (Nat.zero_add _)
    unfold rows
    rw [dif_neg (fun h => absurd (lt_of_eq_of_lt e1.symm h) (by omega)), dif_pos (lt_of_eq_of_lt e1 (by omega))]
    refine congrArg p1 ((eq_ix3 (n0 := 8) (n1 := 512) (n2 := 128) x).trans ?_)
    funext a
    fin_cases a
    · exact Fin.ext e0.symm
    · exact Fin.ext ((by omega : (x 1 : ℕ) = 128 + (x 1 : ℕ) - 128).trans (congrArg (· - 128) e1.symm))
    · exact Fin.ext e2.symm
  · intro x
    have h1 : (x 1 : ℕ) < 128 := (x 1).isLt
    have e0 := (ValueKit.rect_emb_unit_val (s := S8x768x128) ![0, 0, 0] S8x128x128.size inb_S8x768x128_S8x128x128_0_0_0 x 0).trans (Nat.zero_add _)
    have e1 := (ValueKit.rect_emb_unit_val (s := S8x768x128) ![0, 0, 0] S8x128x128.size inb_S8x768x128_S8x128x128_0_0_0 x 1).trans (Nat.zero_add _)
    have e2 := (ValueKit.rect_emb_unit_val (s := S8x768x128) ![0, 0, 0] S8x128x128.size inb_S8x768x128_S8x128x128_0_0_0 x 2).trans (Nat.zero_add _)
    unfold rows
    rw [dif_pos (lt_of_eq_of_lt e1 h1)]
    refine congrArg p0 ((eq_ix3 (n0 := 8) (n1 := 128) (n2 := 128) x).trans ?_)
    funext a
    fin_cases a
    · exact Fin.ext e0.symm
    · exact Fin.ext e1.symm
    · exact Fin.ext e2.symm

variable (arg8 : Memref sig .tc .vmem S8x248x128 .f32) (harg8 : arg8.IsWhole) (arg9 : Memref sig .tc .vmem S1x1024 .f32) (harg9 : arg9.IsWhole)
  (arg18 : Memref sig .tc .vmem S8x768x128 .f32)
  (x7 : Vec Ideal S8x248x128 .f32) (x8 : Vec Ideal S1x1024 .f32) (p0 : FVec Ideal S8x128x128 .f32) (p1 : FVec Ideal S8x512x128 .f32)
  (p2 : FVec Ideal S8x128x128 .f32)

/-- A row's convolution, from the padded rows. -/
def rowConv : Vec Ideal S8x512x128 .f32 := fun y =>
  MixSpec.chain (x8 (ix2 0 ⟨128 * (y 0 : ℕ) + (y 2 : ℕ), by
      have h0 : (y 0 : ℕ) < 8 := (y 0).isLt
      have h2 : (y 2 : ℕ) < 128 := (y 2).isLt
      omega⟩))
    fun j => x7 (ix3 ⟨(y 0 : ℕ), (y 0).isLt⟩ ⟨8 * (j : ℕ) + (y 1 : ℕ) % 8, by omega⟩ ⟨(y 2 : ℕ), (y 2).isLt⟩)
      * rows p0 p1 p2 (ix3 ⟨(y 0 : ℕ), (y 0).isLt⟩ ⟨(y 1 : ℕ) + 8 + 8 * (j : ℕ), by
          have h1 : (y 1 : ℕ) < 512 := (y 1).isLt
          omega⟩ ⟨(y 2 : ℕ), (y 2).isLt⟩)

theorem wT_apply (l : Fin 8) (j : Fin 31) (q : Fin 8) (c : Fin 128) :
    wT arg8 (harg8.unread x7) l j (ix3 0 q c) = x7 (ix3 l ⟨8 * j + q, by omega⟩ c) := by
  unfold wT
  rw [View.readAt_eq_ld, harg8.read_unread, View.ld_unit]
  pointwise

theorem bT_apply (l : Fin 8) (c : Fin 128) :
    bT arg9 (harg9.unread x8) l (ix2 0 c) = x8 (ix2 0 ⟨128 * l + c, by omega⟩) := by
  unfold bT
  rw [View.readAt_eq_ld, harg9.read_unread, View.ld_unit]
  pointwise

theorem trips_eq : k0_t1_loop.trips = 16 := by decide

theorem xT_apply (k : Fin k0_t1_loop.trips) (l : Fin 8) (r : Fin 34) (q : Fin 8) (c : Fin 128) :
    xT arg18 (arg18.view.writes (Elt Ideal) arg18.view.junk (fills p0 p1 p2)) k l r (ix3 0 q c)
      = rows p0 p1 p2 (ix3 l ⟨32 * k + 8 * r + 8 + q, by have := lt_of_lt_of_eq k.isLt trips_eq; omega⟩ c) := by
  unfold xT
  rw [View.readAt_writes_junk_eq_canon, canon_fills]
  refine congrArg (rows p0 p1 p2) ?_
  have e := lOff_eq l k r
  funext a
  refine Fin.ext ((ValueKit.rect_emb_unit_val (s := S8x768x128) _ S1x8x128.size (lOff_inb l k r) (ix3 (0 : Fin 1) q c) a).trans ((congrArg (· + _) (congrFun e a)).trans ?_))
  fin_cases a
  · rfl
  · rfl
  · exact Nat.zero_add _

theorem bias_apply (b : Vec Ideal S1x128 .f32) (q : Fin 8) (c : Fin 128) : bias b (ix2 q c) = b (ix2 0 c) := by
  unfold bias
  pointwise

theorem step_apply (a : FVec Ideal S8x128 .f32) (w x : Vec Ideal S1x8x128 .f32) (q : Fin 8) (c : Fin 128) :
    step a w x (ix2 q c) = a (ix2 q c) + w (ix3 0 q c) * x (ix3 0 q c) := by
  unfold step
  pointwise

theorem taps_apply (z : FVec Ideal S8x128 .f32) (w x : Fin 31 → Vec Ideal S1x8x128 .f32) (q : Fin 8) (c : Fin 128) :
    taps z w x (ix2 q c) = MixSpec.chain (z (ix2 q c)) fun j => w j (ix3 0 q c) * x j (ix3 0 q c) := by
  simp only [taps, step_apply, MixSpec.chain]

theorem cast_apply (a : FVec Ideal S8x128 .f32) (q : Fin 8) (c : Fin 128) :
    shapeCast S1x8x128 a shapeCasts_S8x128_S1x8x128 (ix3 (0 : Fin 1) q c : S1x8x128.Idx) = a (ix2 q c) := by
  pointwise

/-- A piece that a trip stores is part of the rows' convolution. -/
theorem piece_apply (k : Fin k0_t1_loop.trips) (l : Fin 8) (g : Fin 4)
    (x : (piece arg8 arg9 arg18 (harg8.unread x7) (harg9.unread x8) (arg18.view.writes (Elt Ideal) arg18.view.junk (fills p0 p1 p2)) k l g).1.shape.Idx) :
    (piece arg8 arg9 arg18 (harg8.unread x7) (harg9.unread x8) (arg18.view.writes (Elt Ideal) arg18.view.junk (fills p0 p1 p2)) k l g).2 x
      = rowConv x7 x8 p0 p1 p2
          ((piece arg8 arg9 arg18 (harg8.unread x7) (harg9.unread x8) (arg18.view.writes (Elt Ideal) arg18.view.junk (fills p0 p1 p2)) k l g).1.emb x) := by
  obtain ⟨q, c, rfl⟩ : ∃ (q : Fin 8) (c : Fin 128), x = (ix3 (0 : Fin 1) q c : S1x8x128.Idx) :=
    ⟨x 1, x 2, (eq_ix3 (n0 := 1) (n1 := 8) (n2 := 128) x).trans (by congr 1; exact Subsingleton.elim _ _)⟩
  have e := sOff_eq l k g
  have hk := lt_of_lt_of_eq k.isLt trips_eq
  have hemb : (piece arg8 arg9 arg18 (harg8.unread x7) (harg9.unread x8) (arg18.view.writes (Elt Ideal) arg18.view.junk (fills p0 p1 p2)) k l g).1.emb
      (ix3 (0 : Fin 1) q c : S1x8x128.Idx) = (ix3 l ⟨32 * k + 8 * g + q, by omega⟩ c : S8x512x128.Idx) := by
    funext a
    refine Fin.ext ((ValueKit.rect_emb_unit_val (s := S8x512x128) _ S1x8x128.size (sOff_inb l k g) (ix3 (0 : Fin 1) q c) a).trans ((congrArg (· + _) (congrFun e a)).trans ?_))
    fin_cases a
    · rfl
    · rfl
    · exact Nat.zero_add _
  rw [hemb]
  have hacc : (piece arg8 arg9 arg18 (harg8.unread x7) (harg9.unread x8) (arg18.view.writes (Elt Ideal) arg18.view.junk (fills p0 p1 p2)) k l g).2
      (ix3 (0 : Fin 1) q c : S1x8x128.Idx)
      = acc arg8 arg9 arg18 (harg8.unread x7) (harg9.unread x8) (arg18.view.writes (Elt Ideal) arg18.view.junk (fills p0 p1 p2)) k l g (ix2 q c) :=
    cast_apply (acc arg8 arg9 arg18 (harg8.unread x7) (harg9.unread x8) (arg18.view.writes (Elt Ideal) arg18.view.junk (fills p0 p1 p2)) k l g) q c
  rw [hacc, acc, taps_apply, bias_apply, bT_apply]
  unfold rowConv
  congr 1
  funext j
  rw [wT_apply, xT_apply]
  congr 2
  · refine congrArg (fun n => ix3 l n c) (Fin.ext ?_)
    show 8 * (j : ℕ) + q = 8 * (j : ℕ) + (32 * (k : ℕ) + 8 * g + q) % 8
    omega
  · refine congrArg (fun n => ix3 l n c) (Fin.ext ?_)
    show 32 * (k : ℕ) + 8 * ((j : ℕ) + g) + 8 + q = 32 * (k : ℕ) + 8 * g + q + 8 + 8 * j
    omega

/-- The pieces of one trip. -/
theorem trip_ofFn (P : Fin 8 → Fin 4 → View.Piece (Elt Ideal) S8x512x128 .f32) :
    [P 7 3, P 7 2, P 7 1, P 7 0, P 6 3, P 6 2, P 6 1, P 6 0, P 5 3, P 5 2, P 5 1, P 5 0, P 4 3, P 4 2, P 4 1, P 4 0, P 3 3, P 3 2, P 3 1, P 3 0,
      P 2 3, P 2 2, P 2 1, P 2 0, P 1 3, P 1 2, P 1 1, P 1 0, P 0 3, P 0 2, P 0 1, P 0 0]
      = List.ofFn fun n : Fin 32 => P ⟨7 - n / 4, by omega⟩ ⟨3 - n % 4, by omega⟩ := rfl

/-- A list that grows by the trips' pieces holds the rows' convolution. -/
theorem canon_trips (L : ℕ → List (View.Piece (Elt Ideal) S8x512x128 .f32)) (h0 : L 0 = [])
    (P : Fin k0_t1_loop.trips → Fin 8 → Fin 4 → View.Piece (Elt Ideal) S8x512x128 .f32)
    (hP : P = piece arg8 arg9 arg18 (harg8.unread x7) (harg9.unread x8) (arg18.view.writes (Elt Ideal) arg18.view.junk (fills p0 p1 p2)))
    (hs : ∀ k : Fin k0_t1_loop.trips, L (k.val + 1) = [P k 7 3, P k 7 2, P k 7 1, P k 7 0, P k 6 3, P k 6 2, P k 6 1, P k 6 0, P k 5 3, P k 5 2,
      P k 5 1, P k 5 0, P k 4 3, P k 4 2, P k 4 1, P k 4 0, P k 3 3, P k 3 2, P k 3 1, P k 3 0,
      P k 2 3, P k 2 2, P k 2 1, P k 2 0, P k 1 3, P k 1 2, P k 1 1, P k 1 0, P k 0 3, P k 0 2, P k 0 1, P k 0 0] ++ L k.val) :
    View.canon (L k0_t1_loop.trips) = rowConv x7 x8 p0 p1 p2 := by
  have hmem : ∀ n ≤ k0_t1_loop.trips, ∀ q ∈ L n, ∃ k l g, q = P k l g := by
    intro n
    induction n with
    | zero => intro _ q hq; rw [h0] at hq; simp at hq
    | succ n ih =>
      intro hn q hq
      rw [hs ⟨n, hn⟩, trip_ofFn (P ⟨n, hn⟩)] at hq
      rcases List.mem_append.mp hq with hq | hq
      · obtain ⟨i, rfl⟩ := (List.mem_ofFn' _ _).mp hq
        exact ⟨_, _, _, rfl⟩
      · exact ih (by omega) q hq
  have hall : ∀ n ≤ k0_t1_loop.trips, ∀ (k : Fin k0_t1_loop.trips), k.val < n → ∀ l g, P k l g ∈ L n := by
    intro n
    induction n with
    | zero => intro _ k hk; omega
    | succ n ih =>
      intro hn k hk l g
      rw [hs ⟨n, hn⟩, trip_ofFn (P ⟨n, hn⟩)]
      by_cases hkn : k.val = n
      · obtain rfl : k = ⟨n, hn⟩ := Fin.ext hkn
        refine List.mem_append_left _ ((List.mem_ofFn' _ _).mpr ⟨⟨4 * (7 - l) + (3 - g), by omega⟩, ?_⟩)
        have e1 : (⟨7 - (4 * (7 - (l : ℕ)) + (3 - g)) / 4, by omega⟩ : Fin 8) = l := Fin.ext (show 7 - (4 * (7 - (l : ℕ)) + (3 - g)) / 4 = l by omega)
        have e2 : (⟨3 - (4 * (7 - (l : ℕ)) + (3 - g)) % 4, by omega⟩ : Fin 4) = g := Fin.ext (show 3 - (4 * (7 - (l : ℕ)) + (3 - g)) % 4 = g by omega)
        exact congrArg₂ (P ⟨n, hn⟩) e1 e2
      · exact List.mem_append_right _ (ih (by omega) k (by omega) l g)
  funext y
  refine View.canon_apply_of_pieces (Val := Elt Ideal) (e := .f32) (rowConv x7 x8 p0 p1 p2) _ ?_ y ?_
  · intro q hq
    obtain ⟨k, l, g, rfl⟩ := hmem _ le_rfl q hq
    subst hP
    exact piece_apply arg8 harg8 arg9 harg9 arg18 x7 x8 p0 p1 p2 k l g
  · have h0 : (y 0 : ℕ) < 8 := (y 0).isLt
    have h1 : (y 1 : ℕ) < 512 := (y 1).isLt
    have h2 : (y 2 : ℕ) < 128 := (y 2).isLt
    have hk : (y 1 : ℕ) / 32 < k0_t1_loop.trips := by rw [trips_eq]; omega
    refine ⟨_, hall _ le_rfl ⟨(y 1 : ℕ) / 32, hk⟩ hk ⟨y 0, h0⟩ ⟨(y 1 : ℕ) / 8 % 4, by omega⟩, ?_⟩
    subst hP
    have e := sOff_eq ⟨y 0, h0⟩ ⟨(y 1 : ℕ) / 32, hk⟩ ⟨(y 1 : ℕ) / 8 % 4, by omega⟩
    refine (Rect.mem_set_unit (s := S8x512x128) (inb := sOff_inb ⟨y 0, h0⟩ ⟨(y 1 : ℕ) / 32, hk⟩ ⟨(y 1 : ℕ) / 8 % 4, by omega⟩)).mpr ?_
    intro a
    have ea := congrFun e a
    refine ⟨le_of_eq_of_le ea ?_, lt_of_lt_of_eq ?_ (congrArg (· + _) ea.symm)⟩
    · fin_cases a
      · exact le_rfl
      · show 32 * ((y 1 : ℕ) / 32) + 8 * ((y 1 : ℕ) / 8 % 4) ≤ (y 1 : ℕ)
        omega
      · exact Nat.zero_le _
    · fin_cases a
      · exact Nat.lt_succ_self _
      · show (y 1 : ℕ) < 32 * ((y 1 : ℕ) / 32) + 8 * ((y 1 : ℕ) / 8 % 4) + 8
        omega
      · show (y 2 : ℕ) < 0 + 128
        omega

end Cert.Kernel3Ideal.Mix

end
-- ==== Proof.MixHalf.lean ====
module

public import proofs.«01_k».proof.Proof.MixSpec
public import proofs.«01_k».proof.Proof.Gen.Kernel3Ideal.Skeleton
public import Idealize.ShloMosaic.Lib.Pipeline.ValueKit
public import Idealize.ShloMosaic.Lib.PointwiseCore

@[expose] public section

set_option maxRecDepth 16384

noncomputable section

/-! 256 rows of a grid point over the extended reals, from the convolution's rows. -/

namespace Cert.Kernel3Ideal.Mix

open Cert.Kernel3Ideal Cert.Kernel3Ideal.Gen Cert.MlpSpec Idealize.ShloMosaic

/-- The rows after the convolution, as the kernel computes them. -/
def half {F : FTy → Type} [FloatOps F] (hn ma : Vec F S256x1024 .f32) (s : Fin 8 → Vec F S1x256x128 .f32) (wg : Vec F S1024x1024 .bf16)
    (bg lg lb : Vec F S1x1024 .f32) (wb wo : Vec F S1024x1024 .bf16) (bo g e : Vec F S1x1024 .f32) : FVec F S256x1024 .f32 :=
  k0_pay1180 hn (k0_pay1178 wo) (k0_pay1179 hn (k0_pay1174 lg) (k0_pay1175 lb)
    (k0_pay1176 (k0_pay1173 (s 0)) (s 1) (s 2) (s 3) (s 4) (s 5) (s 6) (s 7)) (k0_pay1177 (k0_pay1173 (s 0)) (s 1) (s 2) (s 3) (s 4) (s 5) (s 6) (s 7))
    (FloatOps.ofBits FTy.f32 0x3727C5AC#32) wb wg bg ma) bo g e

/-- The second half of the rows, whose computation the program spells otherwise. -/
theorem half_eq {F : FTy → Type} [FloatOps F] (hn ma : Vec F S256x1024 .f32) (s : Fin 8 → Vec F S1x256x128 .f32) (wg : Vec F S1024x1024 .bf16)
    (bg lg lb : Vec F S1x1024 .f32) (wb wo : Vec F S1024x1024 .bf16) (bo g e : Vec F S1x1024 .f32) :
    k0_pay1 hn (k0_pay1186 hn (k0_pay1182 lg) (k0_pay1183 lb) (k0_pay1184 (k0_pay1181 (s 0)) (s 1) (s 2) (s 3) (s 4) (s 5) (s 6) (s 7))
      (k0_pay1185 (k0_pay1181 (s 0)) (s 1) (s 2) (s 3) (s 4) (s 5) (s 6) (s 7)) wb wg bg ma wo) bo g e = half hn ma s wg bg lg lb wb wo bo g e := rfl

variable (hn ma : Vec Ideal S256x1024 .f32) (s : Fin 8 → Vec Ideal S1x256x128 .f32) (wg : Vec Ideal S1024x1024 .bf16)
  (bg lg lb : Vec Ideal S1x1024 .f32) (wb wo : Vec Ideal S1024x1024 .bf16) (bo g e : Vec Ideal S1x1024 .f32)

/-- The eight groups of channels side by side. -/
def lanes : FVec Ideal S256x1024 .f32 :=
  concatenate S256x1024 1 (List.ofFn fun l : Fin 8 => ⟨S256x128, shapeCast S256x128 (s l) shapeCasts_S1x256x128_S256x128⟩)
    concatenates_S256x128_S256x128_S256x128_S256x128_S256x128_S256x128_S256x128_S256x128_S256x1024_d1

theorem lanes_apply (r : Fin 256) (i : Fin 1024) :
    lanes s (ix2 r i) = s ⟨i / 128, by omega⟩ (ix3 0 r ⟨i % 128, by omega⟩) := by
  unfold lanes
  refine (concatenate_ofFn_apply (t := S256x1024) (s₁ := S256x128) 1 (fun l : Fin 8 => shapeCast S256x128 (s l) shapeCasts_S1x256x128_S256x128)
    concatenates_S256x128_S256x128_S256x128_S256x128_S256x128_S256x128_S256x128_S256x128_S256x1024_d1 rfl 128 rfl (ix2 r i)
    ⟨i / 128, by omega⟩ rfl (ix2 r ⟨i % 128, by omega⟩) rfl ?_).trans ?_
  · intro a ha
    fin_cases a
    · rfl
    · exact absurd rfl ha
  · pointwise

/-- The rows less their means. -/
def lessMean (y : FVec Ideal S256x1024 .f32) : FVec Ideal S256x1024 .f32 :=
  subf y (broadcastTo S256x1024 (divf (shapeCast S256x1 (multiReduction .add [1] S256 y 0x00000000#32 reduces_S256x1024_S256 (.inl rfl) rfl) shapeCasts_S256_S256x1)
    (broadcast S256x1 (Scalar.ofBits .f32 0x44800000#32))) broadcasts_S256x1_S256x1024)

theorem lessMean_eq : k0_pay1176 (k0_pay1173 (s 0)) (s 1) (s 2) (s 3) (s 4) (s 5) (s 6) (s 7) = lessMean (lanes s) := rfl

theorem lessMean_apply (y : FVec Ideal S256x1024 .f32) (r : Fin 256) (i : Fin 1024) : lessMean y (ix2 r i) = centred (fun i => y (ix2 r i)) i := by
  unfold lessMean
  pointwise
  rfl

theorem square_apply (r : Fin 256) :
    k0_pay1177 (k0_pay1173 (s 0)) (s 1) (s 2) (s 3) (s 4) (s 5) (s 6) (s 7) (ix2 r 0)
      = mean fun i => centred (fun i => lanes s (ix2 r i)) i * centred (fun i => lanes s (ix2 r i)) i := by
  unfold k0_pay1177
  rw [lessMean_eq]
  pointwise
  simp only [lessMean_apply]
  rfl

theorem merged_apply (y : FVec Ideal S256x1024 .f32) (v : FVec Ideal S256x1 .f32) (r : Fin 256) (k : Fin 1024) :
    k0_pay1179 hn (k0_pay1174 lg) (k0_pay1175 lb) y v (FloatOps.ofBits FTy.f32 0x3727C5AC#32) wb wg bg ma (ix2 r k)
      = ma (ix2 r k) + Scalar.sig ((∑ i : Fin 1024, hn (ix2 r i) * wg (ix2 i k)) + bg (ix2 0 k))
        * ∑ i : Fin 1024, MixSpec.silu (y (ix2 r i) * Ideal.rsqrt (v (ix2 r 0) + Ideal.ofBits .f32 0x3727C5AC#32) * lg (ix2 0 i) + lb (ix2 0 i)) * wb (ix2 i k) := by
  unfold k0_pay1179 k0_pay1174 k0_pay1175
  pointwise
  simp only [Scalar.half_bits, Scalar.half_tanh, MixSpec.silu]

theorem norm_apply (w : FVec Ideal S1024x1024 .bf16) (y : FVec Ideal S256x1024 .bf16) (r : Fin 256) (j : Fin 1024) :
    k0_pay1180 hn w y bo g e (ix2 r j)
      = norm (fun j => Ideal.ofBits .f32 0x3F9837F0#32 * hn (ix2 r j) + ((∑ k : Fin 1024, y (ix2 r k) * w (ix2 k j)) + bo (ix2 0 j)))
        (fun k => g (ix2 0 k)) (fun k => e (ix2 0 k)) j := by
  unfold k0_pay1180
  pointwise
  rfl

/-- A row. -/
theorem half_apply (r : Fin 256) (j : Fin 1024) :
    half hn ma s wg bg lg lb wb wo bo g e (ix2 r j)
      = norm (MixSpec.stream (fun k => hn (ix2 r k)) (fun k => ma (ix2 r k)) (fun i k => wg (ix2 i k)) (fun k => bg (ix2 0 k))
          (fun i => s ⟨i / 128, by omega⟩ (ix3 0 r ⟨i % 128, by omega⟩)) (fun k => lg (ix2 0 k)) (fun k => lb (ix2 0 k)) (fun i k => wb (ix2 i k))
          (fun k j => wo (ix2 k j)) fun j => bo (ix2 0 j))
        (fun k => g (ix2 0 k)) (fun k => e (ix2 0 k)) j := by
  unfold half
  rw [norm_apply]
  simp only [merged_apply, lessMean_eq, square_apply, lessMean_apply, lanes_apply]
  unfold k0_pay1178
  congr 1
  funext j
  unfold MixSpec.stream MixSpec.merged
  congr 2
  refine Finset.sum_congr rfl fun k _ => ?_
  pointwise
  rfl

end Cert.Kernel3Ideal.Mix

end
-- ==== Proof.MixBody.lean ====
module

public import proofs.«01_k».proof.Proof.MixScratch
public import proofs.«01_k».proof.Proof.MixHalf
public import proofs.«01_k».proof.Proof.Gen.Kernel3Ideal.Frame
public import Idealize.ShloMosaic.Lib.Tactic

@[expose] public section

set_option maxRecDepth 16384

noncomputable section

/-! What one grid point writes: two halves of 256 rows. -/

namespace Cert.Kernel3Ideal.Mix

open Idealize.ShloMosaic Idealize.ShloMosaic.TcCoe Idealize.ShloMosaic.Tactic Idealize.SL.Sem
open Cert.Kernel3Ideal Cert.Kernel3Ideal.Gen

theorem hz2 : (![0, 0] : Fin 2 → Nat) = fun _ => 0 := funext fun a => by fin_cases a <;> rfl

theorem hz3 : (![0, 0, 0] : Fin 3 → Nat) = fun _ => 0 := funext fun a => by fin_cases a <;> rfl

/-- No grid coordinate is negative. -/
theorem never (i : grid0.Coords) : Scalar.cmpi .slt (BitVec.ofNat 32 (i 0).val) 0#32 = 0#1 :=
  (by decide +kernel : ∀ n : Fin 64, Scalar.cmpi .slt (BitVec.ofNat 32 n.val) 0#32 = 0#1) (i 0)

theorem sInb (n : ℕ) (hn : n + 256 ≤ 512) (l : Fin 8) : ∀ a, (![l.val, n, 0] : Fin 3 → Nat) a + (![1, 256, 128] : Fin 3 → Nat) a ≤ S8x512x128.size a := by
  have := l.isLt
  intro a
  fin_cases a
  · show l.val + 1 ≤ 8; omega
  · show n + 256 ≤ 512; omega
  · show 0 + 128 ≤ 128; omega

theorem rInb (n : ℕ) (hn : n + 256 ≤ 512) : ∀ a, (![n, 0] : Fin 2 → Nat) a + (![256, 1024] : Fin 2 → Nat) a ≤ S512x1024.size a := by
  intro a
  fin_cases a
  · show n + 256 ≤ 512; omega
  · show 0 + 1024 ≤ 1024; omega

/-- The rows `n` to `n + 255` of a grid point. -/
def halfAt (n : ℕ) (hn : n + 256 ≤ 512) (cv : Vec Ideal S8x512x128 .f32) (x3 x4 : Vec Ideal S512x1024 .f32) (x5 : Vec Ideal S1024x1024 .bf16) (x6 x9 x10 : Vec Ideal S1x1024 .f32)
    (x11 x12 : Vec Ideal S1024x1024 .bf16) (x13 x14 x15 : Vec Ideal S1x1024 .f32) : FVec Ideal S256x1024 .f32 :=
  half (View.ld x3 (Rect.unit (s := S512x1024) ![n, 0] ![256, 1024] (rInb n hn))) (View.ld x4 (Rect.unit (s := S512x1024) ![n, 0] ![256, 1024] (rInb n hn)))
    (fun l => View.ld cv (Rect.unit (s := S8x512x128) ![l.val, n, 0] ![1, 256, 128] (sInb n hn l))) x5 x6 x9 x10 x11 x12 x13 x14 x15

/-- The two stores, the later first. -/
abbrev halves (p0 p1 : FVec Ideal S256x1024 .f32) : List (View.Piece (Elt Ideal) S512x1024 .f32) :=
  [⟨Rect.unit (s := S512x1024) ![256, 0] ![256, 1024] inb_S512x1024_S256x1024_256_0, p1⟩,
   ⟨Rect.unit (s := S512x1024) ![0, 0] ![256, 1024] inb_S512x1024_S256x1024_0_0, p0⟩]

/-- What the body's run stores. -/
theorem stores (c : Dev nD) (i : grid0.Coords) (arg1 : Memref sig .tc .vmem S8x128x128 .f32) (harg1 : arg1.IsWhole) (arg2 : Memref sig .tc .vmem S8x512x128 .f32) (harg2 : arg2.IsWhole) (arg3 : Memref sig .tc .vmem S8x128x128 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S8x248x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S512x1024 .f32) (harg17 : arg17.IsWhole) (arg18 : Memref sig .tc .vmem S8x768x128 .f32) (harg18 : arg18.IsWhole) (arg19 : Memref sig .tc .vmem S8x512x128 .f32) (harg19 : arg19.IsWhole)
    (x0 : Vec Ideal S8x128x128 .f32) (x1 : Vec Ideal S8x512x128 .f32) (x2 : Vec Ideal S8x128x128 .f32) (x3 : Vec Ideal S512x1024 .f32) (x4 : Vec Ideal S512x1024 .f32) (x5 : Vec Ideal S1024x1024 .bf16) (x6 : Vec Ideal S1x1024 .f32) (x7 : Vec Ideal S8x248x128 .f32) (x8 : Vec Ideal S1x1024 .f32) (x9 : Vec Ideal S1x1024 .f32) (x10 : Vec Ideal S1x1024 .f32) (x11 : Vec Ideal S1024x1024 .bf16) (x12 : Vec Ideal S1024x1024 .bf16) (x13 : Vec Ideal S1x1024 .f32) (x14 : Vec Ideal S1x1024 .f32) (x15 : Vec Ideal S1x1024 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15).1
      = halves (halfAt 0 (by omega) (rowConv x7 x8 (k0_pay1169 i x0) (k0_pay1170 x1) (k0_pay1171 i x2)) x3 x4 x5 x6 x9 x10 x11 x12 x13 x14 x15)
          (halfAt 256 (by omega) (rowConv x7 x8 (k0_pay1169 i x0) (k0_pay1170 x1) (k0_pay1171 i x2)) x3 x4 x5 x6 x9 x10 x11 x12 x13 x14 x15) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, never]
  have hL := canon_trips arg8 harg8 arg9 harg9 arg18 x7 x8 (k0_pay1169 i x0) (k0_pay1170 x1) (k0_pay1171 i x2)
    (fun n => pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 0#1 (harg8.unread x7) (harg9.unread x8)
      (arg18.view.writes (Elt Ideal) arg18.view.junk (fills (k0_pay1169 i x0) (k0_pay1170 x1) (k0_pay1171 i x2))) n)
    (by exact pb_k0_t1.eq_1 ..) _ rfl
    (fun k => (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 0#1 (harg8.unread x7) (harg9.unread x8)
      (arg18.view.writes (Elt Ideal) arg18.view.junk (fills (k0_pay1169 i x0) (k0_pay1170 x1) (k0_pay1171 i x2))) k).trans
      (congrArg (· ++ _) (trip_list (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg8.unread x7) (harg9.unread x8) _ k)))
  simp only [View.ld_unit_zero (S := S8x128x128) hz3, View.ld_unit_zero (S := S8x512x128) hz3, View.ld_unit_zero (S := S1x1024) hz2, View.ld_unit_zero (S := S1024x1024) hz2]
  dsimp only at hL
  generalize pb_k0_t1 (F := Ideal) _ _ _ _ _ _ _ _ _ _ _ _ _ _ _ _ _ _ _ _ _ _ _ _ _ _ _ _ _ _ _ _ _ _ _ _ _ _ _ _ _ _ _ _ _ _ _ = L at hL ⊢
  simp only [View.readCov_eq_canon', hL]
  rfl

/-- Two halves, one above the other. -/
def stackRows (p0 p1 : FVec Ideal S256x1024 .f32) : Vec Ideal S512x1024 .f32 := fun y =>
  if h : (y 0 : ℕ) < 256 then p0 (ix2 ⟨(y 0 : ℕ), h⟩ ⟨(y 1 : ℕ), (y 1).isLt⟩)
  else p1 (ix2 ⟨(y 0 : ℕ) - 256, by have := (y 0).isLt; change (y 0 : ℕ) < 512 at this; omega⟩ ⟨(y 1 : ℕ), (y 1).isLt⟩)

theorem canon_halves (p0 p1 : FVec Ideal S256x1024 .f32) (y : S512x1024.Idx) (hy : ∃ p ∈ halves p0 p1, y ∈ p.1.set) :
    View.canon (halves p0 p1) y = stackRows p0 p1 y := by
  refine View.canon_apply_of_pieces (Val := Elt Ideal) (e := .f32) (stackRows p0 p1) _ ?_ y hy
  intro q hq
  simp only [List.mem_cons, List.not_mem_nil, or_false] at hq
  rcases hq with rfl | rfl
  · intro x
    have h0 : (x 0 : ℕ) < 256 := (x 0).isLt
    have e0 : ((Rect.unit (s := S512x1024) ![256, 0] ![256, 1024] inb_S512x1024_S256x1024_256_0).emb x 0 : ℕ) = 256 + (x 0 : ℕ) :=
      ValueKit.rect_emb_unit_val (s := S512x1024) ![256, 0] ![256, 1024] inb_S512x1024_S256x1024_256_0 x 0
    have e1 := (ValueKit.rect_emb_unit_val (s := S512x1024) ![256, 0] ![256, 1024] inb_S512x1024_S256x1024_256_0 x 1).trans (Nat.zero_add _)
    unfold stackRows
    rw [dif_neg (fun h => absurd (lt_of_eq_of_lt e0.symm h) (by omega))]
    refine congrArg p1 ((eq_ix2 (n0 := 256) (n1 := 1024) x).trans ?_)
    funext a
    fin_cases a
    · exact Fin.ext ((by omega : (x 0 : ℕ) = 256 + (x 0 : ℕ) - 256).trans (congrArg (· - 256) e0.symm))
    · exact Fin.ext e1.symm
  · intro x
    have h0 : (x 0 : ℕ) < 256 := (x 0).isLt
    have e0 := (ValueKit.rect_emb_unit_val (s := S512x1024) ![0, 0] ![256, 1024] inb_S512x1024_S256x1024_0_0 x 0).trans (Nat.zero_add _)
    have e1 := (ValueKit.rect_emb_unit_val (s := S512x1024) ![0, 0] ![256, 1024] inb_S512x1024_S256x1024_0_0 x 1).trans (Nat.zero_add _)
    unfold stackRows
    rw [dif_pos (lt_of_eq_of_lt e0 h0)]
    refine congrArg p0 ((eq_ix2 (n0 := 256) (n1 := 1024) x).trans ?_)
    funext a
    fin_cases a
    · exact Fin.ext e0.symm
    · exact Fin.ext e1.symm

/-- What the output's buffer holds after a grid point. -/
theorem out_eq (c : Dev nD) (i : grid0.Coords) (arg1 : Memref sig .tc .vmem S8x128x128 .f32) (harg1 : arg1.IsWhole) (arg2 : Memref sig .tc .vmem S8x512x128 .f32) (harg2 : arg2.IsWhole) (arg3 : Memref sig .tc .vmem S8x128x128 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S8x248x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S512x1024 .f32) (harg17 : arg17.IsWhole) (arg18 : Memref sig .tc .vmem S8x768x128 .f32) (harg18 : arg18.IsWhole) (arg19 : Memref sig .tc .vmem S8x512x128 .f32) (harg19 : arg19.IsWhole)
    (x0 : Vec Ideal S8x128x128 .f32) (x1 : Vec Ideal S8x512x128 .f32) (x2 : Vec Ideal S8x128x128 .f32) (x3 : Vec Ideal S512x1024 .f32) (x4 : Vec Ideal S512x1024 .f32) (x5 : Vec Ideal S1024x1024 .bf16) (x6 : Vec Ideal S1x1024 .f32) (x7 : Vec Ideal S8x248x128 .f32) (x8 : Vec Ideal S1x1024 .f32) (x9 : Vec Ideal S1x1024 .f32) (x10 : Vec Ideal S1x1024 .f32) (x11 : Vec Ideal S1024x1024 .bf16) (x12 : Vec Ideal S1024x1024 .bf16) (x13 : Vec Ideal S1x1024 .f32) (x14 : Vec Ideal S1x1024 .f32) (x15 : Vec Ideal S1x1024 .f32) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15
      = stackRows (halfAt 0 (by omega) (rowConv x7 x8 (k0_pay1169 i x0) (k0_pay1170 x1) (k0_pay1171 i x2)) x3 x4 x5 x6 x9 x10 x11 x12 x13 x14 x15)
          (halfAt 256 (by omega) (rowConv x7 x8 (k0_pay1169 i x0) (k0_pay1170 x1) (k0_pay1171 i x2)) x3 x4 x5 x6 x9 x10 x11 x12 x13 x14 x15) := by
  have hcov := cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15
  unfold out0_A_16
  rw [View.read_writes_eq_canon _ _ _ hcov]
  rw [stores] at hcov ⊢
  funext y
  exact canon_halves _ _ y (hcov y)

variable (x3 x4 : Vec Ideal S512x1024 .f32) (cv : Vec Ideal S8x512x128 .f32) (x5 : Vec Ideal S1024x1024 .bf16) (x6 x9 x10 : Vec Ideal S1x1024 .f32)
  (x11 x12 : Vec Ideal S1024x1024 .bf16) (x13 x14 x15 : Vec Ideal S1x1024 .f32)

theorem ld_rows (n : ℕ) (hn : n + 256 ≤ 512) (r : Fin 256) (k : Fin 1024) :
    (View.ld x3 (Rect.unit (s := S512x1024) ![n, 0] ![256, 1024] (rInb n hn)) : Vec Ideal S256x1024 .f32) (ix2 r k) = x3 (ix2 ⟨n + r, by omega⟩ k) := by
  rw [View.ld_unit]
  pointwise

theorem ld_conv (n : ℕ) (hn : n + 256 ≤ 512) (l : Fin 8) (r : Fin 256) (c : Fin 128) :
    (View.ld cv (Rect.unit (s := S8x512x128) ![l.val, n, 0] ![1, 256, 128] (sInb n hn l)) : Vec Ideal S1x256x128 .f32) (ix3 0 r c)
      = cv (ix3 l ⟨n + r, by omega⟩ c) := by
  rw [View.ld_unit]
  pointwise

/-- A row of a grid point, from the convolution's row. -/
def rowOf (r : Fin 512) : Fin 1024 → EReal :=
  MlpSpec.norm (MixSpec.stream (fun k => x3 (ix2 r k)) (fun k => x4 (ix2 r k)) (fun i k => x5 (ix2 i k)) (fun k => x6 (ix2 0 k))
      (fun i => cv (ix3 ⟨i / 128, by omega⟩ r ⟨i % 128, by omega⟩)) (fun k => x9 (ix2 0 k)) (fun k => x10 (ix2 0 k)) (fun i k => x11 (ix2 i k))
      (fun k j => x12 (ix2 k j)) fun j => x13 (ix2 0 j))
    (fun k => x14 (ix2 0 k)) (fun k => x15 (ix2 0 k))

theorem stream_congr {h h' ma ma' y y' : Fin 1024 → EReal} {wg : Fin 1024 → Fin 1024 → EReal} {bg lg lb : Fin 1024 → EReal}
    {wb wo : Fin 1024 → Fin 1024 → EReal} {bo : Fin 1024 → EReal} (e1 : h = h') (e2 : ma = ma') (e3 : y = y') :
    MixSpec.stream h ma wg bg y lg lb wb wo bo = MixSpec.stream h' ma' wg bg y' lg lb wb wo bo := by
  rw [e1, e2, e3]

theorem halfAt_apply (n : ℕ) (hn : n + 256 ≤ 512) (r : Fin 256) (j : Fin 1024) :
    halfAt n hn cv x3 x4 x5 x6 x9 x10 x11 x12 x13 x14 x15 (ix2 r j) = rowOf x3 x4 cv x5 x6 x9 x10 x11 x12 x13 x14 x15 ⟨n + r, by omega⟩ j := by
  unfold halfAt rowOf
  rw [half_apply]
  exact congrFun (congrArg (fun s => MlpSpec.norm s (fun k => x14 (ix2 0 k)) (fun k => x15 (ix2 0 k)))
    (stream_congr (funext fun k => ld_rows x3 n hn r k) (funext fun k => ld_rows x4 n hn r k)
      (funext fun i => ld_conv cv n hn ⟨i / 128, by omega⟩ r ⟨i % 128, by omega⟩))) j

theorem stack_apply (r : Fin 512) (j : Fin 1024) :
    stackRows (halfAt 0 (by omega) cv x3 x4 x5 x6 x9 x10 x11 x12 x13 x14 x15) (halfAt 256 (by omega) cv x3 x4 x5 x6 x9 x10 x11 x12 x13 x14 x15) (ix2 r j)
      = rowOf x3 x4 cv x5 x6 x9 x10 x11 x12 x13 x14 x15 r j := by
  unfold stackRows
  dsimp only
  split
  · rename_i h
    refine (halfAt_apply _ _ _ _ _ _ _ _ _ _ _ _ 0 (by omega) ⟨r, h⟩ j).trans ?_
    exact congrArg (rowOf x3 x4 cv x5 x6 x9 x10 x11 x12 x13 x14 x15 · j) (Fin.ext (Nat.zero_add _))
  · rename_i h
    have h' : ¬(r : ℕ) < 256 := h
    refine (halfAt_apply _ _ _ _ _ _ _ _ _ _ _ _ 256 (by omega) ⟨r - 256, by omega⟩ j).trans ?_
    exact congrArg (rowOf x3 x4 cv x5 x6 x9 x10 x11 x12 x13 x14 x15 · j) (Fin.ext (show 256 + ((r : ℕ) - 256) = r by omega))

end Cert.Kernel3Ideal.Mix

end
-- ==== Proof.MixValue.lean ====
module

public import proofs.«01_k».proof.Proof.MixBody
public import proofs.«01_k».proof.Proof.Gen.Kernel3Ideal.Value
public import Idealize.ShloMosaic.Lib.StableHlo.ReadAt

@[expose] public section

set_option maxRecDepth 16384

noncomputable section

/-! The third kernel's result array over the extended reals, element by element. -/

namespace Cert.Kernel3Ideal.Result

open Cert.Kernel3Ideal Cert.Kernel3Ideal.Gen Cert.Kernel3Ideal.Mix Cert.MixSpec Idealize.ShloMosaic Idealize.ShloMosaic.TcCoe Idealize.SL.Sem

variable (m : (ℓ : Loc nD τ sig) → Buf (Elt Ideal) ℓ) (d : Dev nD)

/-- A grid point's coordinate is its number. -/
theorem coord : ∀ t : Fin cfg0.N, ((grid0.coords t) 0).val = t.val :=
  (by decide +kernel : ∀ t : Fin grid0.N, ((grid0.coords t) 0).val = t.val)

/-- The convolution's blocks: the tile's rows, the 128 rows before and the 128 rows after. -/
theorem index_conv : ∀ t : Fin cfg0.N, win0_0.index t = ![0, 4 * t.val - 1, 0] ∧ win0_1.index t = ![0, t.val, 0]
    ∧ win0_2.index t = ![0, min (4 * (t.val + 1)) 255, 0] :=
  (by decide +kernel : ∀ t : Fin grid0.N, win0_0.index t = ![0, 4 * t.val - 1, 0] ∧ win0_1.index t = ![0, t.val, 0]
    ∧ win0_2.index t = ![0, min (4 * (t.val + 1)) 255, 0])

/-- The rows' blocks are placed at the grid point's number. -/
theorem index_rows : ∀ t : Fin cfg0.N, win0_3.index t = ![t.val, 0] ∧ win0_4.index t = ![t.val, 0] ∧ win0_16.index t = ![t.val, 0] :=
  (by decide +kernel : ∀ t : Fin grid0.N, win0_3.index t = ![t.val, 0] ∧ win0_4.index t = ![t.val, 0] ∧ win0_16.index t = ![t.val, 0])

/-- The other windows' blocks are the whole arrays. -/
theorem index_whole : ∀ t : Fin cfg0.N, win0_5.index t = ![0, 0] ∧ win0_6.index t = ![0, 0] ∧ win0_7.index t = ![0, 0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] :=
  (by decide +kernel : ∀ t : Fin grid0.N, win0_5.index t = ![0, 0] ∧ win0_6.index t = ![0, 0] ∧ win0_7.index t = ![0, 0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0])

/-- The rows before a tile. -/
theorem prev_apply (t : Fin cfg0.N) (l : Fin 8) (n : Fin 128) (c : Fin 128) (R : Fin 32768) (hR : (R : ℕ) = (4 * t - 1) * 128 + n) :
    (iblk m d 0 t : Vec Ideal S8x128x128 .f32) (ix3 l n c) = (m ((d : Thread nD τ).loc main_arg0) : S8x32768x128.Idx → EReal) (ix3 l R c) := by
  have hN := lt_of_lt_of_eq t.isLt (show cfg0.N = 64 from N_0)
  have e : R = ⟨(4 * t - 1) * 128 + n, by omega⟩ := Fin.ext hR
  rw [← V_main_arg0 m d, e]
  blk_ext [iblk, (index_conv t).1]

/-- A tile's rows. -/
theorem here_apply (t : Fin cfg0.N) (l : Fin 8) (n : Fin 512) (c : Fin 128) (R : Fin 32768) (hR : (R : ℕ) = t * 512 + n) :
    (iblk m d 1 t : Vec Ideal S8x512x128 .f32) (ix3 l n c) = (m ((d : Thread nD τ).loc main_arg0) : S8x32768x128.Idx → EReal) (ix3 l R c) := by
  have hN := lt_of_lt_of_eq t.isLt (show cfg0.N = 64 from N_0)
  have e : R = ⟨t * 512 + n, by omega⟩ := Fin.ext hR
  rw [← V_main_arg0 m d, e]
  blk_ext [iblk, (index_conv t).2.1]

/-- The rows after a tile. -/
theorem next_apply (t : Fin cfg0.N) (l : Fin 8) (n : Fin 128) (c : Fin 128) (R : Fin 32768) (hR : (R : ℕ) = min (4 * ((t : ℕ) + 1)) 255 * 128 + n) :
    (iblk m d 2 t : Vec Ideal S8x128x128 .f32) (ix3 l n c) = (m ((d : Thread nD τ).loc main_arg0) : S8x32768x128.Idx → EReal) (ix3 l R c) := by
  have hN := lt_of_lt_of_eq t.isLt (show cfg0.N = 64 from N_0)
  have e : R = ⟨min (4 * ((t : ℕ) + 1)) 255 * 128 + n, by omega⟩ := Fin.ext hR
  rw [← V_main_arg0 m d, e]
  blk_ext [iblk, (index_conv t).2.2]

theorem hn_apply (t : Fin cfg0.N) (r : Fin 512) (k : Fin 1024) (R : Fin 32768) (hR : (R : ℕ) = 512 * t + r) :
    (iblk m d 3 t : Vec Ideal S512x1024 .f32) (ix2 r k) = (m ((d : Thread nD τ).loc main_arg1) : S32768x1024.Idx → EReal) (ix2 R k) := by
  have hN := lt_of_lt_of_eq t.isLt (show cfg0.N = 64 from N_0)
  have e : R = ⟨512 * t + r, by omega⟩ := Fin.ext hR
  rw [← V_main_arg1 m d, e]
  blk_ext [iblk, (index_rows t).1]

theorem ma_apply (t : Fin cfg0.N) (r : Fin 512) (k : Fin 1024) (R : Fin 32768) (hR : (R : ℕ) = 512 * t + r) :
    (iblk m d 4 t : Vec Ideal S512x1024 .f32) (ix2 r k) = (m ((d : Thread nD τ).loc main_arg2) : S32768x1024.Idx → EReal) (ix2 R k) := by
  have hN := lt_of_lt_of_eq t.isLt (show cfg0.N = 64 from N_0)
  have e : R = ⟨512 * t + r, by omega⟩ := Fin.ext hR
  rw [← V_main_arg2 m d, e]
  blk_ext [iblk, (index_rows t).2.1]

theorem wg_apply (t : Fin cfg0.N) (i k : Fin 1024) :
    (iblk m d 5 t : Vec Ideal S1024x1024 .bf16) (ix2 i k) = (m ((d : Thread nD τ).loc main_arg3) : S1x1024x7168.Idx → EReal) (ix3 0 i ⟨6144 + k, by omega⟩) := by
  rw [show (iblk m d 5 t : Vec Ideal S1024x1024 .bf16) = V m d main_v3 from funext fun i => by blk_ext [iblk, (index_whole t).1]]
  unfold V hostOps0
  after_reads_at

theorem bg_apply (t : Fin cfg0.N) (k : Fin 1024) :
    (iblk m d 6 t : Vec Ideal S1x1024 .f32) (ix2 0 k) = (m ((d : Thread nD τ).loc main_arg4) : S1x7168.Idx → EReal) (ix2 0 ⟨6144 + k, by omega⟩) := by
  rw [show (iblk m d 6 t : Vec Ideal S1x1024 .f32) = V m d main_v5 from funext fun i => by blk_ext [iblk, (index_whole t).2.1]]
  unfold V hostOps0
  after_reads_at

/-- The taps, each repeated for eight rows. -/
theorem cw_apply (t : Fin cfg0.N) (l : Fin 8) (j : Fin 31) (q : Fin 8) (c : Fin 128) :
    (iblk m d 7 t : Vec Ideal S8x248x128 .f32) (ix3 l ⟨8 * j + q, by omega⟩ c)
      = (m ((d : Thread nD τ).loc main_arg5) : S1x31x1024.Idx → EReal) (ix3 0 j ⟨128 * l + c, by omega⟩) := by
  rw [show (iblk m d 7 t : Vec Ideal S8x248x128 .f32) = V m d main_v10 from funext fun i => by blk_ext [iblk, (index_whole t).2.2.1]]
  unfold V hostOps0
  after_reads_at
  exact congrArg₂ (fun p q => (m ((d : Thread nD τ).loc main_arg5) : S1x31x1024.Idx → EReal) (ix3 0 p q))
    (Fin.ext (show (8 * (j : ℕ) + q) / 8 = j by omega)) (Fin.ext (show (l : ℕ) * 128 + c = 128 * l + c by omega))

theorem cb_apply (t : Fin cfg0.N) (k : Fin 1024) :
    (iblk m d 8 t : Vec Ideal S1x1024 .f32) (ix2 0 k) = (m ((d : Thread nD τ).loc main_arg6) : S1x1024.Idx → EReal) (ix2 0 k) := by
  rw [show (iblk m d 8 t : Vec Ideal S1x1024 .f32) = V m d main_v12 from funext fun i => by blk_ext [iblk, (index_whole t).2.2.2.1]]
  unfold V hostOps0
  after_reads_at

theorem lg_apply (t : Fin cfg0.N) (k : Fin 1024) :
    (iblk m d 9 t : Vec Ideal S1x1024 .f32) (ix2 0 k) = (m ((d : Thread nD τ).loc main_arg7) : S1x1024.Idx → EReal) (ix2 0 k) := by
  rw [show (iblk m d 9 t : Vec Ideal S1x1024 .f32) = V m d main_v14 from funext fun i => by blk_ext [iblk, (index_whole t).2.2.2.2.1]]
  unfold V hostOps0
  after_reads_at

theorem lb_apply (t : Fin cfg0.N) (k : Fin 1024) :
    (iblk m d 10 t : Vec Ideal S1x1024 .f32) (ix2 0 k) = (m ((d : Thread nD τ).loc main_arg8) : S1x1024.Idx → EReal) (ix2 0 k) := by
  rw [show (iblk m d 10 t : Vec Ideal S1x1024 .f32) = V m d main_v16 from funext fun i => by blk_ext [iblk, (index_whole t).2.2.2.2.2.1]]
  unfold V hostOps0
  after_reads_at

theorem wb_apply (t : Fin cfg0.N) (i k : Fin 1024) :
    (iblk m d 11 t : Vec Ideal S1024x1024 .bf16) (ix2 i k) = (m ((d : Thread nD τ).loc main_arg9) : S1x1024x1024.Idx → EReal) (ix3 0 i k) := by
  rw [show (iblk m d 11 t : Vec Ideal S1024x1024 .bf16) = V m d main_v18 from funext fun i => by blk_ext [iblk, (index_whole t).2.2.2.2.2.2.1]]
  unfold V hostOps0
  after_reads_at

theorem wo_apply (t : Fin cfg0.N) (i k : Fin 1024) :
    (iblk m d 12 t : Vec Ideal S1024x1024 .bf16) (ix2 i k) = (m ((d : Thread nD τ).loc main_arg10) : S1x1024x1024.Idx → EReal) (ix3 0 i k) := by
  rw [show (iblk m d 12 t : Vec Ideal S1024x1024 .bf16) = V m d main_v20 from funext fun i => by blk_ext [iblk, (index_whole t).2.2.2.2.2.2.2.1]]
  unfold V hostOps0
  after_reads_at

theorem bo_apply (t : Fin cfg0.N) (k : Fin 1024) :
    (iblk m d 13 t : Vec Ideal S1x1024 .f32) (ix2 0 k) = (m ((d : Thread nD τ).loc main_arg11) : S1x1024.Idx → EReal) (ix2 0 k) := by
  rw [show (iblk m d 13 t : Vec Ideal S1x1024 .f32) = V m d main_v22 from funext fun i => by blk_ext [iblk, (index_whole t).2.2.2.2.2.2.2.2.1]]
  unfold V hostOps0
  after_reads_at

theorem g_apply (t : Fin cfg0.N) (k : Fin 1024) :
    (iblk m d 14 t : Vec Ideal S1x1024 .f32) (ix2 0 k) = (m ((d : Thread nD τ).loc main_arg12) : S1x1024.Idx → EReal) (ix2 0 k) := by
  rw [show (iblk m d 14 t : Vec Ideal S1x1024 .f32) = V m d main_v24 from funext fun i => by blk_ext [iblk, (index_whole t).2.2.2.2.2.2.2.2.2.1]]
  unfold V hostOps0
  after_reads_at

theorem e_apply (t : Fin cfg0.N) (k : Fin 1024) :
    (iblk m d 15 t : Vec Ideal S1x1024 .f32) (ix2 0 k) = (m ((d : Thread nD τ).loc main_arg13) : S1x1024.Idx → EReal) (ix2 0 k) := by
  rw [show (iblk m d 15 t : Vec Ideal S1x1024 .f32) = V m d main_v26 from funext fun i => by blk_ext [iblk, (index_whole t).2.2.2.2.2.2.2.2.2.2]]
  unfold V hostOps0
  after_reads_at

/-- The convolution's input by lane group, row and channel. -/
abbrev cF : Fin 8 → Fin 32768 → Fin 128 → EReal := fun l R c => (m ((d : Thread nD τ).loc main_arg0) : S8x32768x128.Idx → EReal) (ix3 l R c)

/-- The taps. -/
abbrev wF : Fin 31 → Fin 1024 → EReal := fun j i => (m ((d : Thread nD τ).loc main_arg5) : S1x31x1024.Idx → EReal) (ix3 0 j i)

/-- A vector's entries. -/
abbrev rowF (x : S1x1024.Idx → EReal) : Fin 1024 → EReal := fun k => x (ix2 0 k)

theorem first_bit : ∀ n : Fin 64, Scalar.cmpi .sgt (BitVec.ofNat 32 n.val) 0#32 = if n.val = 0 then 0#1 else 1#1 := by decide +kernel

theorem last_bit : ∀ n : Fin 64, Scalar.cmpi .slt (BitVec.ofNat 32 n.val) 63#32 = if n.val = 63 then 0#1 else 1#1 := by decide +kernel

/-- The rows before the tile, or zeros at the first tile. -/
theorem pay_prev (i : grid0.Coords) (hi : (i 0).val < 64) (v : Vec Ideal S8x128x128 .f32) (y : S8x128x128.Idx) :
    k0_pay1169 (F := Ideal) i v y = if (i 0).val = 0 then 0 else v y := by
  have h := first_bit ⟨(i 0).val, hi⟩
  rw [eq_ix3 (n0 := 8) (n1 := 128) (n2 := 128) y]
  unfold k0_pay1169
  dsimp only at h ⊢
  rw [h]
  split
  · pointwise
  · pointwise

/-- The rows after the tile, or zeros at the last tile. -/
theorem pay_next (i : grid0.Coords) (hi : (i 0).val < 64) (v : Vec Ideal S8x128x128 .f32) (y : S8x128x128.Idx) :
    k0_pay1171 (F := Ideal) i v y = if (i 0).val = 63 then 0 else v y := by
  have h := last_bit ⟨(i 0).val, hi⟩
  rw [eq_ix3 (n0 := 8) (n1 := 128) (n2 := 128) y]
  unfold k0_pay1171
  dsimp only at h ⊢
  rw [h]
  split
  · pointwise
  · pointwise

theorem pay_here (v : Vec Ideal S8x512x128 .f32) (y : S8x512x128.Idx) : k0_pay1170 (F := Ideal) v y = v y := by
  rw [eq_ix3 (n0 := 8) (n1 := 512) (n2 := 128) y]
  unfold k0_pay1170
  pointwise

/-- A tile's rows, with 128 rows before and after, are the padded input's. -/
theorem rows_apply (t : Fin cfg0.N) (i : Fin 1024) (n : Fin 768) (N : ℕ) (hN : N + 8 = 512 * t + n) :
    rows (k0_pay1169 (F := Ideal) (grid0.coords t) (iblk m d 0 t)) (k0_pay1170 (F := Ideal) (iblk m d 1 t))
      (k0_pay1171 (F := Ideal) (grid0.coords t) (iblk m d 2 t)) (ix3 ⟨i / 128, by omega⟩ n ⟨i % 128, by omega⟩) = padded (cF m d) N i := by
  have ht := lt_of_lt_of_eq t.isLt (show cfg0.N = 64 from N_0)
  have hc := coord t
  have hn := n.isLt
  unfold rows padded
  dsimp only
  split
  · rename_i h1
    have h1' : (n : ℕ) < 128 := h1
    refine (pay_prev _ (hc.trans_lt ht) _ _).trans ?_
    rw [hc]
    split
    · rw [dif_neg (by omega)]
    · rw [dif_pos (by omega)]
      exact prev_apply m d t _ ⟨n, h1'⟩ _ _ (show N - 120 = (4 * (t : ℕ) - 1) * 128 + n by omega)
  · rename_i h1
    have h1' : ¬(n : ℕ) < 128 := h1
    split
    · rename_i h2
      have h2' : (n : ℕ) < 640 := h2
      refine (pay_here _ _).trans ?_
      rw [dif_pos (by omega)]
      exact here_apply m d t _ ⟨n - 128, by omega⟩ _ _ (show N - 120 = (t : ℕ) * 512 + (n - 128) by omega)
    · rename_i h2
      have h2' : ¬(n : ℕ) < 640 := h2
      refine (pay_next _ (hc.trans_lt ht) _ _).trans ?_
      rw [hc]
      split
      · rw [dif_neg (by omega)]
      · rw [dif_pos (by omega)]
        exact next_apply m d t _ ⟨n - 640, by omega⟩ _ _ (show N - 120 = min (4 * ((t : ℕ) + 1)) 255 * 128 + (n - 640) by omega)

/-- A tile's convolution is the layer's. -/
theorem conv_apply (t : Fin cfg0.N) (r : Fin 512) (R : Fin 32768) (hR : (R : ℕ) = 512 * t + r) (i : Fin 1024) :
    rowConv (iblk m d 7 t) (iblk m d 8 t) (k0_pay1169 (F := Ideal) (grid0.coords t) (iblk m d 0 t)) (k0_pay1170 (F := Ideal) (iblk m d 1 t))
      (k0_pay1171 (F := Ideal) (grid0.coords t) (iblk m d 2 t)) (ix3 ⟨i / 128, by omega⟩ r ⟨i % 128, by omega⟩)
      = conv (cF m d) (wF m d) (rowF (m ((d : Thread nD τ).loc main_arg6))) R i := by
  have e : (⟨128 * ((i : ℕ) / 128) + (i : ℕ) % 128, by omega⟩ : Fin 1024) = i := Fin.ext (show 128 * ((i : ℕ) / 128) + (i : ℕ) % 128 = i by omega)
  unfold rowConv conv
  refine congrArg₂ chain ?_ (funext fun j => congrArg₂ (· * ·) ?_ ?_)
  · exact (cb_apply m d t _).trans (congrArg (rowF (m ((d : Thread nD τ).loc main_arg6))) e)
  · exact (cw_apply m d t ⟨i / 128, by omega⟩ j ⟨r % 8, by omega⟩ ⟨i % 128, by omega⟩).trans (congrArg (wF m d j) e)
  · exact rows_apply m d t i ⟨r + 8 + 8 * j, by omega⟩ _ (show (R : ℕ) + 8 * j + 8 = 512 * t + (r + 8 + 8 * j) by omega)

theorem layer_congr {h h' ma ma' bg bg' y y' lg lg' lb lb' bo bo' g g' e e' : Fin 1024 → EReal} {wg wg' wb wb' wo wo' : Fin 1024 → Fin 1024 → EReal}
    (e1 : h = h') (e2 : ma = ma') (e3 : wg = wg') (e4 : bg = bg') (e5 : y = y') (e6 : lg = lg') (e7 : lb = lb') (e8 : wb = wb') (e9 : wo = wo')
    (e10 : bo = bo') (e11 : g = g') (e12 : e = e') :
    MlpSpec.norm (MixSpec.stream h ma wg bg y lg lb wb wo bo) g e = MlpSpec.norm (MixSpec.stream h' ma' wg' bg' y' lg' lb' wb' wo' bo') g' e' := by
  rw [e1, e2, e3, e4, e5, e6, e7, e8, e9, e10, e11, e12]

/-- The layer's rows of the launch's arrays. -/
def target (R : Fin 32768) : Fin 1024 → EReal :=
  layer (cF m d) (fun R k => (m ((d : Thread nD τ).loc main_arg1) : S32768x1024.Idx → EReal) (ix2 R k))
    (fun R k => (m ((d : Thread nD τ).loc main_arg2) : S32768x1024.Idx → EReal) (ix2 R k))
    (fun i k => (m ((d : Thread nD τ).loc main_arg3) : S1x1024x7168.Idx → EReal) (ix3 0 i k))
    (fun k => (m ((d : Thread nD τ).loc main_arg4) : S1x7168.Idx → EReal) (ix2 0 k)) (wF m d)
    (rowF (m ((d : Thread nD τ).loc main_arg6))) (rowF (m ((d : Thread nD τ).loc main_arg7))) (rowF (m ((d : Thread nD τ).loc main_arg8)))
    (fun i k => (m ((d : Thread nD τ).loc main_arg9) : S1x1024x1024.Idx → EReal) (ix3 0 i k))
    (fun i k => (m ((d : Thread nD τ).loc main_arg10) : S1x1024x1024.Idx → EReal) (ix3 0 i k)) (rowF (m ((d : Thread nD τ).loc main_arg11)))
    (rowF (m ((d : Thread nD τ).loc main_arg12))) (rowF (m ((d : Thread nD τ).loc main_arg13))) R

theorem row_eq (t : Fin cfg0.N) (r : Fin 512) (R : Fin 32768) (hR : (R : ℕ) = 512 * t + r) :
    rowOf (iblk m d 3 t) (iblk m d 4 t) (rowConv (iblk m d 7 t) (iblk m d 8 t) (k0_pay1169 (F := Ideal) (grid0.coords t) (iblk m d 0 t))
        (k0_pay1170 (F := Ideal) (iblk m d 1 t)) (k0_pay1171 (F := Ideal) (grid0.coords t) (iblk m d 2 t))) (iblk m d 5 t) (iblk m d 6 t)
        (iblk m d 9 t) (iblk m d 10 t) (iblk m d 11 t) (iblk m d 12 t) (iblk m d 13 t) (iblk m d 14 t) (iblk m d 15 t) r
      = target m d R :=
  layer_congr (funext fun k => hn_apply m d t r k R hR) (funext fun k => ma_apply m d t r k R hR) (funext fun i => funext fun k => wg_apply m d t i k)
    (funext fun k => bg_apply m d t k) (funext fun i => conv_apply m d t r R hR i) (funext fun k => lg_apply m d t k)
    (funext fun k => lb_apply m d t k) (funext fun i => funext fun k => wb_apply m d t i k) (funext fun i => funext fun k => wo_apply m d t i k)
    (funext fun k => bo_apply m d t k) (funext fun k => g_apply m d t k) (funext fun k => e_apply m d t k)

/-- A block of the result's array. -/
theorem block_read (X : S32768x1024.Idx → EReal) (t : Fin cfg0.N) (r : Fin 512) (j : Fin 1024) (R : Fin 32768) (hR : (R : ℕ) = 512 * t + r) :
    ((cfg0.win 16).blk t).view.read (Elt Ideal) X (ix2 r j) = X (ix2 R j) := by
  have hN := lt_of_lt_of_eq t.isLt (show cfg0.N = 64 from N_0)
  have e : R = ⟨512 * t + r, by omega⟩ := Fin.ext hR
  rw [e]
  blk_ext [(index_rows t).2.2]

/-- The kernel's result is the layer's. -/
theorem result_value (R : Fin 32768) (j : Fin 1024) :
    ((dats m 0 d).arrAt 16 cfg0.N : S32768x1024.Idx → EReal) (ix2 R j) = target m d R j := by
  have hN : cfg0.N = 64 := N_0
  have hR : (R : ℕ) = 512 * ((R : ℕ) / 512) + (R : ℕ) % 512 := by omega
  have hb := congrFun (Value.blocks16 m d ⟨R / 512, by omega⟩ (flush0_16 _)) (ix2 (⟨R % 512, by omega⟩ : Fin 512) j)
  rw [Value.flushed16_A, out_eq] at hb
  refine (block_read _ ⟨R / 512, by omega⟩ ⟨R % 512, by omega⟩ j R hR).symm.trans (hb.trans ?_)
  refine Eq.trans ?_ (congrFun (row_eq m d ⟨R / 512, by omega⟩ ⟨R % 512, by omega⟩ R hR) j)
  exact stack_apply _ _ _ _ _ _ _ _ _ _ _ _ ⟨R % 512, by omega⟩ j

end Cert.Kernel3Ideal.Result

end
-- ==== Proof.MixRef.lean ====
module

public import proofs.«01_k».proof.Proof.MixSpec
public import proofs.«01_k».proof.Proof.Gen.Reference3Ideal.Run
public import Idealize.ShloMosaic.Lib.Pipeline.ValueKit
public import Idealize.ShloMosaic.Lib.PointwiseCore

@[expose] public section

set_option maxRecDepth 16384

noncomputable section

/-! The third reference's result over the extended reals. -/

namespace Cert.Reference3Ideal.Result

open Cert.Reference3Ideal Cert.Reference3Ideal.Gen Cert.Reference3Ideal.Value Cert.MlpSpec Cert.MixSpec Idealize.ShloMosaic Idealize.ShloMosaic.TcCoe
  Idealize.ShloMosaic.StableHlo

/-- A vector along the last axis, for every row. -/
def rowT (x : Vec Ideal S1x1024 .f32) : FVec Ideal S8x4096x1024 .f32 :=
  broadcastInDim S8x4096x1024 ![0, 1, 2] bcast_S1x1x1024_S8x4096x1024_0_1_2 (broadcastInDim S1x1x1024 ![2] bcast_S1024_S1x1x1024_2 (shapeCast _ x shapeCasts_S1x1024_S1024))

/-- The rows' means. -/
def meanT (y : FVec Ideal S8x4096x1024 .f32) : FVec Ideal S8x4096x1 .f32 :=
  Host.divf (broadcastInDim S8x4096x1 ![0, 1] bcast_S8x4096_S8x4096x1_0_1 (Host.reduceAdd y (constant S_ .f32 0x00000000#32) reducesTo_S8x4096x1024_S8x4096_d2 h_S_))
    (broadcastInDim S8x4096x1 ![] bcast_S_S8x4096x1 (constant S_ .f32 0x44800000#32))

/-- The rows less their means. -/
def centredT (y : FVec Ideal S8x4096x1024 .f32) : FVec Ideal S8x4096x1024 .f32 :=
  subf y (broadcastInDim S8x4096x1024 ![0, 1, 2] bcast_S8x4096x1_S8x4096x1024_0_1_2 (meanT y))

/-- The rows, normalised, with gain and bias. -/
def normT (x5 x6 : Vec Ideal S1x1024 .f32) (y : FVec Ideal S8x4096x1024 .f32) : FVec Ideal S8x4096x1024 .f32 :=
  addf (mulf (mulf (centredT y) (broadcastInDim S8x4096x1024 ![0, 1, 2] bcast_S8x4096x1_S8x4096x1024_0_1_2
      (Host.rsqrt (addf (meanT (mulf (centredT y) (centredT y))) (broadcastInDim S8x4096x1 ![] bcast_S_S8x4096x1 (constant S_ .f32 0x3727C5AC#32))))))
    (rowT x5)) (rowT x6)

/-- Rows, sequence by sequence. -/
def seqT (x : Vec Ideal S32768x1024 .f32) : FVec Ideal S8x4096x1024 .f32 :=
  transpose S8x4096x1024 [1, 0, 2] (shapeCast _ x shapeCasts_S32768x1024_S4096x8x1024) transposes_S4096x8x1024_S8x4096x1024_1_0_2

/-- The convolution's input, sequence by sequence, with fifteen zeros at each end. -/
def padT (x : Vec Ideal S8x32768x128 .f32) : FVec Ideal S8x4126x1024 .f32 :=
  pad S8x4126x1024 ![0, 15, 0] ![0, 15, 0] ![0, 0, 0] (transpose S8x4096x1024 [1, 0, 2] (shapeCast _ (transpose S32768x8x128 [1, 0, 2] x transposes_S8x32768x128_S32768x8x128_1_0_2) shapeCasts_S32768x8x128_S4096x8x1024) transposes_S4096x8x1024_S8x4096x1024_1_0_2) (sitofp (F := Ideal) .f32 (constantI S_ 32 0#32)) pads_S8x4096x1024_S8x4126x1024_000_15150_000 h_S_

/-- One tap's products. -/
def tapT (p : FVec Ideal S8x4126x1024 .f32) (w : Vec Ideal S1x31x1024 .f32) (k : ℕ) (h : S8x4126x1024.Slices ![0, k, 0] S8x4096x1024)
    (h' : S1x31x1024.Slices ![0, k, 0] S1x1x1024) : FVec Ideal S8x4096x1024 .f32 :=
  mulf (extractStridedSlice S8x4096x1024 ![0, k, 0] p h) (broadcastInDim S8x4096x1024 ![0, 1, 2] bcast_S1x1x1024_S8x4096x1024_0_1_2 (broadcastInDim S1x1x1024 ![2] bcast_S1024_S1x1x1024_2 (shapeCast _ (extractStridedSlice S1x1x1024 ![0, k, 0] w h') shapeCasts_S1x1x1024_S1024)))

/-- The input projection. -/
def projT (x : FVec Ideal S8x4096x1024 .f32) (w : Vec Ideal S1x1024x7168 .f32) (b : Vec Ideal S1x7168 .f32) : FVec Ideal S8x4096x7168 .f32 :=
  addf (Host.dotGeneral (φ₂ := .f32) dot_S8x4096x1024_S1024x7168_S8x4096x7168_2_0_01_1_n_n none x (shapeCast _ w shapeCasts_S1x1024x7168_S1024x7168)) (broadcastInDim S8x4096x7168 ![0, 1, 2] bcast_S1x1x7168_S8x4096x7168_0_1_2 (broadcastInDim S1x1x7168 ![2] bcast_S7168_S1x1x7168_2 (shapeCast _ b shapeCasts_S1x7168_S7168)))

/-- The second branch's gate. -/
def gateT (p : FVec Ideal S8x4096x7168 .f32) : FVec Ideal S8x4096x1024 .f32 :=
  shapeCast _ (extractStridedSlice S8x4096x1x1024 ![0, 0, 1, 0] (shapeCast _ (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf (extractStridedSlice S8x4096x2048 ![0, 0, 5120] p slices_S8x4096x7168_S8x4096x2048_0_0_5120))))) shapeCasts_S8x4096x2048_S8x4096x2x1024) slices_S8x4096x2x1024_S8x4096x1x1024_0_0_1_0) shapeCasts_S8x4096x1x1024_S8x4096x1024

/-- A value times its logistic function. -/
def siluT (y : FVec Ideal S8x4096x1024 .f32) : FVec Ideal S8x4096x1024 .f32 :=
  mulf y (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf y))))

/-- A product with a square matrix. -/
def dotT (y : FVec Ideal S8x4096x1024 .f32) (w : Vec Ideal S1x1024x1024 .f32) : FVec Ideal S8x4096x1024 .f32 :=
  Host.dotGeneral (φ₂ := .f32) dot_S8x4096x1024_S1024x1024_S8x4096x1024_2_0_01_1_n_n none y (shapeCast _ w shapeCasts_S1x1024x1024_S1024x1024)

theorem rowT_apply (x : Vec Ideal S1x1024 .f32) (b : Fin 8) (t : Fin 4096) (k : Fin 1024) : rowT x (ix3 b t k) = x (ix2 0 k) := by
  unfold rowT
  pointwise

theorem meanT_apply (y : FVec Ideal S8x4096x1024 .f32) (b : Fin 8) (t : Fin 4096) : meanT y (ix3 b t 0) = mean fun k => y (ix3 b t k) := by
  unfold meanT
  pointwise
  rfl

theorem centredT_apply (y : FVec Ideal S8x4096x1024 .f32) (b : Fin 8) (t : Fin 4096) (j : Fin 1024) :
    centredT y (ix3 b t j) = centred (fun k => y (ix3 b t k)) j := by
  unfold centredT
  pointwise
  rw [meanT_apply]
  rfl

theorem normT_apply (x5 x6 : Vec Ideal S1x1024 .f32) (y : FVec Ideal S8x4096x1024 .f32) (b : Fin 8) (t : Fin 4096) (j : Fin 1024) :
    normT x5 x6 y (ix3 b t j) = MlpSpec.norm (fun k => y (ix3 b t k)) (fun k => x5 (ix2 0 k)) (fun k => x6 (ix2 0 k)) j := by
  unfold normT
  pointwise
  rw [meanT_apply, centredT_apply, rowT_apply, rowT_apply]
  unfold MlpSpec.norm
  congr 4
  congr 2
  funext k
  pointwise
  rw [centredT_apply]

theorem seqT_apply (x : Vec Ideal S32768x1024 .f32) (b : Fin 8) (t : Fin 4096) (k : Fin 1024) : seqT x (ix3 b t k) = x (ix2 ⟨t * 8 + b, by omega⟩ k) := by
  unfold seqT
  pointwise

theorem padT_apply (x : Vec Ideal S8x32768x128 .f32) (b : Fin 8) (n : Fin 4126) (i : Fin 1024) :
    padT x (ix3 b n i) = padded (fun l R c => x (ix3 l R c)) (n * 8 + b) i := by
  have h0 : (FloatOps.sitofp (F := Ideal) FTy.f32 0#32 : EReal) = 0 := by
    show (((0#32 : BitVec 32).toInt : ℝ) : EReal) = 0
    simp
  unfold padT padded
  pointwise
  by_cases h : 15 ≤ (n : ℕ) ∧ (n : ℕ) - 15 < 4096
  · rw [dif_pos h, dif_pos (by omega)]
    exact congrArg (fun q => x (ix3 ⟨i / 128, by omega⟩ q ⟨i % 128, by omega⟩)) (Fin.ext (show ((n : ℕ) - 15) * 8 + b = n * 8 + b - 120 by omega))
  · rw [dif_neg h, dif_neg (by omega)]
    exact h0

theorem tapT_apply (p : FVec Ideal S8x4126x1024 .f32) (w : Vec Ideal S1x31x1024 .f32) (k : ℕ) (hk : k < 31) (h : S8x4126x1024.Slices ![0, k, 0] S8x4096x1024)
    (h' : S1x31x1024.Slices ![0, k, 0] S1x1x1024) (b : Fin 8) (t : Fin 4096) (i : Fin 1024) :
    tapT p w k h h' (ix3 b t i) = p (ix3 b ⟨k + t, by omega⟩ i) * w (ix3 0 ⟨k, hk⟩ i) := by
  unfold tapT
  pointwise

theorem projT_apply (x : FVec Ideal S8x4096x1024 .f32) (w : Vec Ideal S1x1024x7168 .f32) (c : Vec Ideal S1x7168 .f32) (b : Fin 8) (t : Fin 4096) (f : Fin 7168) :
    projT x w c (ix3 b t f) = (∑ i : Fin 1024, x (ix3 b t i) * w (ix3 0 i f)) + c (ix2 0 f) := by
  unfold projT
  pointwise

theorem gateT_apply (p : FVec Ideal S8x4096x7168 .f32) (b : Fin 8) (t : Fin 4096) (k : Fin 1024) :
    gateT p (ix3 b t k) = Cert.Scalar.sig (p (ix3 b t ⟨6144 + k, by omega⟩)) := by
  unfold gateT Cert.Scalar.sig
  pointwise
  rw [show (⟨5120 + (1024 + k), by omega⟩ : Fin 7168) = ⟨6144 + k, by omega⟩ from Fin.ext (by show 5120 + (1024 + (k : ℕ)) = 6144 + k; omega)]

theorem siluT_apply (y : FVec Ideal S8x4096x1024 .f32) (b : Fin 8) (t : Fin 4096) (k : Fin 1024) : siluT y (ix3 b t k) = silu (y (ix3 b t k)) := by
  unfold siluT silu Cert.Scalar.sig
  pointwise

theorem dotT_apply (y : FVec Ideal S8x4096x1024 .f32) (w : Vec Ideal S1x1024x1024 .f32) (b : Fin 8) (t : Fin 4096) (j : Fin 1024) :
    dotT y w (ix3 b t j) = ∑ i : Fin 1024, y (ix3 b t i) * w (ix3 0 i j) := by
  unfold dotT
  pointwise

variable (V : Valuation τ sig (Elt Ideal))

theorem v1_eq : res_main_v1 V = seqT (V (Proc.devRef .tc main_arg1)) := rfl

theorem v5_eq : res_main_v5 V = padT (V (Proc.devRef .tc main_arg0)) := rfl

theorem v253_eq : res_main_v253 V = normT (V (Proc.devRef .tc main_arg7)) (V (Proc.devRef .tc main_arg8)) (res_main_v227 V) := by
  simp only [res_main_v253, res_main_v235, res_main_v233, normT, centredT, meanT, rowT]

/-- The first branch plus the gated second branch. -/
def mergedT (a : Vec Ideal S32768x1024 .f32) (p : FVec Ideal S8x4096x7168 .f32) (y : FVec Ideal S8x4096x1024 .f32) (w : Vec Ideal S1x1024x1024 .f32) :
    FVec Ideal S8x4096x1024 .f32 :=
  addf (seqT a) (mulf (gateT p) (dotT (siluT y) w))

theorem mergedT_apply (a : Vec Ideal S32768x1024 .f32) (p : FVec Ideal S8x4096x7168 .f32) (y : FVec Ideal S8x4096x1024 .f32) (w : Vec Ideal S1x1024x1024 .f32)
    (b : Fin 8) (t : Fin 4096) (k : Fin 1024) :
    mergedT a p y w (ix3 b t k) = a (ix2 ⟨t * 8 + b, by omega⟩ k)
      + Cert.Scalar.sig (p (ix3 b t ⟨6144 + k, by omega⟩)) * ∑ i : Fin 1024, silu (y (ix3 b t i)) * w (ix3 0 i k) := by
  unfold mergedT
  pointwise
  rw [seqT_apply, gateT_apply, dotT_apply]
  simp only [siluT_apply]

theorem v285_eq : res_main_v285 V = addf (mulf (broadcastInDim S8x4096x1024 ![] bcast_S_S8x4096x1024 (constant S_ .f32 0x3F9837F0#32)) (seqT (V (Proc.devRef .tc main_arg1))))
    (addf (dotT (mergedT (V (Proc.devRef .tc main_arg2)) (projT (seqT (V (Proc.devRef .tc main_arg1))) (V (Proc.devRef .tc main_arg3)) (V (Proc.devRef .tc main_arg4)))
        (res_main_v253 V) (V (Proc.devRef .tc main_arg9)))
      (V (Proc.devRef .tc main_arg10))) (rowT (V (Proc.devRef .tc main_arg11)))) := by
  simp only [res_main_v285, res_main_v1, mergedT, dotT, seqT, gateT, projT, siluT, rowT]

theorem zero_apply (b : Fin 8) (t : Fin 4096) (i : Fin 1024) :
    (broadcastInDim S8x4096x1024 ![] bcast_S_S8x4096x1024 (constant S_ .f32 0x00000000#32) : FVec Ideal S8x4096x1024 .f32) (ix3 b t i) = 0 := by
  pointwise

/-- The convolution's input by lane group, row and channel. -/
abbrev cF : Fin 8 → Fin 32768 → Fin 128 → EReal := fun l R c => (V (Proc.devRef .tc main_arg0) : S8x32768x128.Idx → EReal) (ix3 l R c)

/-- The taps. -/
abbrev wF : Fin 31 → Fin 1024 → EReal := fun j i => (V (Proc.devRef .tc main_arg5) : S1x31x1024.Idx → EReal) (ix3 0 j i)

/-- A vector's entries. -/
abbrev rowF (x : S1x1024.Idx → EReal) : Fin 1024 → EReal := fun k => x (ix2 0 k)

theorem tap_eq (k : ℕ) (hk : k < 31) (h : S8x4126x1024.Slices ![0, k, 0] S8x4096x1024) (h' : S1x31x1024.Slices ![0, k, 0] S1x1x1024)
    (b : Fin 8) (t : Fin 4096) (i : Fin 1024) :
    tapT (res_main_v5 V) (V (Proc.devRef .tc main_arg5)) k h h' (ix3 b t i) = wF V ⟨k, hk⟩ i * padded (cF V) (t * 8 + b + 8 * k) i := by
  rw [tapT_apply _ _ k hk, v5_eq, padT_apply, mul_comm]
  refine congrArg (_ * padded _ · i) ?_
  show (k + (t : ℕ)) * 8 + b = t * 8 + b + 8 * k
  omega

/-- The convolution. -/
theorem v227_apply (b : Fin 8) (t : Fin 4096) (i : Fin 1024) :
    (res_main_v227 V : FVec Ideal S8x4096x1024 .f32) (ix3 b t i) = conv (cF V) (wF V) (rowF (V (Proc.devRef .tc main_arg6))) (t * 8 + b) i := by
  have h : (res_main_v227 V : FVec Ideal S8x4096x1024 .f32) (ix3 b t i)
      = (broadcastInDim S8x4096x1024 ![] bcast_S_S8x4096x1024 (constant S_ .f32 0x00000000#32) : FVec Ideal S8x4096x1024 .f32) (ix3 b t i)
        + tapT (res_main_v5 V) (V (Proc.devRef .tc main_arg5)) 0 slices_S8x4126x1024_S8x4096x1024_0_0_0 slices_S1x31x1024_S1x1x1024_0_0_0 (ix3 b t i) + tapT (res_main_v5 V) (V (Proc.devRef .tc main_arg5)) 1 slices_S8x4126x1024_S8x4096x1024_0_1_0 slices_S1x31x1024_S1x1x1024_0_1_0 (ix3 b t i) + tapT (res_main_v5 V) (V (Proc.devRef .tc main_arg5)) 2 slices_S8x4126x1024_S8x4096x1024_0_2_0 slices_S1x31x1024_S1x1x1024_0_2_0 (ix3 b t i) + tapT (res_main_v5 V) (V (Proc.devRef .tc main_arg5)) 3 slices_S8x4126x1024_S8x4096x1024_0_3_0 slices_S1x31x1024_S1x1x1024_0_3_0 (ix3 b t i) + tapT (res_main_v5 V) (V (Proc.devRef .tc main_arg5)) 4 slices_S8x4126x1024_S8x4096x1024_0_4_0 slices_S1x31x1024_S1x1x1024_0_4_0 (ix3 b t i) + tapT (res_main_v5 V) (V (Proc.devRef .tc main_arg5)) 5 slices_S8x4126x1024_S8x4096x1024_0_5_0 slices_S1x31x1024_S1x1x1024_0_5_0 (ix3 b t i) + tapT (res_main_v5 V) (V (Proc.devRef .tc main_arg5)) 6 slices_S8x4126x1024_S8x4096x1024_0_6_0 slices_S1x31x1024_S1x1x1024_0_6_0 (ix3 b t i) + tapT (res_main_v5 V) (V (Proc.devRef .tc main_arg5)) 7 slices_S8x4126x1024_S8x4096x1024_0_7_0 slices_S1x31x1024_S1x1x1024_0_7_0 (ix3 b t i) + tapT (res_main_v5 V) (V (Proc.devRef .tc main_arg5)) 8 slices_S8x4126x1024_S8x4096x1024_0_8_0 slices_S1x31x1024_S1x1x1024_0_8_0 (ix3 b t i) + tapT (res_main_v5 V) (V (Proc.devRef .tc main_arg5)) 9 slices_S8x4126x1024_S8x4096x1024_0_9_0 slices_S1x31x1024_S1x1x1024_0_9_0 (ix3 b t i) + tapT (res_main_v5 V) (V (Proc.devRef .tc main_arg5)) 10 slices_S8x4126x1024_S8x4096x1024_0_10_0 slices_S1x31x1024_S1x1x1024_0_10_0 (ix3 b t i) + tapT (res_main_v5 V) (V (Proc.devRef .tc main_arg5)) 11 slices_S8x4126x1024_S8x4096x1024_0_11_0 slices_S1x31x1024_S1x1x1024_0_11_0 (ix3 b t i) + tapT (res_main_v5 V) (V (Proc.devRef .tc main_arg5)) 12 slices_S8x4126x1024_S8x4096x1024_0_12_0 slices_S1x31x1024_S1x1x1024_0_12_0 (ix3 b t i) + tapT (res_main_v5 V) (V (Proc.devRef .tc main_arg5)) 13 slices_S8x4126x1024_S8x4096x1024_0_13_0 slices_S1x31x1024_S1x1x1024_0_13_0 (ix3 b t i) + tapT (res_main_v5 V) (V (Proc.devRef .tc main_arg5)) 14 slices_S8x4126x1024_S8x4096x1024_0_14_0 slices_S1x31x1024_S1x1x1024_0_14_0 (ix3 b t i) + tapT (res_main_v5 V) (V (Proc.devRef .tc main_arg5)) 15 slices_S8x4126x1024_S8x4096x1024_0_15_0 slices_S1x31x1024_S1x1x1024_0_15_0 (ix3 b t i) + tapT (res_main_v5 V) (V (Proc.devRef .tc main_arg5)) 16 slices_S8x4126x1024_S8x4096x1024_0_16_0 slices_S1x31x1024_S1x1x1024_0_16_0 (ix3 b t i) + tapT (res_main_v5 V) (V (Proc.devRef .tc main_arg5)) 17 slices_S8x4126x1024_S8x4096x1024_0_17_0 slices_S1x31x1024_S1x1x1024_0_17_0 (ix3 b t i) + tapT (res_main_v5 V) (V (Proc.devRef .tc main_arg5)) 18 slices_S8x4126x1024_S8x4096x1024_0_18_0 slices_S1x31x1024_S1x1x1024_0_18_0 (ix3 b t i) + tapT (res_main_v5 V) (V (Proc.devRef .tc main_arg5)) 19 slices_S8x4126x1024_S8x4096x1024_0_19_0 slices_S1x31x1024_S1x1x1024_0_19_0 (ix3 b t i) + tapT (res_main_v5 V) (V (Proc.devRef .tc main_arg5)) 20 slices_S8x4126x1024_S8x4096x1024_0_20_0 slices_S1x31x1024_S1x1x1024_0_20_0 (ix3 b t i) + tapT (res_main_v5 V) (V (Proc.devRef .tc main_arg5)) 21 slices_S8x4126x1024_S8x4096x1024_0_21_0 slices_S1x31x1024_S1x1x1024_0_21_0 (ix3 b t i) + tapT (res_main_v5 V) (V (Proc.devRef .tc main_arg5)) 22 slices_S8x4126x1024_S8x4096x1024_0_22_0 slices_S1x31x1024_S1x1x1024_0_22_0 (ix3 b t i) + tapT (res_main_v5 V) (V (Proc.devRef .tc main_arg5)) 23 slices_S8x4126x1024_S8x4096x1024_0_23_0 slices_S1x31x1024_S1x1x1024_0_23_0 (ix3 b t i) + tapT (res_main_v5 V) (V (Proc.devRef .tc main_arg5)) 24 slices_S8x4126x1024_S8x4096x1024_0_24_0 slices_S1x31x1024_S1x1x1024_0_24_0 (ix3 b t i) + tapT (res_main_v5 V) (V (Proc.devRef .tc main_arg5)) 25 slices_S8x4126x1024_S8x4096x1024_0_25_0 slices_S1x31x1024_S1x1x1024_0_25_0 (ix3 b t i) + tapT (res_main_v5 V) (V (Proc.devRef .tc main_arg5)) 26 slices_S8x4126x1024_S8x4096x1024_0_26_0 slices_S1x31x1024_S1x1x1024_0_26_0 (ix3 b t i) + tapT (res_main_v5 V) (V (Proc.devRef .tc main_arg5)) 27 slices_S8x4126x1024_S8x4096x1024_0_27_0 slices_S1x31x1024_S1x1x1024_0_27_0 (ix3 b t i) + tapT (res_main_v5 V) (V (Proc.devRef .tc main_arg5)) 28 slices_S8x4126x1024_S8x4096x1024_0_28_0 slices_S1x31x1024_S1x1x1024_0_28_0 (ix3 b t i) + tapT (res_main_v5 V) (V (Proc.devRef .tc main_arg5)) 29 slices_S8x4126x1024_S8x4096x1024_0_29_0 slices_S1x31x1024_S1x1x1024_0_29_0 (ix3 b t i) + tapT (res_main_v5 V) (V (Proc.devRef .tc main_arg5)) 30 slices_S8x4126x1024_S8x4096x1024_0_30_0 slices_S1x31x1024_S1x1x1024_0_30_0 (ix3 b t i)
        + rowT (V (Proc.devRef .tc main_arg6)) (ix3 b t i) := rfl
  rw [h, zero_apply, rowT_apply]
  simp only [tap_eq V 0 (by decide), tap_eq V 1 (by decide), tap_eq V 2 (by decide), tap_eq V 3 (by decide), tap_eq V 4 (by decide), tap_eq V 5 (by decide), tap_eq V 6 (by decide), tap_eq V 7 (by decide), tap_eq V 8 (by decide), tap_eq V 9 (by decide), tap_eq V 10 (by decide), tap_eq V 11 (by decide), tap_eq V 12 (by decide), tap_eq V 13 (by decide), tap_eq V 14 (by decide), tap_eq V 15 (by decide), tap_eq V 16 (by decide), tap_eq V 17 (by decide), tap_eq V 18 (by decide), tap_eq V 19 (by decide), tap_eq V 20 (by decide), tap_eq V 21 (by decide), tap_eq V 22 (by decide), tap_eq V 23 (by decide), tap_eq V 24 (by decide), tap_eq V 25 (by decide), tap_eq V 26 (by decide), tap_eq V 27 (by decide), tap_eq V 28 (by decide), tap_eq V 29 (by decide), tap_eq V 30 (by decide)]
  exact chain_zero_add _ fun j => wF V j i * padded (cF V) (t * 8 + b + 8 * j) i

/-- The stream before the closing norm. -/
theorem v285_apply (b : Fin 8) (t : Fin 4096) (j : Fin 1024) (R : Fin 32768) (hR : (R : ℕ) = t * 8 + b) :
    (res_main_v285 V : FVec Ideal S8x4096x1024 .f32) (ix3 b t j)
      = MixSpec.stream (fun k => (V (Proc.devRef .tc main_arg1) : S32768x1024.Idx → EReal) (ix2 R k))
          (fun k => (V (Proc.devRef .tc main_arg2) : S32768x1024.Idx → EReal) (ix2 R k))
          (fun i k => (V (Proc.devRef .tc main_arg3) : S1x1024x7168.Idx → EReal) (ix3 0 i ⟨6144 + k, by omega⟩))
          (fun k => (V (Proc.devRef .tc main_arg4) : S1x7168.Idx → EReal) (ix2 0 ⟨6144 + k, by omega⟩))
          (conv (cF V) (wF V) (rowF (V (Proc.devRef .tc main_arg6))) R) (rowF (V (Proc.devRef .tc main_arg7))) (rowF (V (Proc.devRef .tc main_arg8)))
          (fun i k => (V (Proc.devRef .tc main_arg9) : S1x1024x1024.Idx → EReal) (ix3 0 i k))
          (fun i k => (V (Proc.devRef .tc main_arg10) : S1x1024x1024.Idx → EReal) (ix3 0 i k)) (rowF (V (Proc.devRef .tc main_arg11))) j := by
  have e : (⟨t * 8 + b, by omega⟩ : Fin 32768) = R := Fin.ext hR.symm
  rw [v285_eq]
  pointwise
  rw [dotT_apply, rowT_apply, seqT_apply, e]
  simp only [mergedT_apply, projT_apply, seqT_apply, v253_eq, normT_apply, v227_apply, e]
  rw [hR]
  rfl

/-- The reference's result, in rows. -/
def resultT : FVec Ideal S32768x1024 .f32 :=
  shapeCast _ (transpose S4096x8x1024 [1, 0, 2] (normT (V (Proc.devRef .tc main_arg12)) (V (Proc.devRef .tc main_arg13)) (res_main_v285 V)) transposes_S8x4096x1024_S4096x8x1024_1_0_2) shapeCasts_S4096x8x1024_S32768x1024

theorem result_eq : (shapeCast _ (transpose S4096x8x1024 [1, 0, 2] (addf (mulf (mulf (subf (res_main_v285 V) (broadcastInDim S8x4096x1024 ![0, 1, 2] bcast_S8x4096x1_S8x4096x1024_0_1_2 (res_main_v291 V))) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v293 V) (res_main_v293 V)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 (shapeCast _ (V (Proc.devRef .tc main_arg12)) shapeCasts_S1x1024_S1024)))) (broadcastInDim S8x4096x1024 ![0, 1, 2] bcast_S1x1x1024_S8x4096x1024_0_1_2 (broadcastInDim S1x1x1024 ![2] bcast_S1024_S1x1x1024_2 (shapeCast _ (V (Proc.devRef .tc main_arg13)) shapeCasts_S1x1024_S1024)))) transposes_S8x4096x1024_S4096x8x1024_1_0_2) shapeCasts_S4096x8x1024_S32768x1024 : FVec Ideal S32768x1024 .f32) = resultT V := by
  simp only [resultT, res_main_v293, res_main_v291, normT, centredT, meanT, rowT]

/-- The reference's result is the layer's. -/
theorem result_apply (R : Fin 32768) (j : Fin 1024) :
    resultT V (ix2 R j) = layer (cF V) (fun R k => (V (Proc.devRef .tc main_arg1) : S32768x1024.Idx → EReal) (ix2 R k))
      (fun R k => (V (Proc.devRef .tc main_arg2) : S32768x1024.Idx → EReal) (ix2 R k))
      (fun i k => (V (Proc.devRef .tc main_arg3) : S1x1024x7168.Idx → EReal) (ix3 0 i k))
      (fun k => (V (Proc.devRef .tc main_arg4) : S1x7168.Idx → EReal) (ix2 0 k)) (wF V)
      (rowF (V (Proc.devRef .tc main_arg6))) (rowF (V (Proc.devRef .tc main_arg7))) (rowF (V (Proc.devRef .tc main_arg8)))
      (fun i k => (V (Proc.devRef .tc main_arg9) : S1x1024x1024.Idx → EReal) (ix3 0 i k))
      (fun i k => (V (Proc.devRef .tc main_arg10) : S1x1024x1024.Idx → EReal) (ix3 0 i k)) (rowF (V (Proc.devRef .tc main_arg11)))
      (rowF (V (Proc.devRef .tc main_arg12))) (rowF (V (Proc.devRef .tc main_arg13))) R j := by
  have e : resultT V (ix2 R j) = normT (V (Proc.devRef .tc main_arg12)) (V (Proc.devRef .tc main_arg13)) (res_main_v285 V)
      (ix3 ⟨R % 8, by omega⟩ ⟨R / 8, by omega⟩ j) := by
    unfold resultT
    pointwise
  rw [e, normT_apply]
  unfold layer
  exact congrFun (congrArg (fun s => MlpSpec.norm s (rowF (V (Proc.devRef .tc main_arg12))) (rowF (V (Proc.devRef .tc main_arg13))))
    (funext fun k => v285_apply V _ _ k R (by show (R : ℕ) = R / 8 * 8 + R % 8; omega))) j

end Cert.Reference3Ideal.Result

end
-- ==== Proof.Spec.lean ====
module

public import proofs.«01_k».proof.Proof.Scalar

@[expose] public section

noncomputable section

/-! What the layer's step computes, element by element over the extended reals. Rows number the positions of eight
interleaved sequences: row `r` is position `r / 8` of sequence `r % 8`. -/

namespace Cert.Spec

open Idealize.ShloMosaic Cert.Scalar

/-- The argument arrays' elements. Gate `g`'s matrix is block diagonal: column `c` reads the 96 columns of its block,
    with the weights `w g c`. -/
structure Arrays where
  hn : ℕ → ℕ → EReal
  u : ℕ → ℕ → EReal
  hb : ℕ → ℕ → EReal
  win : ℕ → ℕ → EReal
  bin : ℕ → EReal
  w : ℕ → ℕ → ℕ → EReal
  b : ℕ → ℕ → EReal
  al : ℕ → EReal
  wa : ℕ → ℕ → EReal

variable (A : Arrays)

/-- A gate's logit. -/
def logit (g r c : ℕ) : EReal := (∑ i : Fin 96, A.u r (96 * (c / 96) + i) * A.w g c i) + A.b g c

/-- The logarithm of the decay. -/
def logd (r c : ℕ) : EReal := ((-8 : ℝ) : EReal) * sig (logit A 0 r c) * softplus (-(A.al c))

/-- The recurrence's input. -/
def inp (r c : ℕ) : EReal :=
  Ideal.sqrt (-(Ideal.exp (((2 : ℝ) : EReal) * logd A r c) - 1)) * (sig (logit A 1 r c) * A.u r c)

/-- The recurrence: sequence `b`'s state of channel `c` after `t` positions. -/
def state (b c : ℕ) : ℕ → EReal
  | 0 => 0
  | t + 1 => Ideal.exp (logd A (8 * t + b) c) * state b c t + inp A (8 * t + b) c

/-- The input projection. -/
def proj (r j : ℕ) : EReal := (∑ k : Fin 1024, A.hn r k * A.win k j) + A.bin j

/-- The branch's gated values. -/
def z (r c : ℕ) : EReal := gelu (proj A r (1536 + c)) * (state A (r % 8) c (r / 8 + 1) + A.hb r c)

/-- The result. -/
def out (r d : ℕ) : EReal := sig (proj A r (5120 + d)) * ∑ c : Fin 1536, z A r c * A.wa c d

end Cert.Spec

end
-- ==== Proof.Args.lean ====
module

public import proofs.«01_k».proof.Proof.Spec
public import Idealize.ShloMosaic.Lib.PointwiseCore

@[expose] public section

noncomputable section

/-! The layer's arrays, read out of the nine argument arrays. -/

namespace Cert.Spec

open Idealize.ShloMosaic

/-- The elements of the argument arrays, in the order in which the program takes them; an index beyond an axis wraps. -/
def arrays (hn : (⟨2, ![32768, 1024]⟩ : Shape).Idx → EReal) (u hb : (⟨2, ![32768, 1536]⟩ : Shape).Idx → EReal)
    (win : (⟨3, ![1, 1024, 7168]⟩ : Shape).Idx → EReal) (bin : (⟨2, ![1, 7168]⟩ : Shape).Idx → EReal)
    (w : (⟨6, ![1, 2, 2, 16, 96, 96]⟩ : Shape).Idx → EReal) (b : (⟨5, ![1, 2, 2, 16, 96]⟩ : Shape).Idx → EReal)
    (al : (⟨3, ![1, 2, 1536]⟩ : Shape).Idx → EReal) (wa : (⟨3, ![1, 1536, 1024]⟩ : Shape).Idx → EReal) : Arrays where
  hn r k := hn (ix2 ⟨r % 32768, by omega⟩ ⟨k % 1024, by omega⟩)
  u r c := u (ix2 ⟨r % 32768, by omega⟩ ⟨c % 1536, by omega⟩)
  hb r c := hb (ix2 ⟨r % 32768, by omega⟩ ⟨c % 1536, by omega⟩)
  win k j := win (ix3 0 ⟨k % 1024, by omega⟩ ⟨j % 7168, by omega⟩)
  bin j := bin (ix2 0 ⟨j % 7168, by omega⟩)
  w g c i := w (ix6 0 0 ⟨g % 2, by omega⟩ ⟨c / 96 % 16, by omega⟩ ⟨i % 96, by omega⟩ ⟨c % 96, by omega⟩)
  b g c := b (ix5 0 0 ⟨g % 2, by omega⟩ ⟨c / 96 % 16, by omega⟩ ⟨c % 96, by omega⟩)
  al c := al (ix3 0 0 ⟨c % 1536, by omega⟩)
  wa c d := wa (ix3 0 ⟨c % 1536, by omega⟩ ⟨d % 1024, by omega⟩)

/-- The projection's operands and the decay parameters are real numbers. -/
structure Finite (A : Arrays) : Prop where
  hn : ∀ r k, ∃ x : ℝ, A.hn r k = (x : EReal)
  win : ∀ k j, ∃ x : ℝ, A.win k j = (x : EReal)
  bin : ∀ j, ∃ x : ℝ, A.bin j = (x : EReal)
  al : ∀ c, ∃ x : ℝ, A.al c = (x : EReal)

/-- A sum of real numbers is one. -/
theorem sum_real {ι : Type} (s : Finset ι) (f : ι → EReal) (h : ∀ i, ∃ x : ℝ, f i = (x : EReal)) :
    ∃ x : ℝ, ∑ i ∈ s, f i = (x : EReal) := by
  classical
  induction s using Finset.induction_on with
  | empty => exact ⟨0, by simp⟩
  | insert i s hi ih =>
    obtain ⟨x, hx⟩ := ih
    obtain ⟨y, hy⟩ := h i
    exact ⟨y + x, by rw [Finset.sum_insert hi, hx, hy, EReal.coe_add]⟩

/-- Every element of the projection is a real number as well. -/
theorem Finite.proj {A : Arrays} (h : Finite A) (r j : ℕ) : ∃ x : ℝ, proj A r j = (x : EReal) := by
  obtain ⟨s, hs⟩ := sum_real Finset.univ (fun k : Fin 1024 => A.hn r k * A.win k j) (fun k => by
    obtain ⟨x, hx⟩ := h.hn r k
    obtain ⟨y, hy⟩ := h.win k j
    exact ⟨x * y, by rw [hx, hy, EReal.coe_mul]⟩)
  obtain ⟨b, hb⟩ := h.bin j
  exact ⟨s + b, by rw [Spec.proj, hs, hb, EReal.coe_add]⟩

end Cert.Spec

end
-- ==== Proof.Block.lean ====
module

public import proofs.«01_k».proof.Proof.Gen.KernelIdeal.Skeleton
public import proofs.«01_k».proof.Proof.Scalar
public import Idealize.ShloMosaic.Lib.Pointwise

@[expose] public section

set_option maxRecDepth 16384

noncomputable section

/-! One block of 128 rows (sixteen positions of eight sequences) of the kernel's body, as a composition of vector
functions, and the elements of its values over the extended reals. -/

namespace Cert.KernelIdeal.Block

open Idealize.ShloMosaic Idealize.SL.Sem Cert.KernelIdeal.Gen

variable {F : FTy → Type} [FloatOps F] [Named F]

/-- Eight rows from row `8 k` on lie inside the block. -/
theorem slices8 (k : ℕ) (hk : k < 16) : S128x1536.Slices ![8 * k, 0] S8x1536 :=
  ⟨rfl, fun a => by fin_cases a <;> simp <;> omega⟩

/-- The product of 512 of the block's columns, from column `n` on, with a gate matrix. -/
def part512 (n : ℕ) (h : S128x1536.Slices ![0, n] S128x512) (v : Vec F S128x1536 .f32) (w : Vec F S1x512x512 .bf16) :
    FVec F S128x512 .f32 :=
  matmul dot_S128x512_S512x512_S128x512_1_0_0_1_n_n none
    (extractStridedSlice S128x512 ![0, n] (truncf .bf16 v bitsLt_bf16_f32 : FVec F S128x1536 .bf16) h)
    (shapeCast S512x512 w shapeCasts_S1x512x512_S512x512) (constant S128x512 .f32 0x00000000#32)

/-- The product of 768 of the block's columns, from column `n` on, with a gate matrix. -/
def part768 (n : ℕ) (h : S128x1536.Slices ![0, n] S128x768) (v : Vec F S128x1536 .f32) (w : Vec F S1x768x512 .bf16) :
    FVec F S128x512 .f32 :=
  matmul dot_S128x768_S768x512_S128x512_1_0_0_1_n_n none
    (extractStridedSlice S128x768 ![0, n] (truncf .bf16 v bitsLt_bf16_f32 : FVec F S128x1536 .bf16) h)
    (shapeCast S768x512 w shapeCasts_S1x768x512_S768x512) (constant S128x512 .f32 0x00000000#32)

/-- One gate's logits without their bias: six products, of which the gate's 256 columns are kept. -/
def logits (n : ℕ) (h : S128x512.Slices ![0, n] S128x256) (v : Vec F S128x1536 .f32)
    (a : Vec F S1x512x512 .bf16) (b : Vec F S1x768x512 .bf16) (c : Vec F S1x512x512 .bf16)
    (a' : Vec F S1x512x512 .bf16) (b' : Vec F S1x768x512 .bf16) (c' : Vec F S1x512x512 .bf16) :
    FVec F S128x1536 .f32 :=
  concatenate S128x1536 1
    [⟨S128x256, extractStridedSlice S128x256 ![0, n] (part512 0 slices_S128x1536_o0_0_S128x512 v a) h⟩,
     ⟨S128x256, extractStridedSlice S128x256 ![0, n] (part768 0 slices_S128x1536_o0_0_S128x768 v b) h⟩,
     ⟨S128x256, extractStridedSlice S128x256 ![0, n] (part512 256 slices_S128x1536_o0_256_S128x512 v c) h⟩,
     ⟨S128x256, extractStridedSlice S128x256 ![0, n] (part512 768 slices_S128x1536_o0_768_S128x512 v a') h⟩,
     ⟨S128x256, extractStridedSlice S128x256 ![0, n] (part768 768 slices_S128x1536_o0_768_S128x768 v b') h⟩,
     ⟨S128x256, extractStridedSlice S128x256 ![0, n] (part512 1024 slices_S128x1536_o0_1024_S128x512 v c') h⟩]
    concatenates_S128x256_S128x256_S128x256_S128x256_S128x256_S128x256_S128x1536_d1

/-- A row of parameters beside each of the block's rows. -/
def rowB (w : Vec F S1x1536 .f32) : FVec F S128x1536 .f32 :=
  broadcastTo S128x1536 (shapeCast S1x1536 w shapeCasts_S1x1536_S1x1536) broadcasts_S1x1536_S128x1536

/-- The logarithm of the decay. -/
def logDecay (l : FVec F S128x1536 .f32) (b nhd : Vec F S1x1536 .f32) : FVec F S128x1536 .f32 :=
  addf (mulf (tanh (addf l (rowB b))) (rowB nhd)) (rowB nhd)

/-- One minus the squared decay. -/
def squared (d : FVec F S128x1536 .f32) : FVec F S128x1536 .f32 :=
  mulf (tanh d) (subf (broadcast S128x1536 (Scalar.ofBits .f32 0xBF800000#32 : F .f32)) (mulf (exp d) (exp d)))

/-- The recurrence's input. -/
def input (v : Vec F S128x1536 .f32) (l : FVec F S128x1536 .f32) (b : Vec F S1x1536 .f32) (d : FVec F S128x1536 .f32) :
    FVec F S128x1536 .f32 :=
  mulf (mulf (squared d) (rsqrt (maximumf (squared d)
      (broadcast S128x1536 (Named.named κ "no_floor" 0x00800000#32 : F .f32)))))
    (mulf (addf (mulf (broadcast S128x1536 (Scalar.ofBits .f32 0x3F000000#32 : F .f32)) (tanh (addf l (rowB b))))
      (broadcast S128x1536 (Scalar.ofBits .f32 0x3F000000#32 : F .f32))) v)

/-- The recurrence's state after `k` of the block's positions. -/
def st (a x : FVec F S128x1536 .f32) (s : FVec F S8x1536 .f32) : (k : ℕ) → k ≤ 16 → FVec F S8x1536 .f32
  | 0, _ => s
  | k + 1, h => addf (mulf (extractStridedSlice S8x1536 ![8 * k, 0] a (slices8 k h)) (st a x s k (Nat.le_of_succ_le h)))
      (extractStridedSlice S8x1536 ![8 * k, 0] x (slices8 k h))

/-- The block's sixteen states, one below the other. -/
def scanned (a x : FVec F S128x1536 .f32) (s : FVec F S8x1536 .f32) : FVec F S128x1536 .f32 :=
  concatenate S128x1536 0
    [⟨S8x1536, st a x s 1 (by omega)⟩, ⟨S8x1536, st a x s 2 (by omega)⟩, ⟨S8x1536, st a x s 3 (by omega)⟩,
     ⟨S8x1536, st a x s 4 (by omega)⟩, ⟨S8x1536, st a x s 5 (by omega)⟩, ⟨S8x1536, st a x s 6 (by omega)⟩,
     ⟨S8x1536, st a x s 7 (by omega)⟩, ⟨S8x1536, st a x s 8 (by omega)⟩, ⟨S8x1536, st a x s 9 (by omega)⟩,
     ⟨S8x1536, st a x s 10 (by omega)⟩, ⟨S8x1536, st a x s 11 (by omega)⟩, ⟨S8x1536, st a x s 12 (by omega)⟩,
     ⟨S8x1536, st a x s 13 (by omega)⟩, ⟨S8x1536, st a x s 14 (by omega)⟩, ⟨S8x1536, st a x s 15 (by omega)⟩,
     ⟨S8x1536, st a x s 16 (by omega)⟩]
    concatenates_S8x1536_S8x1536_S8x1536_S8x1536_S8x1536_S8x1536_S8x1536_S8x1536_S8x1536_S8x1536_S8x1536_S8x1536_S8x1536_S8x1536_S8x1536_S8x1536_S128x1536_d0

/-- gelu of the block's rows of the projection. -/
def geluB (y : FVec F S128x1536 .f32) : FVec F S128x1536 .f32 :=
  addf (mulf (mulf (broadcast S128x1536 (Scalar.ofBits .f32 0x3F000000#32 : F .f32)) y)
      (tanh (mulf y (addf (mulf (mulf y y) (broadcast S128x1536 (Named.named κ "gelu_cubic" 0x3D122279#32 : F .f32)))
        (broadcast S128x1536 (Scalar.ofBits .f32 0x3F4C422A#32 : F .f32))))))
    (mulf (broadcast S128x1536 (Scalar.ofBits .f32 0x3F000000#32 : F .f32)) y)

/-- The branch's gated values: gelu of the projection times the sum of the two recurrences. -/
def merged (n : ℕ) (h : S512x2560.Slices ![n, 0] S128x1536) (p : FVec F S512x2560 .f32)
    (hs : FVec F S128x1536 .f32) (hb : Vec F S128x1536 .f32) : FVec F S128x1536 .bf16 :=
  shapeCast S128x1536 (truncf .bf16 (mulf (geluB (extractStridedSlice S128x1536 ![n, 0] p h)) (addf hs hb))
    bitsLt_bf16_f32 : FVec F S128x1536 .bf16) shapeCasts_S128x1536_S128x1536

/-- The gate matrices of the two halves of the columns, the biases and the decay's rate. -/
structure Params (F : FTy → Type) [FloatOps F] where
  a : Vec F S1x512x512 .bf16
  b : Vec F S1x768x512 .bf16
  c : Vec F S1x512x512 .bf16
  a' : Vec F S1x512x512 .bf16
  b' : Vec F S1x768x512 .bf16
  c' : Vec F S1x512x512 .bf16
  bR : Vec F S1x1536 .f32
  bI : Vec F S1x1536 .f32
  nhd : Vec F S1x1536 .f32

/-- The block's logarithms of decays. -/
def ld (P : Params F) (v : Vec F S128x1536 .f32) : FVec F S128x1536 .f32 :=
  logDecay (logits 0 slices_S128x512_o0_0_S128x256 v P.a P.b P.c P.a' P.b' P.c') P.bR P.nhd

/-- The block's inputs. -/
def bx (P : Params F) (v : Vec F S128x1536 .f32) : FVec F S128x1536 .f32 :=
  input v (logits 256 slices_S128x512_o0_256_S128x256 v P.a P.b P.c P.a' P.b' P.c') P.bI (ld P v)

/-- The state after the block. -/
def last (P : Params F) (v : Vec F S128x1536 .f32) (s : FVec F S8x1536 .f32) : FVec F S8x1536 .f32 :=
  st (exp (ld P v)) (bx P v) s 16 (by omega)

/-- The block's gated values. -/
def zB (P : Params F) (v : Vec F S128x1536 .f32) (s : FVec F S8x1536 .f32) (n : ℕ)
    (h : S512x2560.Slices ![n, 0] S128x1536) (p : FVec F S512x2560 .f32) (hb : Vec F S128x1536 .f32) :
    FVec F S128x1536 .bf16 :=
  merged n h p (scanned (exp (ld P v)) (bx P v) s) hb

/-- The first block's values are the printed ones. -/
theorem first_last (P : Params F) (v : Vec F S128x1536 .f32) (s : Vec F S8x1536 .f32) :
    let l := k0_pay30 (k0_pay17 (k0_pay7 v P.a) (k0_pay9 v P.b) (k0_pay11 v P.c) (k0_pay13 v P.a') (k0_pay14 v P.b') (k0_pay15 v) P.c') P.bR P.nhd
    let t := k0_pay29 (k0_pay18 (k0_pay8 v P.a) (k0_pay10 v P.b) (k0_pay12 v P.c) (k0_pay13 v P.a') (k0_pay14 v P.b') (k0_pay15 v) P.c') P.bI
    k0_pay48 (k0_pay31 l) (k0_pay32 v t l) (k0_pay42 v s t l) = last P v s := rfl

end Cert.KernelIdeal.Block

end
-- ==== Proof.BlockValue.lean ====
module

public import proofs.«01_k».proof.Proof.Block
public import proofs.«01_k».proof.Proof.Spec
public import Idealize.ShloMosaic.Lib.Pipeline.Value

@[expose] public section

set_option maxRecDepth 16384

noncomputable section

/-! The elements of one block's values over the extended reals: they are the layer's. -/

namespace Cert.KernelIdeal.Block

open Idealize.ShloMosaic Idealize.SL.Sem Cert.KernelIdeal.Gen Cert.Scalar Cert.Spec

/-- A gate matrix's halved element at row `k` and column `c`: zero off the diagonal blocks. -/
def dense (A : Arrays) (g k c : ℕ) : EReal :=
  if k / 96 = c / 96 then ((1 / 2 : ℝ) : EReal) * A.w g c (k % 96) else 0

/-- A sum over a window of columns, of which only the 96 of one diagonal block count. -/
theorem window_sum (A : Arrays) (g K off c : ℕ) (u : ℕ → EReal)
    (h1 : off ≤ 96 * (c / 96)) (h2 : 96 * (c / 96) + 96 ≤ off + K) :
    ∑ k : Fin K, u (off + k) * dense A g (off + k) c
      = ((1 / 2 : ℝ) : EReal) * ∑ i : Fin 96, u (96 * (c / 96) + i) * A.w g c i := by
  rw [← half_sum]
  symm
  apply Finset.sum_of_injOn (fun i : Fin 96 => (⟨96 * (c / 96) - off + i, by omega⟩ : Fin K))
  · intro i _ j _ hij
    simp only [Fin.mk.injEq] at hij
    exact Fin.ext (by omega)
  · intro i _; simp
  · intro k _ hk
    rw [dense, if_neg, mul_zero]
    intro he
    apply hk
    refine ⟨⟨(off + k) - 96 * (c / 96), by omega⟩, by simp, ?_⟩
    exact Fin.ext (by simp only []; omega)
  · intro i _
    have e : off + (96 * (c / 96) - off + i) = 96 * (c / 96) + i := by omega
    have e1 : (96 * (c / 96) + (i : ℕ)) / 96 = c / 96 := by omega
    have e2 : (96 * (c / 96) + (i : ℕ)) % 96 = i := by omega
    simp only [e, dense, e1, e2, if_true]
    exact mul_left_comm _ _ _

/-- An element of the product of 512 columns. -/
theorem part512_apply (n : ℕ) (h : S128x1536.Slices ![0, n] S128x512) (hn : n + 512 ≤ 1536) (v : Vec Ideal S128x1536 .f32)
    (w : Vec Ideal S1x512x512 .bf16) (r : Fin 128) (j : Fin 512) :
    part512 n h v w (ix2 r j) = ∑ k : Fin 512, v (ix2 r ⟨n + k, by omega⟩) * w (ix3 0 k j) := by
  unfold part512
  pointwise

/-- An element of the product of 768 columns. -/
theorem part768_apply (n : ℕ) (h : S128x1536.Slices ![0, n] S128x768) (hn : n + 768 ≤ 1536) (v : Vec Ideal S128x1536 .f32)
    (w : Vec Ideal S1x768x512 .bf16) (r : Fin 128) (j : Fin 512) :
    part768 n h v w (ix2 r j) = ∑ k : Fin 768, v (ix2 r ⟨n + k, by omega⟩) * w (ix3 0 k j) := by
  unfold part768
  pointwise

/-- A row of parameters beside each row, at an index. -/
theorem rowB_apply (w : Vec Ideal S1x1536 .f32) (r : Fin 128) (c : Fin 1536) : rowB w (ix2 r c) = w (ix2 0 c) := by
  unfold rowB
  pointwise

/-- The kernel's prepared parameters are the layer's, halved where the kernel halves them. -/
structure Reads (A : Arrays) (P : Params Ideal) : Prop where
  a : ∀ (g : Fin 2) (k : Fin 512) (j : Fin 256), P.a (ix3 0 k ⟨256 * g + j, by omega⟩) = dense A g k j
  b : ∀ (g : Fin 2) (k : Fin 768) (j : Fin 256), P.b (ix3 0 k ⟨256 * g + j, by omega⟩) = dense A g k (256 + j)
  c : ∀ (g : Fin 2) (k : Fin 512) (j : Fin 256), P.c (ix3 0 k ⟨256 * g + j, by omega⟩) = dense A g (256 + k) (512 + j)
  a' : ∀ (g : Fin 2) (k : Fin 512) (j : Fin 256), P.a' (ix3 0 k ⟨256 * g + j, by omega⟩) = dense A g (768 + k) (768 + j)
  b' : ∀ (g : Fin 2) (k : Fin 768) (j : Fin 256), P.b' (ix3 0 k ⟨256 * g + j, by omega⟩) = dense A g (768 + k) (1024 + j)
  c' : ∀ (g : Fin 2) (k : Fin 512) (j : Fin 256), P.c' (ix3 0 k ⟨256 * g + j, by omega⟩) = dense A g (1024 + k) (1280 + j)
  bR : ∀ c : Fin 1536, P.bR (ix2 0 c) = ((1 / 2 : ℝ) : EReal) * A.b 0 c
  bI : ∀ c : Fin 1536, P.bI (ix2 0 c) = ((1 / 2 : ℝ) : EReal) * A.b 1 c
  nhd : ∀ c : Fin 1536, P.nhd (ix2 0 c) = ((-4 : ℝ) : EReal) * softplus (-(A.al c))
  al : ∀ c : Fin 1536, ∃ x : ℝ, A.al c = (x : EReal)

variable {A : Arrays} {P : Params Ideal} (hP : Reads A P)
include hP

/-- A gate's logit without its bias is half the layer's. -/
theorem logits_apply (g : Fin 2) (n : ℕ) (hn : n = 256 * g) (h : S128x512.Slices ![0, n] S128x256) (v : Vec Ideal S128x1536 .f32)
    (base : ℕ) (hv : ∀ (r : Fin 128) (c : Fin 1536), v (ix2 r c) = A.u (base + r) c) (r : Fin 128) (q : Fin 1536) :
    logits n h v P.a P.b P.c P.a' P.b' P.c' (ix2 r q)
      = ((1 / 2 : ℝ) : EReal) * ∑ i : Fin 96, A.u (base + r) (96 * ((q : ℕ) / 96) + i) * A.w g q i := by
  unfold logits
  pointwise
  subst hn
  have key : ∀ (K off c : ℕ), c = q → off ≤ 96 * ((q : ℕ) / 96) → 96 * ((q : ℕ) / 96) + 96 ≤ off + K →
      ∑ k : Fin K, A.u (base + r) (off + k) * dense A g (off + k) c
        = ((1 / 2 : ℝ) : EReal) * ∑ i : Fin 96, A.u (base + r) (96 * ((q : ℕ) / 96) + i) * A.w g q i := by
    intro K off c hc h1 h2
    subst hc
    exact window_sum A g K off q (A.u (base + r)) h1 h2
  by_cases h1 : (q : ℕ) < 256
  · rw [dif_pos h1]
    rw [part512_apply _ _ (by omega)]
    simp only [hv]
    refine Eq.trans (Finset.sum_congr rfl fun k _ => ?_) (key 512 0 q rfl (by omega) (by omega))
    rw [hP.a g k ⟨q, h1⟩]
    simp only [Nat.zero_add]
  rw [dif_neg h1]
  by_cases h2 : (q : ℕ) - 256 < 256
  · rw [dif_pos h2]
    rw [part768_apply _ _ (by omega)]
    simp only [hv]
    refine Eq.trans (Finset.sum_congr rfl fun k _ => ?_) (key 768 0 (256 + (q - 256)) (by omega) (by omega) (by omega))
    rw [hP.b g k ⟨q - 256, h2⟩]
    simp only [Nat.zero_add]
  rw [dif_neg h2]
  by_cases h3 : (q : ℕ) - 256 - 256 < 256
  · rw [dif_pos h3]
    rw [part512_apply _ _ (by omega)]
    simp only [hv]
    refine Eq.trans (Finset.sum_congr rfl fun k _ => ?_) (key 512 256 (512 + (q - 256 - 256)) (by omega) (by omega) (by omega))
    rw [hP.c g k ⟨q - 256 - 256, h3⟩]
  rw [dif_neg h3]
  by_cases h4 : (q : ℕ) - 256 - 256 - 256 < 256
  · rw [dif_pos h4]
    rw [part512_apply _ _ (by omega)]
    simp only [hv]
    refine Eq.trans (Finset.sum_congr rfl fun k _ => ?_) (key 512 768 (768 + (q - 256 - 256 - 256)) (by omega) (by omega) (by omega))
    rw [hP.a' g k ⟨q - 256 - 256 - 256, h4⟩]
  rw [dif_neg h4]
  by_cases h5 : (q : ℕ) - 256 - 256 - 256 - 256 < 256
  · rw [dif_pos h5]
    rw [part768_apply _ _ (by omega)]
    simp only [hv]
    refine Eq.trans (Finset.sum_congr rfl fun k _ => ?_) (key 768 768 (1024 + (q - 256 - 256 - 256 - 256)) (by omega) (by omega) (by omega))
    rw [hP.b' g k ⟨q - 256 - 256 - 256 - 256, h5⟩]
  rw [dif_neg h5]
  rw [part512_apply _ _ (by omega)]
  simp only [hv]
  refine Eq.trans (Finset.sum_congr rfl fun k _ => ?_) (key 512 1024 (1280 + (q - 256 - 256 - 256 - 256 - 256)) (by omega) (by omega) (by omega))
  rw [hP.c' g k ⟨q - 256 - 256 - 256 - 256 - 256, by omega⟩]

/-- The block's logarithms of decays are the layer's. -/
theorem ld_apply (v : Vec Ideal S128x1536 .f32)
    (base : ℕ) (hv : ∀ (r : Fin 128) (c : Fin 1536), v (ix2 r c) = A.u (base + r) c) (r : Fin 128) (c : Fin 1536) :
    ld P v (ix2 r c) = logd A (base + r) c := by
  unfold ld logDecay
  pointwise
  rw [rowB_apply, rowB_apply, logits_apply hP 0 0 rfl _ v base hv, hP.bR, hP.nhd, half_add]
  obtain ⟨x, hx⟩ := hP.al c
  obtain ⟨p, hp, hp0⟩ := softplus_real (-x)
  have e : softplus (-(A.al c)) = (p : EReal) := by rw [hx, ← EReal.coe_neg, hp]
  rw [logd, e]
  exact log_decay _ p

/-- The layer's logarithm of the decay is a real number, not positive. -/
theorem logd_real (r : ℕ) (c : Fin 1536) : ∃ l : ℝ, logd A r c = (l : EReal) ∧ l ≤ 0 := by
  obtain ⟨x, hx⟩ := hP.al c
  obtain ⟨p, hp, hp0⟩ := softplus_real (-x)
  have e : softplus (-(A.al c)) = (p : EReal) := by rw [hx, ← EReal.coe_neg, hp]
  rw [logd, e]
  exact log_decay_real _ p hp0

/-- The block's inputs are the layer's. -/
theorem bx_apply (v : Vec Ideal S128x1536 .f32)
    (base : ℕ) (hv : ∀ (r : Fin 128) (c : Fin 1536), v (ix2 r c) = A.u (base + r) c) (r : Fin 128) (c : Fin 1536) :
    bx P v (ix2 r c) = inp A (base + r) c := by
  unfold bx input squared
  pointwise
  rw [ld_apply hP v base hv, rowB_apply, logits_apply hP 1 256 rfl _ v base hv, hP.bI, half_add, half_bits, neg_one_bits, hv, half_tanh,
    IdealRules.named_const.ideal_named_scalar κ "no_floor" _ ⊥ rfl]
  obtain ⟨l, hl, hl0⟩ := logd_real hP (base + r) c
  rw [inp, hl, ← input_scale l hl0]
  rfl

/-- The states of the block are the layer's. -/
theorem st_apply (v : Vec Ideal S128x1536 .f32)
    (t0 : ℕ) (hv : ∀ (r : Fin 128) (c : Fin 1536), v (ix2 r c) = A.u (8 * t0 + r) c)
    (s : FVec Ideal S8x1536 .f32) (hs : ∀ (b : Fin 8) (c : Fin 1536), s (ix2 b c) = state A b c t0)
    (k : ℕ) (h : k ≤ 16) (b : Fin 8) (c : Fin 1536) :
    st (exp (ld P v)) (bx P v) s k h (ix2 b c) = state A b c (t0 + k) := by
  induction k with
  | zero => exact hs b c
  | succ k ih =>
    unfold st
    pointwise
    rw [ih, ld_apply hP v (8 * t0) hv, bx_apply hP v (8 * t0) hv]
    have e : 8 * t0 + (8 * k + (b : ℕ)) = 8 * (t0 + k) + b := by ring
    simp only [e]
    rfl

omit hP in
/-- The sixteen states, one below the other, at an index. -/
theorem scanned_apply (a x : FVec Ideal S128x1536 .f32) (s : FVec Ideal S8x1536 .f32)
    (r : Fin 128) (q : Fin 1536) :
    scanned a x s (ix2 r q) = st a x s ((r : ℕ) / 8 + 1) (by omega) (ix2 ⟨(r : ℕ) % 8, by omega⟩ q) :=
  concatenate_ofFn_apply (t := S128x1536) (s₁ := S8x1536) 0 (N := 16) (fun n => st a x s (n + 1) n.2)
    concatenates_S8x1536_S8x1536_S8x1536_S8x1536_S8x1536_S8x1536_S8x1536_S8x1536_S8x1536_S8x1536_S8x1536_S8x1536_S8x1536_S8x1536_S8x1536_S8x1536_S128x1536_d0
    rfl 8 rfl (ix2 r q) ⟨(r : ℕ) / 8, by omega⟩ rfl (ix2 ⟨(r : ℕ) % 8, by omega⟩ q) rfl
    (fun b hb => by fin_cases b <;> first | rfl | exact absurd rfl hb)

/-- The block's gated values are the layer's. -/
theorem zB_apply (v : Vec Ideal S128x1536 .f32)
    (t0 : ℕ) (hv : ∀ (r : Fin 128) (c : Fin 1536), v (ix2 r c) = A.u (8 * t0 + r) c)
    (s : FVec Ideal S8x1536 .f32) (hs : ∀ (b : Fin 8) (c : Fin 1536), s (ix2 b c) = state A b c t0)
    (n : ℕ) (h : S512x2560.Slices ![n, 0] S128x1536) (hn : n + 128 ≤ 512) (p : FVec Ideal S512x2560 .f32)
    (hp : ∀ (r : Fin 128) (c : Fin 1536), p (ix2 ⟨n + r, by omega⟩ ⟨c, by omega⟩) = proj A (8 * t0 + r) (1536 + c))
    (hy : ∀ (r : ℕ) (c : Fin 1536), ∃ y : ℝ, proj A r (1536 + c) = (y : EReal))
    (hb : Vec Ideal S128x1536 .f32) (hhb : ∀ (r : Fin 128) (c : Fin 1536), hb (ix2 r c) = A.hb (8 * t0 + r) c)
    (r : Fin 128) (c : Fin 1536) :
    zB P v s n h p hb (ix2 r c) = z A (8 * t0 + r) c := by
  unfold zB merged geluB
  pointwise
  rw [scanned_apply, st_apply hP v t0 hv s hs, hp, hhb, half_bits, root_bits,
    IdealRules.named_const.ideal_named_scalar κ "gelu_cubic" _ _ rfl]
  obtain ⟨y, hy⟩ := hy (8 * t0 + r) c
  rw [z, hy, ← gelu_real]
  have e1 : (8 * t0 + (r : ℕ)) % 8 = (r : ℕ) % 8 := by omega
  have e2 : (8 * t0 + (r : ℕ)) / 8 + 1 = t0 + ((r : ℕ) / 8 + 1) := by omega
  rw [e1, e2]

end Cert.KernelIdeal.Block

end
-- ==== Proof.HostValue.lean ====
module

public import proofs.«01_k».proof.Proof.Args
public import proofs.«01_k».proof.Proof.BlockValue
public import proofs.«01_k».proof.Proof.Gen.KernelIdeal.Frame
public import Idealize.ShloMosaic.Lib.StableHlo.ReadAt
public import Idealize.ShloMosaic.Lib.Pipeline.ValueKit

@[expose] public section

set_option maxRecDepth 16384

noncomputable section

/-! What the kernel's operations before its grid leave in the arrays that the grid's windows read. -/

namespace Cert.KernelIdeal.Host

open Cert.KernelIdeal Cert.KernelIdeal.Gen Cert.KernelIdeal.Block Cert.Scalar Cert.Spec Idealize.ShloMosaic Idealize.ShloMosaic.TcCoe
  Idealize.SL.Sem

variable (m : (ℓ : Loc nD τ sig) → Buf (Elt Ideal) ℓ) (d : Dev nD)

/-- The layer's arrays as the launch finds them. -/
def args : Arrays :=
  arrays (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5))
    (m ((d : Thread nD τ).loc main_arg6)) (m ((d : Thread nD τ).loc main_arg7)) (m ((d : Thread nD τ).loc main_arg8))

/-- The branch's output weights. -/
theorem wa_apply (c : Fin 1536) (j : Fin 1024) : (V m d main_v92 : Vec Ideal S1536x1024 .bf16) (ix2 c j) = (args m d).wa c j := by
  unfold V hostOps0 hostOps0_1 hostOps0_2
  after_reads_at
  simp [args, arrays, Nat.mod_eq_of_lt]

/-- The projection's weights for the branch. -/
theorem wy_apply (k : Fin 1024) (c : Fin 1536) :
    (V m d main_v5 : Vec Ideal S1024x2560 .bf16) (ix2 k ⟨c, by omega⟩) = (args m d).win k (1536 + c) := by
  unfold V hostOps0 hostOps0_1 hostOps0_2
  after_reads_at
  after_reads_at
  simp [args, arrays, Nat.mod_eq_of_lt, show (1536 + (c : ℕ)) % 7168 = 1536 + c by omega]

/-- The projection's weights for the gate. -/
theorem wg_apply (k : Fin 1024) (c : Fin 1024) :
    (V m d main_v5 : Vec Ideal S1024x2560 .bf16) (ix2 k ⟨1536 + c, by omega⟩) = (args m d).win k (5120 + c) := by
  unfold V hostOps0 hostOps0_1 hostOps0_2
  after_reads_at
  after_reads_at
  simp [args, arrays, Nat.mod_eq_of_lt, show (5120 + (c : ℕ)) % 7168 = 5120 + c by omega]

/-- The projection's bias for the branch. -/
theorem cy_apply (c : Fin 1536) :
    (V m d main_v9 : Vec Ideal S1x2560 .f32) (ix2 0 ⟨c, by omega⟩) = (args m d).bin (1536 + c) := by
  unfold V hostOps0 hostOps0_1 hostOps0_2
  after_reads_at
  after_reads_at
  simp [args, arrays, Nat.mod_eq_of_lt, show (1536 + (c : ℕ)) % 7168 = 1536 + c by omega]

/-- The projection's bias for the gate. -/
theorem cg_apply (c : Fin 1024) :
    (V m d main_v9 : Vec Ideal S1x2560 .f32) (ix2 0 ⟨1536 + c, by omega⟩) = (args m d).bin (5120 + c) := by
  unfold V hostOps0 hostOps0_1 hostOps0_2
  after_reads_at
  after_reads_at
  simp [args, arrays, Nat.mod_eq_of_lt, show (5120 + (c : ℕ)) % 7168 = 5120 + c by omega]

/-- Minus half the decay constant times the softplus. -/
theorem nhd_apply (c : Fin 1536) :
    (V m d main_v90 : Vec Ideal S1x1536 .f32) (ix2 0 c) = ((-4 : ℝ) : EReal) * softplus (-((args m d).al c)) := by
  unfold V hostOps0 hostOps0_1 hostOps0_2
  after_reads_at
  rw [if_neg (by simp), neg_four_bits]
  simp only [args, arrays, Nat.mod_eq_of_lt c.isLt, softplus, sub_zero]
  rfl

/-- Half the gates' biases. -/
theorem bg_apply (g : Fin 2) (c : Fin 1536) :
    (V m d main_v84 : Vec Ideal S2x1536 .f32) (ix2 g c) = ((1 / 2 : ℝ) : EReal) * (args m d).b g c := by
  unfold V hostOps0 hostOps0_1 hostOps0_2
  after_reads_at
  rw [half_bits]
  simp [args, arrays, Nat.mod_eq_of_lt g.isLt, show (c : ℕ) / 96 % 16 = c / 96 by omega]

/-- A product with an entry of the identity matrix. -/
theorem eye_mul (x : EReal) (a b : ℕ) (ha : a < 8) (hb : b < 8) :
    x * FloatOps.uitofp (F := Ideal) .f32 (IntOp.cmpi .eq (IntOp.addi (BitVec.ofNat 32 a) 0#32) (BitVec.ofNat 32 b))
      = if a = b then x else 0 := by
  have e : (IntOp.cmpi .eq (IntOp.addi (BitVec.ofNat 32 a) 0#32) (BitVec.ofNat 32 b)) = BitVec.ofBool (decide (a = b)) := by
    interval_cases a <;> interval_cases b <;> decide
  rw [e]
  by_cases h : a = b
  · simp [h, FloatOps.uitofp]
  · simp [h, FloatOps.uitofp]

/-- Half an entry of a gate's block diagonal matrix, the blocks placed by an identity matrix. -/
theorem half_dense (g : Fin 2) (k c a b : ℕ) (n : Fin 16) (i o : Fin 96) (ha : a < 8) (hb : b < 8) (hn : (n : ℕ) = k / 96)
    (hi : (i : ℕ) = k % 96) (ho : (o : ℕ) = c % 96) (he : a = b ↔ k / 96 = c / 96)
    (x : EReal) (hx : x = m ((d : Thread nD τ).loc main_arg5) (ix6 0 0 g n i o)) :
    Ideal.ofBits .f32 0x3F000000#32 * (x * FloatOps.uitofp (F := Ideal) .f32 (IntOp.cmpi .eq (IntOp.addi (BitVec.ofNat 32 a) 0#32) (BitVec.ofNat 32 b)))
      = dense (args m d) g k c := by
  rw [eye_mul _ _ _ ha hb, half_bits, dense, hx]
  by_cases h : a = b
  · have h' := he.mp h
    have e1 : (⟨(g : ℕ) % 2, by omega⟩ : Fin 2) = g := Fin.ext (by simp only []; omega)
    have e2 : (⟨c / 96 % 16, by omega⟩ : Fin 16) = n := Fin.ext (by simp only []; omega)
    have e3 : (⟨k % 96 % 96, by omega⟩ : Fin 96) = i := Fin.ext (by simp only []; omega)
    have e4 : (⟨c % 96, by omega⟩ : Fin 96) = o := Fin.ext (by simp only []; omega)
    rw [if_pos h, if_pos h']
    simp only [args, arrays, e1, e2, e3, e4]
  · rw [if_neg h, if_neg (fun h' => h (he.mpr h')), mul_zero]

/-- The gates' entries in the first columns of group 0. -/
theorem lo0_apply (g : Fin 2) (k : Fin 512) (j : Fin 256) :
    (V m d main_v69 : Vec Ideal S2x512x512 .bf16) (ix3 0 k ⟨256 * g + j, by omega⟩) = dense (args m d) g k j := by
  obtain ⟨g, hg⟩ := g
  obtain rfl | rfl : g = 0 ∨ g = 1 := by omega
  all_goals
    unfold V hostOps0 hostOps0_1 hostOps0_2
    after_reads_at
    after_reads_at
    after_reads_at
    refine half_dense m d _ _ _ _ _ _ _ _ ?_ ?_ ?_ ?_ ?_ ?_ _ rfl <;> (try simp only []) <;> omega

/-- The gates' entries in the first columns of group 1. -/
theorem lo1_apply (g : Fin 2) (k : Fin 512) (j : Fin 256) :
    (V m d main_v69 : Vec Ideal S2x512x512 .bf16) (ix3 1 k ⟨256 * g + j, by omega⟩) = dense (args m d) g (768 + k) (768 + j) := by
  obtain ⟨g, hg⟩ := g
  obtain rfl | rfl : g = 0 ∨ g = 1 := by omega
  all_goals
    unfold V hostOps0 hostOps0_1 hostOps0_2
    after_reads_at
    after_reads_at
    after_reads_at
    refine half_dense m d _ _ _ _ _ _ _ _ ?_ ?_ ?_ ?_ ?_ ?_ _ rfl <;> (try simp only []) <;> omega

/-- The gates' entries in the middle columns of group 0. -/
theorem mid0_apply (g : Fin 2) (k : Fin 768) (j : Fin 256) :
    (V m d main_v75 : Vec Ideal S2x768x512 .bf16) (ix3 0 k ⟨256 * g + j, by omega⟩) = dense (args m d) g k (256 + j) := by
  obtain ⟨g, hg⟩ := g
  obtain rfl | rfl : g = 0 ∨ g = 1 := by omega
  all_goals
    unfold V hostOps0 hostOps0_1 hostOps0_2
    after_reads_at
    after_reads_at
    after_reads_at
    refine half_dense m d _ _ _ _ _ _ _ _ ?_ ?_ ?_ ?_ ?_ ?_ _ rfl <;> (try simp only []) <;> omega

/-- The gates' entries in the middle columns of group 1. -/
theorem mid1_apply (g : Fin 2) (k : Fin 768) (j : Fin 256) :
    (V m d main_v75 : Vec Ideal S2x768x512 .bf16) (ix3 1 k ⟨256 * g + j, by omega⟩) = dense (args m d) g (768 + k) (1024 + j) := by
  obtain ⟨g, hg⟩ := g
  obtain rfl | rfl : g = 0 ∨ g = 1 := by omega
  all_goals
    unfold V hostOps0 hostOps0_1 hostOps0_2
    after_reads_at
    after_reads_at
    after_reads_at
    refine half_dense m d _ _ _ _ _ _ _ _ ?_ ?_ ?_ ?_ ?_ ?_ _ rfl <;> (try simp only []) <;> omega

/-- The gates' entries in the last columns of group 0. -/
theorem hi0_apply (g : Fin 2) (k : Fin 512) (j : Fin 256) :
    (V m d main_v81 : Vec Ideal S2x512x512 .bf16) (ix3 0 k ⟨256 * g + j, by omega⟩) = dense (args m d) g (256 + k) (512 + j) := by
  obtain ⟨g, hg⟩ := g
  obtain rfl | rfl : g = 0 ∨ g = 1 := by omega
  all_goals
    unfold V hostOps0 hostOps0_1 hostOps0_2
    after_reads_at
    after_reads_at
    after_reads_at
    refine half_dense m d _ _ _ _ _ _ _ _ ?_ ?_ ?_ ?_ ?_ ?_ _ rfl <;> (try simp only []) <;> omega

/-- The gates' entries in the last columns of group 1. -/
theorem hi1_apply (g : Fin 2) (k : Fin 512) (j : Fin 256) :
    (V m d main_v81 : Vec Ideal S2x512x512 .bf16) (ix3 1 k ⟨256 * g + j, by omega⟩) = dense (args m d) g (1024 + k) (1280 + j) := by
  obtain ⟨g, hg⟩ := g
  obtain rfl | rfl : g = 0 ∨ g = 1 := by omega
  all_goals
    unfold V hostOps0 hostOps0_1 hostOps0_2
    after_reads_at
    after_reads_at
    after_reads_at
    refine half_dense m d _ _ _ _ _ _ _ _ ?_ ?_ ?_ ?_ ?_ ?_ _ rfl <;> (try simp only []) <;> omega

end Cert.KernelIdeal.Host

end
-- ==== Proof.Body.lean ====
module

public import proofs.«01_k».proof.Proof.Block
public import proofs.«01_k».proof.Proof.Gen.KernelIdeal.Value
public import Idealize.ShloMosaic.Lib.Pipeline.Value
public import Idealize.ShloMosaic.Lib.Tactic

@[expose] public section

set_option maxRecDepth 16384

noncomputable section

/-! What the kernel's body leaves at one grid point: the tile of the result and the carried state, as compositions of
the four blocks. -/

namespace Cert.KernelIdeal.Block

open Idealize.ShloMosaic Idealize.ShloMosaic.TcCoe Idealize.SL.Sem
open Cert.KernelIdeal Cert.KernelIdeal.Gen

variable {F : FTy → Type} [FloatOps F] [Named F]

/-- Whole buffers are read from the origin. -/
theorem hz : (![0, 0] : Fin 2 → Nat) = fun _ => 0 := funext fun a => by fin_cases a <;> rfl

/-- Rows `n` to `n + 128` of a tile. -/
def rows (n : ℕ) (h : ∀ a, ![n, 0] a + S128x1536.size a ≤ S512x1536.size a) (x : Vec F S512x1536 .f32) : Vec F S128x1536 .f32 :=
  View.ld x (Rect.unit (s := S512x1536) ![n, 0] S128x1536.size h)

/-- The parameters the body reads. -/
def params (x5 : Vec F S2x512x512 .bf16) (x6 : Vec F S2x768x512 .bf16) (x7 : Vec F S2x512x512 .bf16) (x8 : Vec F S2x1536 .f32) (x9 : Vec F S1x1536 .f32) : Params F where
  a := View.ld x5 (Rect.unit (s := S2x512x512) ![0, 0, 0] S1x512x512.size inb_S2x512x512_S1x512x512_0_0_0)
  b := View.ld x6 (Rect.unit (s := S2x768x512) ![0, 0, 0] S1x768x512.size inb_S2x768x512_S1x768x512_0_0_0)
  c := View.ld x7 (Rect.unit (s := S2x512x512) ![0, 0, 0] S1x512x512.size inb_S2x512x512_S1x512x512_0_0_0)
  a' := View.ld x5 (Rect.unit (s := S2x512x512) ![1, 0, 0] S1x512x512.size inb_S2x512x512_S1x512x512_1_0_0)
  b' := View.ld x6 (Rect.unit (s := S2x768x512) ![1, 0, 0] S1x768x512.size inb_S2x768x512_S1x768x512_1_0_0)
  c' := View.ld x7 (Rect.unit (s := S2x512x512) ![1, 0, 0] S1x512x512.size inb_S2x512x512_S1x512x512_1_0_0)
  bR := View.ld x8 (Rect.unit (s := S2x1536) ![0, 0] S1x1536.size inb_S2x1536_S1x1536_0_0)
  bI := View.ld x8 (Rect.unit (s := S2x1536) ![1, 0] S1x1536.size inb_S2x1536_S1x1536_1_0)
  nhd := View.ld x9 (Rect.unit (s := S1x1536) ![0, 0] S1x1536.size inb_S1x1536_S1x1536_0_0)

/-- The state after one, two, three and four of the tile's blocks. -/
def carry1 (P : Params F) (x1 : Vec F S512x1536 .f32) (s : FVec F S8x1536 .f32) : FVec F S8x1536 .f32 :=
  last P (rows 0 inb_S512x1536_S128x1536_0_0 x1) s
def carry2 (P : Params F) (x1 : Vec F S512x1536 .f32) (s : FVec F S8x1536 .f32) : FVec F S8x1536 .f32 :=
  last P (rows 128 inb_S512x1536_S128x1536_128_0 x1) (carry1 P x1 s)
def carry3 (P : Params F) (x1 : Vec F S512x1536 .f32) (s : FVec F S8x1536 .f32) : FVec F S8x1536 .f32 :=
  last P (rows 256 inb_S512x1536_S128x1536_256_0 x1) (carry2 P x1 s)
def carry4 (P : Params F) (x1 : Vec F S512x1536 .f32) (s : FVec F S8x1536 .f32) : FVec F S8x1536 .f32 :=
  last P (rows 384 inb_S512x1536_S128x1536_384_0 x1) (carry3 P x1 s)

/-- The gated values of the four blocks. -/
def z1 (P : Params F) (x1 : Vec F S512x1536 .f32) (s : FVec F S8x1536 .f32) (p : FVec F S512x2560 .f32) (x2 : Vec F S512x1536 .f32) : FVec F S128x1536 .bf16 :=
  zB P (rows 0 inb_S512x1536_S128x1536_0_0 x1) s 0 slices_S512x2560_o0_0_S128x1536 p (rows 0 inb_S512x1536_S128x1536_0_0 x2)
def z2 (P : Params F) (x1 : Vec F S512x1536 .f32) (s : FVec F S8x1536 .f32) (p : FVec F S512x2560 .f32) (x2 : Vec F S512x1536 .f32) : FVec F S128x1536 .bf16 :=
  zB P (rows 128 inb_S512x1536_S128x1536_128_0 x1) (carry1 P x1 s) 128 slices_S512x2560_o128_0_S128x1536 p (rows 128 inb_S512x1536_S128x1536_128_0 x2)
def z3 (P : Params F) (x1 : Vec F S512x1536 .f32) (s : FVec F S8x1536 .f32) (p : FVec F S512x2560 .f32) (x2 : Vec F S512x1536 .f32) : FVec F S128x1536 .bf16 :=
  zB P (rows 256 inb_S512x1536_S128x1536_256_0 x1) (carry2 P x1 s) 256 slices_S512x2560_o256_0_S128x1536 p (rows 256 inb_S512x1536_S128x1536_256_0 x2)
def z4 (P : Params F) (x1 : Vec F S512x1536 .f32) (s : FVec F S8x1536 .f32) (p : FVec F S512x2560 .f32) (x2 : Vec F S512x1536 .f32) : FVec F S128x1536 .bf16 :=
  zB P (rows 384 inb_S512x1536_S128x1536_384_0 x1) (carry3 P x1 s) 384 slices_S512x2560_o384_0_S128x1536 p (rows 384 inb_S512x1536_S128x1536_384_0 x2)

/-- The gated values as the body stores them, the last block first. -/
def pieces (P : Params F) (x1 : Vec F S512x1536 .f32) (s : FVec F S8x1536 .f32) (p : FVec F S512x2560 .f32) (x2 : Vec F S512x1536 .f32) :
    List (View.Piece (Elt F) S512x1536 .bf16) :=
  [⟨Rect.unit (s := S512x1536) ![384, 0] S128x1536.size inb_S512x1536_S128x1536_384_0, z4 P x1 s p x2⟩,
   ⟨Rect.unit (s := S512x1536) ![256, 0] S128x1536.size inb_S512x1536_S128x1536_256_0, z3 P x1 s p x2⟩,
   ⟨Rect.unit (s := S512x1536) ![128, 0] S128x1536.size inb_S512x1536_S128x1536_128_0, z2 P x1 s p x2⟩,
   ⟨Rect.unit (s := S512x1536) ![0, 0] S128x1536.size inb_S512x1536_S128x1536_0_0, z1 P x1 s p x2⟩]

/-- The tile's gated values. -/
def zTile (P : Params F) (x1 : Vec F S512x1536 .f32) (s : FVec F S8x1536 .f32) (p : FVec F S512x2560 .f32) (x2 : Vec F S512x1536 .f32) :
    Vec F S512x1536 .bf16 := View.canon (pieces P x1 s p x2)

/-- The tile of the result. -/
def result (P : Params F) (x0 : Vec F S512x1024 .f32) (x1 x2 : Vec F S512x1536 .f32) (x3 : Vec F S1024x2560 .bf16) (x4 : Vec F S1x2560 .f32)
    (x10 : Vec F S1536x1024 .bf16) (s : FVec F S8x1536 .f32) : FVec F S512x1024 .f32 :=
  k0_pay1 (k0_pay19 x0 x3 x4) (zTile P x1 s (k0_pay19 x0 x3 x4) x2) (k0_pay144 x10) (constant S512x1024 .f32 0x00000000#32)

/-- The carried state after a later point. -/
theorem sout_B (c : Dev nD) (i : grid0.Coords) (arg1 : Memref sig .tc .vmem S512x1024 .f32) (harg1 : arg1.IsWhole) (arg2 : Memref sig .tc .vmem S512x1536 .f32) (harg2 : arg2.IsWhole) (arg3 : Memref sig .tc .vmem S512x1536 .f32) (harg3 : arg3.IsWhole) (arg4 : Memref sig .tc .vmem S1024x2560 .bf16) (harg4 : arg4.IsWhole) (arg5 : Memref sig .tc .vmem S1x2560 .f32) (harg5 : arg5.IsWhole) (arg6 : Memref sig .tc .vmem S2x512x512 .bf16) (harg6 : arg6.IsWhole) (arg7 : Memref sig .tc .vmem S2x768x512 .bf16) (harg7 : arg7.IsWhole) (arg8 : Memref sig .tc .vmem S2x512x512 .bf16) (harg8 : arg8.IsWhole) (arg9 : Memref sig .tc .vmem S2x1536 .f32) (harg9 : arg9.IsWhole) (arg10 : Memref sig .tc .vmem S1x1536 .f32) (harg10 : arg10.IsWhole) (arg11 : Memref sig .tc .vmem S1536x1024 .bf16) (harg11 : arg11.IsWhole) (arg12 : Memref sig .tc .vmem S512x1024 .f32) (harg12 : arg12.IsWhole) (arg13 : Memref sig .tc .vmem S512x1536 .bf16) (harg13 : arg13.IsWhole) (arg14 : Memref sig .tc .vmem S8x1536 .f32) (harg14 : arg14.IsWhole) (hc0 : ¬cond0_0 i)
    (x0 : Vec F S512x1024 .f32) (x1 : Vec F S512x1536 .f32) (x2 : Vec F S512x1536 .f32) (x3 : Vec F S1024x2560 .bf16) (x4 : Vec F S1x2560 .f32) (x5 : Vec F S2x512x512 .bf16) (x6 : Vec F S2x768x512 .bf16) (x7 : Vec F S2x512x512 .bf16) (x8 : Vec F S2x1536 .f32) (x9 : Vec F S1x1536 .f32) (x10 : Vec F S1536x1024 .bf16) (xs1 : Vec F S8x1536 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs1 = carry4 (params x5 x6 x7 x8 x9) x1 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg14.read_unread]
  simp only [View.ld_unit_zero (S := S8x1536) hz]
  show shapeCast S8x1536 (carry4 (params x5 x6 x7 x8 x9) x1 xs1) _ = _
  exact shapeCast_self _ _

/-- The tile of the result after a later point. -/
theorem out_B (c : Dev nD) (i : grid0.Coords) (arg1 : Memref sig .tc .vmem S512x1024 .f32) (harg1 : arg1.IsWhole) (arg2 : Memref sig .tc .vmem S512x1536 .f32) (harg2 : arg2.IsWhole) (arg3 : Memref sig .tc .vmem S512x1536 .f32) (harg3 : arg3.IsWhole) (arg4 : Memref sig .tc .vmem S1024x2560 .bf16) (harg4 : arg4.IsWhole) (arg5 : Memref sig .tc .vmem S1x2560 .f32) (harg5 : arg5.IsWhole) (arg6 : Memref sig .tc .vmem S2x512x512 .bf16) (harg6 : arg6.IsWhole) (arg7 : Memref sig .tc .vmem S2x768x512 .bf16) (harg7 : arg7.IsWhole) (arg8 : Memref sig .tc .vmem S2x512x512 .bf16) (harg8 : arg8.IsWhole) (arg9 : Memref sig .tc .vmem S2x1536 .f32) (harg9 : arg9.IsWhole) (arg10 : Memref sig .tc .vmem S1x1536 .f32) (harg10 : arg10.IsWhole) (arg11 : Memref sig .tc .vmem S1536x1024 .bf16) (harg11 : arg11.IsWhole) (arg12 : Memref sig .tc .vmem S512x1024 .f32) (harg12 : arg12.IsWhole) (arg13 : Memref sig .tc .vmem S512x1536 .bf16) (harg13 : arg13.IsWhole) (arg14 : Memref sig .tc .vmem S8x1536 .f32) (harg14 : arg14.IsWhole) (hc0 : ¬cond0_0 i)
    (x0 : Vec F S512x1024 .f32) (x1 : Vec F S512x1536 .f32) (x2 : Vec F S512x1536 .f32) (x3 : Vec F S1024x2560 .bf16) (x4 : Vec F S1x2560 .f32) (x5 : Vec F S2x512x512 .bf16) (x6 : Vec F S2x768x512 .bf16) (x7 : Vec F S2x512x512 .bf16) (x8 : Vec F S2x1536 .f32) (x9 : Vec F S1x1536 .f32) (x10 : Vec F S1536x1024 .bf16) (xs1 : Vec F S8x1536 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs1 = result (params x5 x6 x7 x8 x9) x0 x1 x2 x3 x4 x10 xs1 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg14.read_unread]
  simp only [View.ld_unit_zero (S := S8x1536) hz, View.ld_unit_zero (S := S512x1024) hz, View.ld_unit_zero (S := S1024x2560) hz, View.ld_unit_zero (S := S1x2560) hz, View.ld_unit_zero (S := S1536x1024) hz]
  change k0_pay1 (k0_pay19 x0 x3 x4) (arg13.view.readCov (pieces (params x5 x6 x7 x8 x9) x1 xs1 (k0_pay19 x0 x3 x4) x2)
    (Rect.unit (s := S512x1536) ![0, 0] S512x1536.size inb_S512x1536_S512x1536_0_0).toLoadRect) (k0_pay144 x10) (constant S512x1024 .f32 0x00000000#32) = _
  rw [View.readCov_eq_canon']
  change k0_pay1 _ (View.ld (View.canon (pieces (params x5 x6 x7 x8 x9) x1 xs1 (k0_pay19 x0 x3 x4) x2)) (Rect.unit (s := S512x1536) ![0, 0] S512x1536.size inb_S512x1536_S512x1536_0_0)) _ _ = _
  rw [View.ld_unit_zero (S := S512x1536) hz]
  rfl

/-- The carried state after the first point: it starts from zero. -/
theorem sout_A (c : Dev nD) (i : grid0.Coords) (arg1 : Memref sig .tc .vmem S512x1024 .f32) (harg1 : arg1.IsWhole) (arg2 : Memref sig .tc .vmem S512x1536 .f32) (harg2 : arg2.IsWhole) (arg3 : Memref sig .tc .vmem S512x1536 .f32) (harg3 : arg3.IsWhole) (arg4 : Memref sig .tc .vmem S1024x2560 .bf16) (harg4 : arg4.IsWhole) (arg5 : Memref sig .tc .vmem S1x2560 .f32) (harg5 : arg5.IsWhole) (arg6 : Memref sig .tc .vmem S2x512x512 .bf16) (harg6 : arg6.IsWhole) (arg7 : Memref sig .tc .vmem S2x768x512 .bf16) (harg7 : arg7.IsWhole) (arg8 : Memref sig .tc .vmem S2x512x512 .bf16) (harg8 : arg8.IsWhole) (arg9 : Memref sig .tc .vmem S2x1536 .f32) (harg9 : arg9.IsWhole) (arg10 : Memref sig .tc .vmem S1x1536 .f32) (harg10 : arg10.IsWhole) (arg11 : Memref sig .tc .vmem S1536x1024 .bf16) (harg11 : arg11.IsWhole) (arg12 : Memref sig .tc .vmem S512x1024 .f32) (harg12 : arg12.IsWhole) (arg13 : Memref sig .tc .vmem S512x1536 .bf16) (harg13 : arg13.IsWhole) (arg14 : Memref sig .tc .vmem S8x1536 .f32) (harg14 : arg14.IsWhole) (hc0 : cond0_0 i)
    (x0 : Vec F S512x1024 .f32) (x1 : Vec F S512x1536 .f32) (x2 : Vec F S512x1536 .f32) (x3 : Vec F S1024x2560 .bf16) (x4 : Vec F S1x2560 .f32) (x5 : Vec F S2x512x512 .bf16) (x6 : Vec F S2x768x512 .bf16) (x7 : Vec F S2x512x512 .bf16) (x8 : Vec F S2x1536 .f32) (x9 : Vec F S1x1536 .f32) (x10 : Vec F S1536x1024 .bf16) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = carry4 (params x5 x6 x7 x8 x9) x1 k0_pay2 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_cons_unit_zero (S := S8x1536) hz]
  simp only [View.readAt_eq_ld, harg1.read_unread, harg2.read_unread, harg3.read_unread, harg4.read_unread, harg5.read_unread, harg6.read_unread, harg7.read_unread, harg8.read_unread, harg9.read_unread, harg10.read_unread, harg11.read_unread, harg14.read_unread]
  simp only [View.readCov_unit_zero (S := S8x1536) _ hz]
  show shapeCast S8x1536 (carry4 (params x5 x6 x7 x8 x9) x1 k0_pay2) _ = _
  exact shapeCast_self _ _

/-- The tile of the result after the first point. -/
theorem out_A (c : Dev nD) (i : grid0.Coords) (arg1 : Memref sig .tc .vmem S512x1024 .f32) (harg1 : arg1.IsWhole) (arg2 : Memref sig .tc .vmem S512x1536 .f32) (harg2 : arg2.IsWhole) (arg3 : Memref sig .tc .vmem S512x1536 .f32) (harg3 : arg3.IsWhole) (arg4 : Memref sig .tc .vmem S1024x2560 .bf16) (harg4 : arg4.IsWhole) (arg5 : Memref sig .tc .vmem S1x2560 .f32) (harg5 : arg5.IsWhole) (arg6 : Memref sig .tc .vmem S2x512x512 .bf16) (harg6 : arg6.IsWhole) (arg7 : Memref sig .tc .vmem S2x768x512 .bf16) (harg7 : arg7.IsWhole) (arg8 : Memref sig .tc .vmem S2x512x512 .bf16) (harg8 : arg8.IsWhole) (arg9 : Memref sig .tc .vmem S2x1536 .f32) (harg9 : arg9.IsWhole) (arg10 : Memref sig .tc .vmem S1x1536 .f32) (harg10 : arg10.IsWhole) (arg11 : Memref sig .tc .vmem S1536x1024 .bf16) (harg11 : arg11.IsWhole) (arg12 : Memref sig .tc .vmem S512x1024 .f32) (harg12 : arg12.IsWhole) (arg13 : Memref sig .tc .vmem S512x1536 .bf16) (harg13 : arg13.IsWhole) (arg14 : Memref sig .tc .vmem S8x1536 .f32) (harg14 : arg14.IsWhole) (hc0 : cond0_0 i)
    (x0 : Vec F S512x1024 .f32) (x1 : Vec F S512x1536 .f32) (x2 : Vec F S512x1536 .f32) (x3 : Vec F S1024x2560 .bf16) (x4 : Vec F S1x2560 .f32) (x5 : Vec F S2x512x512 .bf16) (x6 : Vec F S2x768x512 .bf16) (x7 : Vec F S2x512x512 .bf16) (x8 : Vec F S2x1536 .f32) (x9 : Vec F S1x1536 .f32) (x10 : Vec F S1536x1024 .bf16) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = result (params x5 x6 x7 x8 x9) x0 x1 x2 x3 x4 x10 k0_pay2 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg14.read_unread]
  simp only [View.readCov_unit_zero (S := S8x1536) _ hz]
  simp only [View.ld_unit_zero (S := S512x1024) hz, View.ld_unit_zero (S := S1024x2560) hz, View.ld_unit_zero (S := S1x2560) hz, View.ld_unit_zero (S := S1536x1024) hz]
  change k0_pay1 (k0_pay19 x0 x3 x4) (arg13.view.readCov (pieces (params x5 x6 x7 x8 x9) x1 k0_pay2 (k0_pay19 x0 x3 x4) x2)
    (Rect.unit (s := S512x1536) ![0, 0] S512x1536.size inb_S512x1536_S512x1536_0_0).toLoadRect) (k0_pay144 x10) (constant S512x1024 .f32 0x00000000#32) = _
  rw [View.readCov_eq_canon']
  change k0_pay1 _ (View.ld (View.canon (pieces (params x5 x6 x7 x8 x9) x1 k0_pay2 (k0_pay19 x0 x3 x4) x2)) (Rect.unit (s := S512x1536) ![0, 0] S512x1536.size inb_S512x1536_S512x1536_0_0)) _ _ = _
  rw [View.ld_unit_zero (S := S512x1536) hz]
  rfl

end Cert.KernelIdeal.Block

end
-- ==== Proof.BodyValue.lean ====
module

public import proofs.«01_k».proof.Proof.Body
public import proofs.«01_k».proof.Proof.BlockValue

@[expose] public section

set_option maxRecDepth 16384

noncomputable section

/-! The elements of a tile of the result and of the carried state over the extended reals: they are the layer's. -/

namespace Cert.KernelIdeal.Block

open Idealize.ShloMosaic Idealize.SL.Sem Cert.KernelIdeal.Gen Cert.Scalar Cert.Spec

/-- A load of 128 rows of a tile, at an index. -/
theorem rows_apply (n : ℕ) (h : ∀ a, ![n, 0] a + S128x1536.size a ≤ S512x1536.size a) (hn : n + 128 ≤ 512)
    (x : Vec Ideal S512x1536 .f32) (r : Fin 128) (c : Fin 1536) : rows n h x (ix2 r c) = x (ix2 ⟨n + r, by omega⟩ c) := by
  unfold rows
  rw [View.ld_unit]
  pointwise

/-- An element of the input projection of a tile. -/
theorem projection_apply (x0 : Vec Ideal S512x1024 .f32) (x3 : Vec Ideal S1024x2560 .bf16) (x4 : Vec Ideal S1x2560 .f32)
    (r : Fin 512) (j : Fin 2560) :
    k0_pay19 x0 x3 x4 (ix2 r j) = (∑ k : Fin 1024, x0 (ix2 r k) * x3 (ix2 k j)) + x4 (ix2 0 j) := by
  unfold k0_pay19
  pointwise

/-- The blocks a grid point finds in its input windows are the layer's rows `512 p` on. -/
structure Tile (A : Arrays) (p : ℕ) (x0 : Vec Ideal S512x1024 .f32) (x1 x2 : Vec Ideal S512x1536 .f32)
    (x3 : Vec Ideal S1024x2560 .bf16) (x4 : Vec Ideal S1x2560 .f32) (x10 : Vec Ideal S1536x1024 .bf16) : Prop where
  hn : ∀ (r : Fin 512) (k : Fin 1024), x0 (ix2 r k) = A.hn (512 * p + r) k
  u : ∀ (r : Fin 512) (c : Fin 1536), x1 (ix2 r c) = A.u (512 * p + r) c
  hb : ∀ (r : Fin 512) (c : Fin 1536), x2 (ix2 r c) = A.hb (512 * p + r) c
  wy : ∀ (k : Fin 1024) (c : Fin 1536), x3 (ix2 k ⟨c, by omega⟩) = A.win k (1536 + c)
  wg : ∀ (k : Fin 1024) (d : Fin 1024), x3 (ix2 k ⟨1536 + d, by omega⟩) = A.win k (5120 + d)
  cy : ∀ c : Fin 1536, x4 (ix2 0 ⟨c, by omega⟩) = A.bin (1536 + c)
  cg : ∀ d : Fin 1024, x4 (ix2 0 ⟨1536 + d, by omega⟩) = A.bin (5120 + d)
  wa : ∀ (c : Fin 1536) (d : Fin 1024), x10 (ix2 c d) = A.wa c d
  real : ∀ (r : ℕ) (c : Fin 1536), ∃ y : ℝ, proj A r (1536 + c) = (y : EReal)

variable {A : Arrays} {P : Params Ideal} (hP : Reads A P) {p : ℕ} {x0 : Vec Ideal S512x1024 .f32} {x1 x2 : Vec Ideal S512x1536 .f32}
  {x3 : Vec Ideal S1024x2560 .bf16} {x4 : Vec Ideal S1x2560 .f32} {x10 : Vec Ideal S1536x1024 .bf16}
  (hT : Tile A p x0 x1 x2 x3 x4 x10)
  {s : FVec Ideal S8x1536 .f32} (hs : ∀ (b : Fin 8) (c : Fin 1536), s (ix2 b c) = state A b c (64 * p))

include hT in
/-- Rows of the tile of `u`. -/
theorem rows_u (n : ℕ) (k : ℕ) (hk : n = 8 * k) (h : ∀ a, ![n, 0] a + S128x1536.size a ≤ S512x1536.size a) (hn : n + 128 ≤ 512)
    (r : Fin 128) (c : Fin 1536) : rows n h x1 (ix2 r c) = A.u (8 * (64 * p + k) + r) c := by
  rw [rows_apply n h hn, hT.u]
  subst hk
  congr 1
  simp only []
  ring

include hT in
/-- Rows of the tile of the reverse recurrence. -/
theorem rows_hb (n : ℕ) (k : ℕ) (hk : n = 8 * k) (h : ∀ a, ![n, 0] a + S128x1536.size a ≤ S512x1536.size a) (hn : n + 128 ≤ 512)
    (r : Fin 128) (c : Fin 1536) : rows n h x2 (ix2 r c) = A.hb (8 * (64 * p + k) + r) c := by
  rw [rows_apply n h hn, hT.hb]
  subst hk
  congr 1
  simp only []
  ring

include hT in
/-- The projection's columns for the branch. -/
theorem proj_y (n : ℕ) (k : ℕ) (hk : n = 8 * k) (hn : n + 128 ≤ 512) (r : Fin 128) (c : Fin 1536) :
    k0_pay19 x0 x3 x4 (ix2 ⟨n + r, by omega⟩ ⟨c, by omega⟩) = proj A (8 * (64 * p + k) + r) (1536 + c) := by
  rw [projection_apply, hT.cy, proj]
  subst hk
  congr 1
  refine Finset.sum_congr rfl fun i _ => ?_
  rw [hT.hn, hT.wy]
  congr 2
  simp only []
  ring

include hT in
/-- The projection's columns for the gate. -/
theorem proj_g (r : Fin 512) (d : Fin 1024) :
    k0_pay19 x0 x3 x4 (ix2 r ⟨1536 + d, by omega⟩) = proj A (512 * p + r) (5120 + d) := by
  rw [projection_apply, hT.cg, proj]
  congr 1
  refine Finset.sum_congr rfl fun i _ => ?_
  rw [hT.hn, hT.wg]

include hP hT hs

/-- The state after the tile's first block. -/
theorem carry1_apply (b : Fin 8) (c : Fin 1536) : carry1 P x1 s (ix2 b c) = state A b c (64 * p + 16) :=
  st_apply hP _ (64 * p + 0) (rows_u hT 0 0 rfl _ (by omega)) s hs 16 (by omega) b c

/-- The state after the tile's second block. -/
theorem carry2_apply (b : Fin 8) (c : Fin 1536) : carry2 P x1 s (ix2 b c) = state A b c (64 * p + 32) :=
  st_apply hP _ (64 * p + 16) (rows_u hT 128 16 rfl _ (by omega)) _ (carry1_apply hP hT hs) 16 (by omega) b c

/-- The state after the tile's third block. -/
theorem carry3_apply (b : Fin 8) (c : Fin 1536) : carry3 P x1 s (ix2 b c) = state A b c (64 * p + 48) :=
  st_apply hP _ (64 * p + 32) (rows_u hT 256 32 rfl _ (by omega)) _ (carry2_apply hP hT hs) 16 (by omega) b c

/-- The state after the tile is the layer's, 64 positions on. -/
theorem carry4_apply (b : Fin 8) (c : Fin 1536) : carry4 P x1 s (ix2 b c) = state A b c (64 * (p + 1)) :=
  st_apply hP _ (64 * p + 48) (rows_u hT 384 48 rfl _ (by omega)) _ (carry3_apply hP hT hs) 16 (by omega) b c

/-- The first block's gated values. -/
theorem z1_apply (r : Fin 128) (c : Fin 1536) : z1 P x1 s (k0_pay19 x0 x3 x4) x2 (ix2 r c) = z A (8 * (64 * p + 0) + r) c :=
  zB_apply hP _ (64 * p + 0) (rows_u hT 0 0 rfl _ (by omega)) s hs 0 _ (by omega) _ (proj_y hT 0 0 rfl (by omega)) hT.real _
    (rows_hb hT 0 0 rfl _ (by omega)) r c

/-- The second block's gated values. -/
theorem z2_apply (r : Fin 128) (c : Fin 1536) : z2 P x1 s (k0_pay19 x0 x3 x4) x2 (ix2 r c) = z A (8 * (64 * p + 16) + r) c :=
  zB_apply hP _ (64 * p + 16) (rows_u hT 128 16 rfl _ (by omega)) _ (carry1_apply hP hT hs) 128 _ (by omega) _
    (proj_y hT 128 16 rfl (by omega)) hT.real _ (rows_hb hT 128 16 rfl _ (by omega)) r c

/-- The third block's gated values. -/
theorem z3_apply (r : Fin 128) (c : Fin 1536) : z3 P x1 s (k0_pay19 x0 x3 x4) x2 (ix2 r c) = z A (8 * (64 * p + 32) + r) c :=
  zB_apply hP _ (64 * p + 32) (rows_u hT 256 32 rfl _ (by omega)) _ (carry2_apply hP hT hs) 256 _ (by omega) _
    (proj_y hT 256 32 rfl (by omega)) hT.real _ (rows_hb hT 256 32 rfl _ (by omega)) r c

/-- The fourth block's gated values. -/
theorem z4_apply (r : Fin 128) (c : Fin 1536) : z4 P x1 s (k0_pay19 x0 x3 x4) x2 (ix2 r c) = z A (8 * (64 * p + 48) + r) c :=
  zB_apply hP _ (64 * p + 48) (rows_u hT 384 48 rfl _ (by omega)) _ (carry3_apply hP hT hs) 384 _ (by omega) _
    (proj_y hT 384 48 rfl (by omega)) hT.real _ (rows_hb hT 384 48 rfl _ (by omega)) r c

omit hP hT hs in
/-- Four blocks of 128 rows, each agreeing with `G`, read as `G`. -/
theorem canon_blocks (G : S512x1536.Idx → EReal) (v1 v2 v3 v4 : FVec Ideal S128x1536 .bf16)
    (h1 : ∀ (r : Fin 128) (c : Fin 1536), v1 (ix2 r c) = G (ix2 ⟨0 + r, by omega⟩ c))
    (h2 : ∀ (r : Fin 128) (c : Fin 1536), v2 (ix2 r c) = G (ix2 ⟨128 + r, by omega⟩ c))
    (h3 : ∀ (r : Fin 128) (c : Fin 1536), v3 (ix2 r c) = G (ix2 ⟨256 + r, by omega⟩ c))
    (h4 : ∀ (r : Fin 128) (c : Fin 1536), v4 (ix2 r c) = G (ix2 ⟨384 + r, by omega⟩ c)) (y : S512x1536.Idx) :
    View.canon (Val := Elt Ideal) (s := S512x1536) (e := .bf16)
      [⟨Rect.unit (s := S512x1536) ![384, 0] S128x1536.size inb_S512x1536_S128x1536_384_0, v4⟩,
       ⟨Rect.unit (s := S512x1536) ![256, 0] S128x1536.size inb_S512x1536_S128x1536_256_0, v3⟩,
       ⟨Rect.unit (s := S512x1536) ![128, 0] S128x1536.size inb_S512x1536_S128x1536_128_0, v2⟩,
       ⟨Rect.unit (s := S512x1536) ![0, 0] S128x1536.size inb_S512x1536_S128x1536_0_0, v1⟩] y = G y := by
  refine View.canon_apply_of_pieces (Val := Elt Ideal) (e := .bf16) G _ ?_ y ?_
  · have key : ∀ (n : ℕ) (h : ∀ a, ![n, 0] a + S128x1536.size a ≤ S512x1536.size a) (hn : n + 128 ≤ 512) (v : FVec Ideal S128x1536 .bf16)
        (hv : ∀ (r : Fin 128) (c : Fin 1536), v (ix2 r c) = G (ix2 ⟨n + r, by omega⟩ c)) (x : S128x1536.Idx),
        v x = G ((Rect.unit (s := S512x1536) ![n, 0] S128x1536.size h).emb x) := by
      intro n h hn v hv x
      obtain ⟨r, c, rfl⟩ : ∃ (r : Fin 128) (c : Fin 1536), x = ix2 r c := ⟨x 0, x 1, eq_ix2 x⟩
      rw [hv]
      congr 1
      funext a
      fin_cases a
      · exact Fin.ext (congrArg (n + ·) (Nat.one_mul _).symm)
      · exact Fin.ext ((Nat.zero_add _).trans (Nat.one_mul _)).symm
    intro q hq
    simp only [List.mem_cons, List.not_mem_nil, or_false] at hq
    rcases hq with rfl | rfl | rfl | rfl
    · exact key 384 inb_S512x1536_S128x1536_384_0 (by omega) v4 h4
    · exact key 256 inb_S512x1536_S128x1536_256_0 (by omega) v3 h3
    · exact key 128 inb_S512x1536_S128x1536_128_0 (by omega) v2 h2
    · exact key 0 inb_S512x1536_S128x1536_0_0 (by omega) v1 h1
  · have key : ∀ (n : ℕ) (h : ∀ a, ![n, 0] a + S128x1536.size a ≤ S512x1536.size a), n ≤ (y 0 : ℕ) → (y 0 : ℕ) < n + 128 →
        y ∈ (Rect.unit (s := S512x1536) ![n, 0] S128x1536.size h).set := by
      intro n h h1 h2
      rw [Rect.mem_set_unit]
      intro a
      fin_cases a
      · exact ⟨h1, h2⟩
      · exact ⟨Nat.zero_le _, by show (y 1 : ℕ) < 0 + 1536; exact (Nat.zero_add 1536).symm ▸ (y 1).isLt⟩
    have hy : (y 0 : ℕ) < 512 := (y 0).isLt
    by_cases c4 : 384 ≤ (y 0 : ℕ)
    · exact ⟨_, List.mem_cons_self, key 384 inb_S512x1536_S128x1536_384_0 c4 (by omega)⟩
    by_cases c3 : 256 ≤ (y 0 : ℕ)
    · exact ⟨_, List.mem_cons_of_mem _ List.mem_cons_self, key 256 inb_S512x1536_S128x1536_256_0 c3 (by omega)⟩
    by_cases c2 : 128 ≤ (y 0 : ℕ)
    · exact ⟨_, List.mem_cons_of_mem _ (List.mem_cons_of_mem _ List.mem_cons_self), key 128 inb_S512x1536_S128x1536_128_0 c2 (by omega)⟩
    · exact ⟨_, List.mem_cons_of_mem _ (List.mem_cons_of_mem _ (List.mem_cons_of_mem _ List.mem_cons_self)),
        key 0 inb_S512x1536_S128x1536_0_0 (Nat.zero_le _) (by omega)⟩

/-- The tile's gated values are the layer's. -/
theorem zTile_apply (r : Fin 512) (c : Fin 1536) :
    zTile P x1 s (k0_pay19 x0 x3 x4) x2 (ix2 r c) = z A (512 * p + r) c := by
  refine canon_blocks (fun y => z A (512 * p + (y 0 : ℕ)) (y 1 : ℕ)) _ _ _ _ ?_ ?_ ?_ ?_ (ix2 r c)
  · intro r c
    rw [z1_apply hP hT hs]
    congr 1
    show _ = 512 * p + (0 + (r : ℕ))
    ring
  · intro r c
    rw [z2_apply hP hT hs]
    congr 1
    show _ = 512 * p + (128 + (r : ℕ))
    ring
  · intro r c
    rw [z3_apply hP hT hs]
    congr 1
    show _ = 512 * p + (256 + (r : ℕ))
    ring
  · intro r c
    rw [z4_apply hP hT hs]
    congr 1
    show _ = 512 * p + (384 + (r : ℕ))
    ring

/-- The tile of the result is the layer's. -/
theorem result_apply (r : Fin 512) (d : Fin 1024) :
    result P x0 x1 x2 x3 x4 x10 s (ix2 r d) = out A (512 * p + r) d := by
  unfold result k0_pay1 k0_pay144
  pointwise
  rw [half_bits, proj_g hT, half_tanh, out]
  simp only [zTile_apply hP hT hs, hT.wa]

end Cert.KernelIdeal.Block

end
-- ==== Proof.KernelValue.lean ====
module

public import proofs.«01_k».proof.Proof.HostValue
public import proofs.«01_k».proof.Proof.BodyValue
public import proofs.«01_k».proof.Proof.Gen.KernelIdeal.Value
public import Idealize.ShloMosaic.Lib.Pipeline.ValueKit

@[expose] public section

set_option maxRecDepth 16384

noncomputable section

/-! The kernel's result array over the extended reals is the layer's. -/

namespace Cert.KernelIdeal.Result

open Cert.KernelIdeal Cert.KernelIdeal.Gen Cert.KernelIdeal.Host Cert.KernelIdeal.Block Cert.Scalar Cert.Spec Idealize.ShloMosaic
  Idealize.ShloMosaic.TcCoe Idealize.SL.Sem

variable (m : (ℓ : Loc nD τ sig) → Buf (Elt Ideal) ℓ) (d : Dev nD)

/-- The row windows' blocks are placed at the grid point's number. -/
theorem index_rows : ∀ t : Fin cfg0.N, win0_0.index t = ![t.val, 0] ∧ win0_1.index t = ![t.val, 0] ∧ win0_2.index t = ![t.val, 0] :=
  (by decide +kernel : ∀ t : Fin grid0.N, win0_0.index t = ![t.val, 0] ∧ win0_1.index t = ![t.val, 0] ∧ win0_2.index t = ![t.val, 0])

/-- The other windows' blocks are the whole arrays. -/
theorem index_whole : ∀ t : Fin cfg0.N, win0_3.index t = ![0, 0] ∧ win0_4.index t = ![0, 0] ∧ win0_5.index t = ![0, 0, 0]
    ∧ win0_6.index t = ![0, 0, 0] ∧ win0_7.index t = ![0, 0, 0] ∧ win0_8.index t = ![0, 0] ∧ win0_9.index t = ![0, 0]
    ∧ win0_10.index t = ![0, 0] :=
  (by decide +kernel : ∀ t : Fin grid0.N, win0_3.index t = ![0, 0] ∧ win0_4.index t = ![0, 0] ∧ win0_5.index t = ![0, 0, 0]
    ∧ win0_6.index t = ![0, 0, 0] ∧ win0_7.index t = ![0, 0, 0] ∧ win0_8.index t = ![0, 0] ∧ win0_9.index t = ![0, 0]
    ∧ win0_10.index t = ![0, 0])

/-- A grid point's rows of the normalised input. -/
theorem hn_apply (t : Fin cfg0.N) (r : Fin 512) (k : Fin 1024) :
    (iblk m d 0 t : Vec Ideal S512x1024 .f32) (ix2 r k) = (args m d).hn (512 * t + r) k := by
  have hN := lt_of_lt_of_eq t.isLt (show cfg0.N = 64 from N_0)
  show _ = (m ((d : Thread nD τ).loc main_arg0) : S32768x1024.Idx → EReal) (ix2 ⟨(512 * t + r) % 32768, by omega⟩ ⟨k % 1024, by omega⟩)
  rw [← V_main_arg0 m d]
  blk_ext [iblk, (index_rows t).1]

/-- A grid point's rows of the convolved input. -/
theorem u_apply (t : Fin cfg0.N) (r : Fin 512) (k : Fin 1536) :
    (iblk m d 1 t : Vec Ideal S512x1536 .f32) (ix2 r k) = (args m d).u (512 * t + r) k := by
  have hN := lt_of_lt_of_eq t.isLt (show cfg0.N = 64 from N_0)
  show _ = (m ((d : Thread nD τ).loc main_arg1) : S32768x1536.Idx → EReal) (ix2 ⟨(512 * t + r) % 32768, by omega⟩ ⟨k % 1536, by omega⟩)
  rw [← V_main_arg1 m d]
  blk_ext [iblk, (index_rows t).2.1]

/-- A grid point's rows of the reverse recurrence. -/
theorem hb_apply (t : Fin cfg0.N) (r : Fin 512) (k : Fin 1536) :
    (iblk m d 2 t : Vec Ideal S512x1536 .f32) (ix2 r k) = (args m d).hb (512 * t + r) k := by
  have hN := lt_of_lt_of_eq t.isLt (show cfg0.N = 64 from N_0)
  show _ = (m ((d : Thread nD τ).loc main_arg2) : S32768x1536.Idx → EReal) (ix2 ⟨(512 * t + r) % 32768, by omega⟩ ⟨k % 1536, by omega⟩)
  rw [← V_main_arg2 m d]
  blk_ext [iblk, (index_rows t).2.2]

/-- Window 3's block is its array. -/
theorem whole3 (t : Fin cfg0.N) : (iblk m d 3 t : Vec Ideal S1024x2560 .bf16) = V m d main_v5 := by
  funext i
  blk_ext [iblk, (index_whole t).1]

/-- Window 4's block is its array. -/
theorem whole4 (t : Fin cfg0.N) : (iblk m d 4 t : Vec Ideal S1x2560 .f32) = V m d main_v9 := by
  funext i
  blk_ext [iblk, (index_whole t).2.1]

/-- Window 5's block is its array. -/
theorem whole5 (t : Fin cfg0.N) : (iblk m d 5 t : Vec Ideal S2x512x512 .bf16) = V m d main_v69 := by
  funext i
  blk_ext [iblk, (index_whole t).2.2.1]

/-- Window 6's block is its array. -/
theorem whole6 (t : Fin cfg0.N) : (iblk m d 6 t : Vec Ideal S2x768x512 .bf16) = V m d main_v75 := by
  funext i
  blk_ext [iblk, (index_whole t).2.2.2.1]

/-- Window 7's block is its array. -/
theorem whole7 (t : Fin cfg0.N) : (iblk m d 7 t : Vec Ideal S2x512x512 .bf16) = V m d main_v81 := by
  funext i
  blk_ext [iblk, (index_whole t).2.2.2.2.1]

/-- Window 8's block is its array. -/
theorem whole8 (t : Fin cfg0.N) : (iblk m d 8 t : Vec Ideal S2x1536 .f32) = V m d main_v84 := by
  funext i
  blk_ext [iblk, (index_whole t).2.2.2.2.2.1]

/-- Window 9's block is its array. -/
theorem whole9 (t : Fin cfg0.N) : (iblk m d 9 t : Vec Ideal S1x1536 .f32) = V m d main_v90 := by
  funext i
  blk_ext [iblk, (index_whole t).2.2.2.2.2.2.1]

/-- Window 10's block is its array. -/
theorem whole10 (t : Fin cfg0.N) : (iblk m d 10 t : Vec Ideal S1536x1024 .bf16) = V m d main_v92 := by
  funext i
  blk_ext [iblk, (index_whole t).2.2.2.2.2.2.2]

variable (hA : Finite (args m d))
include hA

/-- A grid point's gate parameters are the layer's. -/
theorem reads (t : Fin cfg0.N) :
    Reads (args m d) (params (iblk m d 5 t) (iblk m d 6 t) (iblk m d 7 t) (iblk m d 8 t) (iblk m d 9 t)) := by
  rw [whole5 m d t, whole6 m d t, whole7 m d t, whole8 m d t, whole9 m d t]
  refine ⟨fun g k j => ?_, fun g k j => ?_, fun g k j => ?_, fun g k j => ?_, fun g k j => ?_, fun g k j => ?_, fun c => ?_, fun c => ?_,
    fun c => ?_, fun c => hA.al c⟩
  all_goals
    unfold params
    dsimp only
    rw [View.ld_unit]
    pointwise
  · exact lo0_apply m d g k j
  · exact mid0_apply m d g k j
  · exact hi0_apply m d g k j
  · exact lo1_apply m d g k j
  · exact mid1_apply m d g k j
  · exact hi1_apply m d g k j
  · exact bg_apply m d 0 c
  · exact bg_apply m d 1 c
  · exact nhd_apply m d c

/-- A grid point's other blocks are the layer's arrays. -/
theorem tile (t : Fin cfg0.N) :
    Tile (args m d) t (iblk m d 0 t) (iblk m d 1 t) (iblk m d 2 t) (iblk m d 3 t) (iblk m d 4 t) (iblk m d 10 t) := by
  rw [whole3 m d t, whole4 m d t, whole10 m d t]
  exact ⟨hn_apply m d t, u_apply m d t, hb_apply m d t, wy_apply m d, wg_apply m d, cy_apply m d, cg_apply m d, wa_apply m d,
    fun r c => hA.proj r (1536 + c)⟩

/-- The carried state starts at the layer's. -/
theorem start_apply (b : Fin 8) (c : Fin 1536) : (k0_pay2 : FVec Ideal S8x1536 .f32) (ix2 b c) = state (args m d) b c (64 * 0) := by
  unfold k0_pay2
  pointwise
  simp [state]

/-- After grid point `n` the tile of the result holds the layer's rows `512 n` on, and the carried state the layer's after
    `64 (n + 1)` positions. -/
theorem after_apply : ∀ (n : ℕ) (h : n < cfg0.N),
    (∀ (r : Fin 512) (j : Fin 1024), (outsAt0 m d n h).1 (ix2 r j) = out (args m d) (512 * n + r) j)
      ∧ ∀ (b : Fin 8) (c : Fin 1536), (outsAt0 m d n h).2 (ix2 b c) = state (args m d) b c (64 * (n + 1))
  | 0, h => by
    rw [Value.outsAt0_zero, Value.stAt0_A m d ⟨0, h⟩ _ (Nat.zero_mod _)]
    dsimp only
    rw [out_A, sout_A]
    exact ⟨result_apply (reads m d hA _) (tile m d hA _) (start_apply m d hA), carry4_apply (reads m d hA _) (tile m d hA _) (start_apply m d hA)⟩
  | n + 1, h => by
    have hN := lt_of_lt_of_eq h (show cfg0.N = 64 from N_0)
    have ih := (after_apply n (Nat.lt_of_succ_lt h)).2
    rw [Value.outsAt0_succ, Value.stAt0_B m d ⟨n + 1, h⟩ _ (show ¬(n + 1) % 64 = 0 by omega)]
    dsimp only
    rw [out_B, sout_B]
    exact ⟨result_apply (reads m d hA _) (tile m d hA _) ih, carry4_apply (reads m d hA _) (tile m d hA _) ih⟩

/-- The kernel's result is the layer's. -/
theorem result_value (r : Fin 32768) (j : Fin 1024) : Value.G11 m d (ix2 r j) = out (args m d) r j := by
  have hN : cfg0.N = 64 := N_0
  have hp : Value.pt11Of (ix2 r j) = r / 512 := by
    show 1 * ((r : ℕ) / 512 - 0) + 1 * ((j : ℕ) / 1024 - 0) = r / 512
    omega
  have hlt : Value.pt11Of (ix2 r j) < cfg0.N := by rw [hp, hN]; omega
  unfold Value.G11
  rw [dif_pos hlt, ← Value.outsAt0_sweep m d _ hlt]
  have e : Value.loc11Of (ix2 r j) = ix2 ⟨r % 512, by omega⟩ j := by
    funext a
    fin_cases a
    · rfl
    · exact Fin.ext (show (j : ℕ) % 1024 = j by omega)
  rw [e, (after_apply m d hA _ hlt).1, hp]
  congr 1
  simp only []
  omega

end Cert.KernelIdeal.Result

end
-- ==== Proof.RefRun.lean ====
module

public import proofs.«01_k».proof.Proof.Gen.ReferenceIdeal.Run
public import proofs.«01_k».proof.Proof.Gen.ReferenceIdeal.Step

@[expose] public section

noncomputable section

/-! The reference's run as a sequence of states: the loop's carried buffers after `k` trips are `step` applied `k`
times to the state the operations before the loop leave. -/

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The buffers hold the state `s` at the start of trip `j`. -/
structure Holds : Prop where
  h : V0 (Proc.devRef .tc main_v44_3) = s.main_v44_3
  hs : V0 (Proc.devRef .tc main_v44_4) = s.main_v44_4
  a : V0 (Proc.devRef .tc main_v44_0) = s.main_v44_0
  bx : V0 (Proc.devRef .tc main_v44_1) = s.main_v44_1
  n : V0 (Proc.devRef .tc main_v44_2) = constantI S_ 32 (BitVec.ofNat 32 j)

variable {V0 s j}

set_option maxRecDepth 8192 in
/-- One trip's new recurrence state. -/
theorem trip_h (h : Holds V0 s j) : res_main_while0b_v90 V0 = Step.b9 j s := by
  unfold res_main_while0b_v90 Step.b9 Step.b8 Step.b7 Step.b6 Step.b5 Step.b4 Step.b3 Step.b2 Step.b1 Step.b0
  rw [h.h, h.a, h.bx, h.n]
  try rfl

/-- One trip steps the recurrence's state. -/
theorem step_h (h : Holds V0 s j) : step_main_v44_3 V0 = (step j s).main_v44_3 := by
  unfold step_main_v44_3 Step.step
  exact trip_h h

set_option maxRecDepth 8192 in
/-- One trip writes the new state into the sequence of states. -/
theorem step_hs (h : Holds V0 s j) : step_main_v44_4 V0 = (step j s).main_v44_4 := by
  unfold step_main_v44_4 Step.step Step.b13 Step.b12 Step.b11 Step.b10
  rw [← trip_h h, ← h.hs, ← h.n]
  rfl

/-- One trip counts on. -/
theorem step_n (h : Holds V0 s j) : step_main_v44_2 V0 = constantI S_ 32 (BitVec.ofNat 32 (j + 1)) := by
  unfold step_main_v44_2
  rw [h.n]
  funext i
  show BitVec.ofNat 32 j + 1#32 = BitVec.ofNat 32 (j + 1)
  simp only [BitVec.ofNat_add]

set_option maxRecDepth 8192 in
/-- The result, of the state after the last trip. -/
theorem result_holds (h : Holds V0 s j) {x_main_arg0 : (⟨S32768x1024, .f32⟩ : BufTy).Contents (Elt F)} (h_main_arg0 : V0 (Proc.devRef .tc main_arg0) = x_main_arg0) {x_main_arg2 : (⟨S32768x1536, .f32⟩ : BufTy).Contents (Elt F)} (h_main_arg2 : V0 (Proc.devRef .tc main_arg2) = x_main_arg2) {x_main_arg3 : (⟨S1x1024x7168, .f32⟩ : BufTy).Contents (Elt F)} (h_main_arg3 : V0 (Proc.devRef .tc main_arg3) = x_main_arg3) {x_main_arg4 : (⟨S1x7168, .f32⟩ : BufTy).Contents (Elt F)} (h_main_arg4 : V0 (Proc.devRef .tc main_arg4) = x_main_arg4) {x_main_arg8 : (⟨S1x1536x1024, .f32⟩ : BufTy).Contents (Elt F)} (h_main_arg8 : V0 (Proc.devRef .tc main_arg8) = x_main_arg8) : out_main_v86 V0 = Cert.ReferenceIdeal.Step.R_main_v86 s x_main_arg0 x_main_arg2 x_main_arg3 x_main_arg4 x_main_arg8 := by
  unfold out_main_v86 Cert.ReferenceIdeal.Step.R_main_v86
  rw [h.hs, h_main_arg0, h_main_arg2, h_main_arg3, h_main_arg4, h_main_arg8]
  try rfl

/-- One trip keeps the buffers holding the stepped state. -/
theorem holds_step (h : Holds V0 s j) : Holds (STEP V0) (step j s) (j + 1) where
  h := (STEP_main_v44_3 V0).trans (step_h h)
  hs := (STEP_main_v44_4 V0).trans (step_hs h)
  n := (STEP_main_v44_2 V0).trans (step_n h)
  a := (STEP_main_v44_0 V0).trans h.a
  bx := (STEP_main_v44_1 V0).trans h.bx

/-- The state the first trip starts from. -/
abbrev initState (m : (ℓ : Loc nD τ sig) → Buf (Elt F) ℓ) (c : Dev nD) : State F :=
  init (m ((c.tc : Thread nD τ).loc main_arg1)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 400000 in
/-- The operations before the loop leave the initial state. -/
theorem entry_holds : Holds (entryContents preI m c) (initState m c) 0 := by
  constructor <;> (simp only [entryContents, afterL_cons, afterL_nil]; after_reads_simp) <;> rfl

/-- Before trip `k` the buffers hold the `k`-th state of any sequence that starts at `initState` and goes on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- Every weakly fair run of the reference ends with the result of state 4096 of any sequence of states that starts at
    `initState` and goes on by `step`, and with every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v86) = Cert.ReferenceIdeal.Step.R_main_v86 (it c 4096) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 4096
    ⟨(h c).1.trans (result_holds hk (iter_main_arg0 m c 4096) (iter_main_arg2 m c 4096) (iter_main_arg3 m c 4096) (iter_main_arg4 m c 4096) (iter_main_arg8 m c 4096)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.ReferenceIdeal.RefRun

end
-- ==== Proof.RefValue.lean ====
module

public import proofs.«01_k».proof.Proof.Args
public import proofs.«01_k».proof.Proof.Gen.ReferenceIdeal.Step
public import Idealize.ShloMosaic.Lib.Pipeline.ValueKit

@[expose] public section

set_option maxRecDepth 16384

noncomputable section

/-! The reference's values over the extended reals are the layer's. -/

namespace Cert.ReferenceIdeal.Result

open Cert.ReferenceIdeal Cert.ReferenceIdeal.Gen Cert.ReferenceIdeal.Step Cert.Spec Idealize.ShloMosaic

variable (x0 : Vec Ideal S32768x1024 .f32) (x1 x2 : Vec Ideal S32768x1536 .f32) (x3 : Vec Ideal S1x1024x7168 .f32)
  (x4 : Vec Ideal S1x7168 .f32) (x5 : Vec Ideal S1x2x2x16x96x96 .f32) (x6 : Vec Ideal S1x2x2x16x96 .f32)
  (x7 : Vec Ideal S1x2x1536 .f32) (x8 : Vec Ideal S1x1536x1024 .f32)

/-- A gate is the logistic function of its logit. -/
theorem gate_apply (g : Fin 2) (b : Fin 8) (t : Fin 4096) (n : Fin 16) (o : Fin 96) (r c : ℕ) (hr : r = 8 * t + b) (hc : c = 96 * n + o) :
    A_main_v17 x1 x5 x6 x7 (ix5 g b t n o) = Scalar.sig (logit (arrays x0 x1 x2 x3 x4 x5 x6 x7 x8) g r c) := by
  subst hr hc
  unfold A_main_v17 K_main_v16 K_main_cst_0 A_main_v15 K_main_v14 K_main_cst A_main_v13 A_main_v12 A_main_v11 A_main_v10 A_main_v9 A_main_v8 A_main_v7
    A_main_v6 A_main_v5 A_main_v4 A_main_v3 A_main_v2 A_main_v1 A_main_v0
  pointwise
  have e1 : (⟨(g : ℕ) % 2, by omega⟩ : Fin 2) = g := Fin.ext (by simp only []; omega)
  have e2 : (⟨(96 * (n : ℕ) + o) / 96 % 16, by omega⟩ : Fin 16) = n := Fin.ext (by simp only []; omega)
  have e3 : (⟨(96 * (n : ℕ) + o) % 96, by omega⟩ : Fin 96) = o := Fin.ext (by simp only []; omega)
  have e4 : ∀ x : Fin 96, (⟨(x : ℕ) % 96, by omega⟩ : Fin 96) = x := fun x => Fin.ext (by simp only []; omega)
  have e5 : (⟨(8 * (t : ℕ) + b) % 32768, by omega⟩ : Fin 32768) = ⟨t * 8 + b, by omega⟩ := Fin.ext (by simp only []; omega)
  have e6 : ∀ x : Fin 96, (⟨(96 * ((96 * (n : ℕ) + o) / 96) + x) % 1536, by omega⟩ : Fin 1536) = ⟨n * 96 + x, by omega⟩ :=
    fun x => Fin.ext (by simp only []; omega)
  simp only [Scalar.sig, logit, arrays, e1, e2, e3, e4, e5, e6]
  congr 5
  exact Finset.sum_congr rfl fun x _ => mul_comm (G := EReal) _ _

/-- The logarithm of the decay. -/
theorem log_apply (b : Fin 8) (t : Fin 4096) (c : Fin 1536) :
    A_main_v31 x1 x5 x6 x7 (ix3 b t c) = logd (arrays x0 x1 x2 x3 x4 x5 x6 x7 x8) (8 * t + b) c := by
  unfold A_main_v31 A_main_v30 A_main_v29 A_main_v28 A_main_call0_v11 A_main_call0_v10 A_main_call0_v9 A_main_call0_v8 A_main_call0_v7
    A_main_call0_v6 A_main_call0_v4 A_main_call0_v3 A_main_call0_v1 A_main_v27 A_main_v26 A_main_v25 A_main_v24 K_main_v23 K_main_cst_1
    A_main_v20 A_main_v19 A_main_v18 K_main_call0_v0 K_main_call0_v2 K_main_call0_v5 K_main_call0_cst
  pointwise
  rw [if_neg (by simp), Scalar.neg_eight_bits, gate_apply x0 x1 x2 x3 x4 x5 x6 x7 x8 0 b t _ _ (8 * t + b) c rfl (by simp only []; omega), logd]
  simp only [arrays, Nat.mod_eq_of_lt c.isLt, Scalar.softplus, sub_zero]
  rfl

/-- The decay, position by position. -/
theorem decay_apply (t : Fin 4096) (b : Fin 8) (c : Fin 1536) :
    A_main_v41 x1 x5 x6 x7 (ix3 t b c) = Ideal.exp (logd (arrays x0 x1 x2 x3 x4 x5 x6 x7 x8) (8 * t + b) c) := by
  unfold A_main_v41 A_main_v32
  pointwise
  rw [log_apply x0 x1 x2 x3 x4 x5 x6 x7 x8]

/-- The recurrence's input, position by position. -/
theorem inp_apply (t : Fin 4096) (b : Fin 8) (c : Fin 1536) :
    A_main_v42 x1 x5 x6 x7 (ix3 t b c) = inp (arrays x0 x1 x2 x3 x4 x5 x6 x7 x8) (8 * t + b) c := by
  unfold A_main_v42 A_main_v39 A_main_v38 A_main_v37 A_main_v36 A_main_v35 A_main_v34 K_main_v33 K_main_cst_2 A_main_v22 A_main_v21 A_main_v18 A_main_v1 A_main_v0
  pointwise
  rw [Scalar.two_bits, log_apply x0 x1 x2 x3 x4 x5 x6 x7 x8,
    gate_apply x0 x1 x2 x3 x4 x5 x6 x7 x8 1 b t _ _ (8 * t + b) c rfl (by simp only []; omega), inp]
  have e : (⟨(8 * (t : ℕ) + b) % 32768, by omega⟩ : Fin 32768) = ⟨t * 8 + b, by omega⟩ := Fin.ext (by simp only []; omega)
  simp only [arrays, Nat.mod_eq_of_lt c.isLt, e]
  rfl

/-- The states of the loop: from the initial one, trip by trip. -/
def iter : ℕ → State Ideal
  | 0 => init x1 x5 x6 x7
  | k + 1 => step k (iter k)

/-- What the loop's state holds before trip `k`. -/
structure Holds (k : ℕ) (s : State Ideal) : Prop where
  h : ∀ (b : Fin 8) (c : Fin 1536), s.main_v44_3 (ix2 b c) = state (arrays x0 x1 x2 x3 x4 x5 x6 x7 x8) b c k
  hs : ∀ (t : Fin 4096) (b : Fin 8) (c : Fin 1536), (t : ℕ) < k →
    s.main_v44_4 (ix3 t b c) = state (arrays x0 x1 x2 x3 x4 x5 x6 x7 x8) b c (t + 1)
  a : s.main_v44_0 = A_main_v41 x1 x5 x6 x7
  bx : s.main_v44_1 = A_main_v42 x1 x5 x6 x7

/-- The loop's counter, read as a signed word. -/
theorem counter (k : ℕ) (hk : k < 4096) : (BitVec.ofNat 32 k).toInt = k := by
  rw [BitVec.toInt_ofNat']
  exact Int.bmod_eq_of_le (by omega) (by omega)

/-- Where trip `k` starts its row: at position `k` … -/
theorem start_t (k : ℕ) (hk : k < 4096) (h) :
    Host.clampedStart S4096x8x1536 S1x8x1536 h (fun a => BitVec.toInt ((![constantI S_ 32 (BitVec.ofNat 32 k), constantI S_ 32 0#32, constantI S_ 32 0#32] : Fin 3 → IVec S_ 32) a
      (Shape.Idx.first h_S_))) 0 = k :=
  Host.clampedStart_of_le h _ 0 k (counter k hk) (by show k + 1 ≤ 4096; omega)

/-- … the first sequence … -/
theorem start_b (k : ℕ) (h) :
    Host.clampedStart S4096x8x1536 S1x8x1536 h (fun a => BitVec.toInt ((![constantI S_ 32 (BitVec.ofNat 32 k), constantI S_ 32 0#32, constantI S_ 32 0#32] : Fin 3 → IVec S_ 32) a
      (Shape.Idx.first h_S_))) 1 = 0 :=
  Host.clampedStart_of_le h _ 1 0 rfl (by show 0 + 8 ≤ 8; omega)

/-- … and the first channel. -/
theorem start_c (k : ℕ) (h) :
    Host.clampedStart S4096x8x1536 S1x8x1536 h (fun a => BitVec.toInt ((![constantI S_ 32 (BitVec.ofNat 32 k), constantI S_ 32 0#32, constantI S_ 32 0#32] : Fin 3 → IVec S_ 32) a
      (Shape.Idx.first h_S_))) 2 = 0 :=
  Host.clampedStart_of_le h _ 2 0 rfl (by show 0 + 1536 ≤ 1536; omega)

/-- Trip `k` makes the state after position `k`. -/
theorem trip (k : ℕ) (hk : k < 4096) (s : State Ideal) (H : Holds x0 x1 x2 x3 x4 x5 x6 x7 x8 k s) (b : Fin 8) (c : Fin 1536) :
    b9 k s (ix2 b c) = state (arrays x0 x1 x2 x3 x4 x5 x6 x7 x8) b c (k + 1) := by
  unfold b9 b8 b7 b6 b5 b4 b3 b2 b1 b0
  pointwise
  simp only [start_t k hk, start_b, start_c, zero_add]
  rw [H.a, H.bx, H.h, show (⟨k, by omega⟩ : Fin 4096) = (⟨k, hk⟩ : Fin 4096) from rfl, decay_apply x0 x1 x2 x3 x4 x5 x6 x7 x8,
    inp_apply x0 x1 x2 x3 x4 x5 x6 x7 x8]
  rfl

/-- Trip `k` writes its state at position `k` and keeps the other positions'. -/
theorem kept (k : ℕ) (hk : k < 4096) (s : State Ideal) (t : Fin 4096) (b : Fin 8) (c : Fin 1536) :
    b13 k s (ix3 t b c) = if (t : ℕ) = k then b9 k s (ix2 b c) else s.main_v44_4 (ix3 t b c) := by
  unfold b13 b12 b11 b10
  pointwise
  simp only [start_t k hk, start_b, start_c, Nat.sub_zero]
  by_cases h : (t : ℕ) = k
  · rw [dif_pos (by omega), if_pos h]
  · rw [dif_neg (by omega), if_neg h]

/-- Before trip `k` the loop holds what it should. -/
theorem holds : ∀ k ≤ 4096, Holds x0 x1 x2 x3 x4 x5 x6 x7 x8 k (iter x1 x5 x6 x7 k)
  | 0, _ => by
    refine ⟨fun b c => ?_, fun t b c h => absurd h (Nat.not_lt_zero _), rfl, rfl⟩
    show K_main_v40 (F := Ideal) (ix2 b c) = _
    unfold K_main_v40 K_main_cst_3
    pointwise
    simp [state]
  | k + 1, hk => by
    have H := holds k (by omega)
    have ht := trip x0 x1 x2 x3 x4 x5 x6 x7 x8 k (by omega) _ H
    refine ⟨fun b c => ?_, fun t b c h => ?_, H.a, H.bx⟩
    · show (step k (iter x1 x5 x6 x7 k)).main_v44_3 (ix2 b c) = _
      rw [step_main_v44_3, ht]
    · show (step k (iter x1 x5 x6 x7 k)).main_v44_4 (ix3 t b c) = _
      rw [step_main_v44_4, kept k (by omega)]
      by_cases e : (t : ℕ) = k
      · rw [if_pos e, ht, e]
      · rw [if_neg e, H.hs t b c (by omega)]

/-- The result, of a state that holds every position's. -/
theorem out_apply (s : State Ideal) (H : Holds x0 x1 x2 x3 x4 x5 x6 x7 x8 4096 s) (r : Fin 32768) (j : Fin 1024) :
    R_main_v86 s x0 x2 x3 x4 x8 (ix2 r j) = out (arrays x0 x1 x2 x3 x4 x5 x6 x7 x8) r j := by
  unfold R_main_v86
  pointwise
  have e1 : (⟨(r : ℕ) % 32768, by omega⟩ : Fin 32768) = r := Fin.ext (by simp only []; omega)
  have e2 : (⟨(j : ℕ) % 1024, by omega⟩ : Fin 1024) = j := Fin.ext (by simp only []; omega)
  have e3 : ∀ x : Fin 1024, (⟨(x : ℕ) % 1024, by omega⟩ : Fin 1024) = x := fun x => Fin.ext (by simp only []; omega)
  have e4 : ∀ x : Fin 1536, (⟨(x : ℕ) % 1536, by omega⟩ : Fin 1536) = x := fun x => Fin.ext (by simp only []; omega)
  have e5 : ∀ x : Fin 1536, (⟨(1536 + (x : ℕ)) % 7168, by omega⟩ : Fin 7168) = ⟨1536 + x, by omega⟩ := fun x => Fin.ext (by simp only []; omega)
  have e6 : ∀ x : Fin 1024, (⟨(5120 + (x : ℕ)) % 7168, by omega⟩ : Fin 7168) = ⟨5120 + x, by omega⟩ := fun x => Fin.ext (by simp only []; omega)
  have hp : ∀ x : Fin 1536, (∑ k : Fin 1024, x0 (ix2 r k) * x3 (ix3 0 k ⟨1536 + x, by omega⟩)) + x4 (ix2 0 ⟨1536 + x, by omega⟩)
      = proj (arrays x0 x1 x2 x3 x4 x5 x6 x7 x8) r (1536 + x) := by
    intro x
    simp only [proj, arrays, e1, e3, e5]
  simp only [hp, Scalar.half_bits, Scalar.root_bits, Scalar.cubic_bits, out, z, Scalar.gelu]
  congr 1
  · simp only [Scalar.sig, proj, arrays, e1, e3, e6]
  · refine Finset.sum_congr rfl fun x _ => ?_
    rw [H.hs _ _ _ (by simp only []; omega)]
    simp only [arrays, e1, e2, e4]

end Cert.ReferenceIdeal.Result

end
-- ==== Proof.Pre.lean ====
module

public import proofs.«01_k».proof.Proof.Args
public import proofs.«01_k».proof.Proof.Gen.Pre_finite
public import Idealize.ShloMosaic.Lib.ReduceAll
public import Idealize.ShloMosaic.Lib.PointwiseCore
public import Idealize.ShloMosaic.Lib.Pipeline.ValueKit

@[expose] public section

noncomputable section

/-! What the precondition says: the hidden states, the input projection and its bias and the gates' parameter are real numbers. -/

namespace Cert.Pre_finite

open Idealize.ShloMosaic Cert.Spec
open Facts

/-- An extended real of finite absolute value is a real number. -/
theorem real_of_abs (x : EReal) (h : Ideal.cmp .olt (max x (-x)) (Ideal.ofBits .f32 0x7F800000#32) = 1) : ∃ r : ℝ, x = (r : EReal) := by
  rw [Ideal.cmp_olt_eq_one, show Ideal.ofBits .f32 0x7F800000#32 = (⊤ : EReal) from by simp [Ideal.ofBits, Ideal.ieee]] at h
  induction x using EReal.rec with
  | bot => simp at h
  | coe r => exact ⟨r, rfl⟩
  | top => simp at h

variable (x0 : FVec Ideal S32768x1024 .f32) (x1 x2 : FVec Ideal S32768x1536 .f32) (x3 : FVec Ideal S1x1024x7168 .f32) (x4 : FVec Ideal S1x7168 .f32)
  (x5 : FVec Ideal S1x2x2x16x96x96 .f32) (x6 : FVec Ideal S1x2x2x16x96 .f32) (x7 : FVec Ideal S1x2x1536 .f32) (x8 : FVec Ideal S1x1536x1024 .f32)

instance : Subsingleton S_.Idx := ⟨fun a b => funext fun i => i.elim0⟩

/-- The precondition, read back. -/
theorem finite (h : fn (F := Ideal) x0 x1 x2 x3 x4 x5 x6 x7 x8 = fun _ => 1#1) : Finite (arrays x0 x1 x2 x3 x4 x5 x6 x7 x8) := by
  have h0 := congrFun h (Shape.Idx.first h_S_)
  unfold fn fn_part1 at h0
  obtain ⟨h0, h7⟩ := IntOp.andi_eq_one.1 h0
  obtain ⟨h0, h4⟩ := IntOp.andi_eq_one.1 h0
  obtain ⟨h0, h3⟩ := IntOp.andi_eq_one.1 h0
  exact ⟨fun r k => real_of_abs _ (Host.reduce_andi_all _ _ _ _ _ h0 _), fun k j => real_of_abs _ (Host.reduce_andi_all _ _ _ _ _ h3 _),
    fun j => real_of_abs _ (Host.reduce_andi_all _ _ _ _ _ h4 _), fun c => real_of_abs _ (Host.reduce_andi_all _ _ _ _ _ h7 _)⟩

end Cert.Pre_finite

end
-- ==== Proof.lean ====
module

public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.MlpFrame
public import proofs.«01_k».proof.Proof.MlpValue
public import proofs.«01_k».proof.Proof.MlpRef
public import proofs.«01_k».proof.Proof.MixValue
public import proofs.«01_k».proof.Proof.MixRef
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import proofs.«01_k».proof.Proof.Gen.KernelIdeal.Value
public import proofs.«01_k».proof.Proof.KernelValue
public import proofs.«01_k».proof.Proof.RefRun
public import proofs.«01_k».proof.Proof.RefValue
public import proofs.«01_k».proof.Proof.Pre
public import Idealize.ShloMosaic.Lib.Quiescent
public import proofs.«01_k».proof.Proof.Gen.ReferenceIdeal.Step

@[expose] public section

noncomputable section

namespace Cert.Proof

open Idealize.ShloMosaic Idealize.SL.Sem Cert.Kernel

/-- The kernel as it is: its fair runs end, with the arguments as they were and every semaphore at zero. -/
theorem frame_kernel : Cert.quiescent_Kernel := fun m ρ _ => Cert.Kernel.Gen.frame m ρ

/-- The same of the idealized kernel. -/
theorem frame_ideal : Cert.quiescent_KernelIdeal := fun m ρ _ => Cert.KernelIdeal.Gen.frame m ρ

/-- The reference's fair runs end with its result that of the states its recurrence goes through, and the arguments as they were. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v86)
        = Cert.ReferenceIdeal.Step.R_main_v86 (Cert.ReferenceIdeal.Result.iter (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) 4096) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8) :=
  Cert.ReferenceIdeal.RefRun.run_iter (F := Ideal) m ρ (fun c => Cert.ReferenceIdeal.Result.iter (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) (fun _ => rfl) (fun _ _ => rfl)

/-- The reference: its fair runs end, with the arguments as they were; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩) (run_reference m ρ)

/-- The two constants that the idealized kernel names. -/
theorem preserves : Cert.preserves_Kernel_KernelIdeal :=
  ⟨IdealRules.named_const.statement Cert.KernelIdeal.κ "no_floor" .f32 0x00800000#32 _ rfl,
    IdealRules.named_const.statement Cert.KernelIdeal.κ "gelu_cubic" .f32 0x3D122279#32 _ rfl⟩

/-- The idealized kernel and the reference end with equal results. -/
theorem algebraic : Cert.algebraic_KernelIdeal_ReferenceIdeal_pre_finite := by
  intro m g m' g' hpre hargs
  refine ⟨fun c => Cert.KernelIdeal.Value.G11 m c, Cert.KernelIdeal.Value.run m g, ?_⟩
  refine (θ_run Cert.ReferenceIdeal.defs _ _).mono (fun r h c => ⟨(h c).1.trans ?_, (h c).2⟩) (run_reference m' g')
  have hA := Cert.Pre_finite.finite _ _ _ _ _ _ _ _ _ (hpre c)
  obtain ⟨e0, e1, e2, e3, e4, e5, e6, e7, e8⟩ := hargs c
  rw [e0, e1, e2, e3, e4, e5, e6, e7, e8]
  funext i
  rw [eq_ix2 i]
  exact (Cert.ReferenceIdeal.Result.out_apply _ _ _ _ _ _ _ _ _ _ (Cert.ReferenceIdeal.Result.holds _ _ _ _ _ _ _ _ _ 4096 le_rfl) _ _).trans
    (Cert.KernelIdeal.Result.result_value m c hA _ _).symm

/-- The second kernel as it is: its fair runs end, with the arguments as they were and every semaphore at zero. -/
theorem frame_kernel2 : Cert.quiescent_Kernel2 := fun m ρ _ => Cert.Kernel2.Gen.frame m ρ

/-- The same of the second idealized kernel. -/
theorem frame_ideal2 : Cert.quiescent_Kernel2Ideal := fun m ρ _ => Cert.Kernel2Ideal.Gen.frame m ρ

/-- The second reference: its fair runs end, with the arguments as they were; it declares no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The second idealized kernel is the second kernel, with no constant named. -/
theorem preserves2 : Cert.preserves_Kernel2_Kernel2Ideal := trivial

/-- The second idealized kernel and the second reference end with equal results. -/
theorem algebraic2 : Cert.algebraic_Kernel2Ideal_Reference2Ideal := by
  intro m g m' g' _ hargs
  refine ⟨fun c => Cert.Kernel2Ideal.Mlp.result m c, ?_, ?_⟩
  · exact (θ_run Cert.Kernel2Ideal.defs _ _).mono (fun r h c => ⟨h.1 c, h.2 c⟩)
      (θ_run_and (Cert.Kernel2Ideal.Mlp.run_value m g) (Cert.Kernel2Ideal.Gen.unchanged m g))
  · refine (θ_run Cert.Reference2Ideal.defs _ _).mono (fun r h c => ⟨(h c).1.trans ?_, (h c).2⟩) (Cert.Reference2Ideal.Value.run m' g')
    obtain ⟨e0, e1, e2, e3, e4, e5, e6⟩ := hargs c
    funext i
    rw [eq_ix3 i]
    refine (Cert.Reference2Ideal.Result.result_apply m' c _ _ _).trans ?_
    rw [e0, e1, e2, e3, e4, e5, e6]
    exact (Cert.Kernel2Ideal.Result.result_apply m c _ _ _).symm

/-- The third kernel as it is: its fair runs end, with the arguments as they were and every semaphore at zero. -/
theorem frame_kernel3 : Cert.quiescent_Kernel3 := fun m ρ _ => Cert.Kernel3.Gen.frame m ρ

/-- The same of the third idealized kernel. -/
theorem frame_ideal3 : Cert.quiescent_Kernel3Ideal := fun m ρ _ => Cert.Kernel3Ideal.Gen.frame m ρ

/-- The third reference: its fair runs end, with the arguments as they were; it declares no semaphore. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The third idealized kernel is the third kernel, with no constant named. -/
theorem preserves3 : Cert.preserves_Kernel3_Kernel3Ideal := trivial

/-- Equal arrays give the same layer. -/
theorem layer3_congr {a0 b0 : Cert.Kernel3Ideal.S8x32768x128.Idx → EReal} {a1 b1 : Cert.Kernel3Ideal.S32768x1024.Idx → EReal} {a2 b2 : Cert.Kernel3Ideal.S32768x1024.Idx → EReal} {a3 b3 : Cert.Kernel3Ideal.S1x1024x7168.Idx → EReal} {a4 b4 : Cert.Kernel3Ideal.S1x7168.Idx → EReal} {a5 b5 : Cert.Kernel3Ideal.S1x31x1024.Idx → EReal} {a6 b6 : Cert.Kernel3Ideal.S1x1024.Idx → EReal} {a7 b7 : Cert.Kernel3Ideal.S1x1024.Idx → EReal} {a8 b8 : Cert.Kernel3Ideal.S1x1024.Idx → EReal} {a9 b9 : Cert.Kernel3Ideal.S1x1024x1024.Idx → EReal} {a10 b10 : Cert.Kernel3Ideal.S1x1024x1024.Idx → EReal} {a11 b11 : Cert.Kernel3Ideal.S1x1024.Idx → EReal} {a12 b12 : Cert.Kernel3Ideal.S1x1024.Idx → EReal} {a13 b13 : Cert.Kernel3Ideal.S1x1024.Idx → EReal}
    (e0 : a0 = b0) (e1 : a1 = b1) (e2 : a2 = b2) (e3 : a3 = b3) (e4 : a4 = b4) (e5 : a5 = b5) (e6 : a6 = b6) (e7 : a7 = b7) (e8 : a8 = b8) (e9 : a9 = b9) (e10 : a10 = b10) (e11 : a11 = b11) (e12 : a12 = b12) (e13 : a13 = b13) (R : Fin 32768) (j : Fin 1024) :
    MixSpec.layer (fun l R c => a0 (ix3 l R c)) (fun R k => a1 (ix2 R k)) (fun R k => a2 (ix2 R k)) (fun i k => a3 (ix3 0 i k)) (fun k => a4 (ix2 0 k))
      (fun j i => a5 (ix3 0 j i)) (fun k => a6 (ix2 0 k)) (fun k => a7 (ix2 0 k)) (fun k => a8 (ix2 0 k)) (fun i k => a9 (ix3 0 i k)) (fun i k => a10 (ix3 0 i k))
      (fun k => a11 (ix2 0 k)) (fun k => a12 (ix2 0 k)) (fun k => a13 (ix2 0 k)) R j
    = MixSpec.layer (fun l R c => b0 (ix3 l R c)) (fun R k => b1 (ix2 R k)) (fun R k => b2 (ix2 R k)) (fun i k => b3 (ix3 0 i k)) (fun k => b4 (ix2 0 k))
      (fun j i => b5 (ix3 0 j i)) (fun k => b6 (ix2 0 k)) (fun k => b7 (ix2 0 k)) (fun k => b8 (ix2 0 k)) (fun i k => b9 (ix3 0 i k)) (fun i k => b10 (ix3 0 i k))
      (fun k => b11 (ix2 0 k)) (fun k => b12 (ix2 0 k)) (fun k => b13 (ix2 0 k)) R j := by
  subst e0 e1 e2 e3 e4 e5 e6 e7 e8 e9 e10 e11 e12 e13
  rfl

/-- The third idealized kernel and the third reference end with equal results. -/
theorem algebraic3 : Cert.algebraic_Kernel3Ideal_Reference3Ideal := by
  intro m g m' g' _ hargs
  refine ⟨fun c => (Cert.Kernel3Ideal.Gen.dats m 0 c).arrAt 16 Cert.Kernel3Ideal.cfg0.N, Cert.Kernel3Ideal.Value.run_blocks m g, ?_⟩
  refine (θ_run Cert.Reference3Ideal.defs _ _).mono (fun r h c => ⟨(h c).1.trans ((Cert.Reference3Ideal.Result.result_eq _).trans ?_), (h c).2⟩)
    (Cert.Reference3Ideal.Value.run m' g')
  obtain ⟨e0, e1, e2, e3, e4, e5, e6, e7, e8, e9, e10, e11, e12, e13⟩ := hargs c
  funext i
  rw [eq_ix2 i]
  refine (Cert.Reference3Ideal.Result.result_apply _ _ _).trans (Eq.trans ?_ (Cert.Kernel3Ideal.Result.result_value m c _ _).symm)
  exact layer3_congr e0 e1 e2 e3 e4 e5 e6 e7 e8 e9 e10 e11 e12 e13 _ _

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Pre_finite.Gen.facts, frame_kernel, frame_ideal,
  fun m ρ _ => frame_ideal m ρ trivial, frame_reference, fun m ρ _ => frame_reference m ρ trivial, frame_kernel2, frame_ideal2, frame_reference2,
  frame_kernel3, frame_ideal3, frame_reference3, preserves, algebraic, preserves2, algebraic2, preserves3, algebraic3⟩

end Cert.Proof

end
